-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_weights [hPre_finite_weights : Cert.Pre_finite_weights.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_weights.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_weights [hPre_finite_weights : Cert.Pre_finite_weights.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_weights.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite_weights [hKernel6Ideal : Cert.Kernel6Ideal.Facts] [hPre_finite_weights : Cert.Pre_finite_weights.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_weights m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite_weights [hReference6Ideal : Cert.Reference6Ideal.Facts] [hPre_finite_weights : Cert.Pre_finite_weights.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_weights m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal_pre_finite_weights [hKernel6Ideal : Cert.Kernel6Ideal.Facts] [hReference6Ideal : Cert.Reference6Ideal.Facts] [hPre_finite_weights : Cert.Pre_finite_weights.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_weights m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v83)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v83) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v150) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_weights : Cert.Pre_finite_weights.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_weights (hKernel6Ideal := hKernel6Ideal) (hPre_finite_weights := hPre_finite_weights)
    ∧ quiescent_Reference6Ideal (hReference6Ideal := hReference6Ideal)
    ∧ quiescent_Reference6Ideal_pre_finite_weights (hReference6Ideal := hReference6Ideal) (hPre_finite_weights := hPre_finite_weights)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_weights (hKernel6Ideal := hKernel6Ideal) (hReference6Ideal := hReference6Ideal) (hPre_finite_weights := hPre_finite_weights)
-- ==== Pre_finite_weights.lean ====
abbrev S32768x2048 : Shape := ⟨2, ![32768, 2048]⟩
abbrev S2048 : Shape := ⟨1, ![2048]⟩
abbrev S2x2048x7456 : Shape := ⟨3, ![2, 2048, 7456]⟩
abbrev S1x2048x3072 : Shape := ⟨3, ![1, 2048, 3072]⟩
abbrev S2048x3072 : Shape := ⟨2, ![2048, 3072]⟩
abbrev S_ : Shape := ⟨0, ![]⟩
abbrev S2048x1 : Shape := ⟨2, ![2048, 1]⟩

class Facts : Prop where
  slices_S2x2048x7456_S1x2048x3072_1_0_0 : S2x2048x7456.Slices ![1, 0, 0] S1x2048x3072
  shapeCasts_S1x2048x3072_S2048x3072 : S1x2048x3072.ShapeCasts S2048x3072
  bcast_S_S2048x3072 : S_.BroadcastsInDim S2048x3072 (![] : Fin 0 → Fin S2048x3072.rank)
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x3072_0_1 : S2048x1.BroadcastsInDim S2048x3072 (![0, 1] : Fin 2 → Fin S2048x3072.rank)

variable [Facts]

def fn {F : FTy → Type} [FloatOps F] (main_arg0 : FVec F S32768x2048 .f32) (main_arg1 : FVec F S2048 .f32) (main_arg2 : FVec F S2x2048x7456 .f32) : IVec S2048x3072 1 :=
  let main_v0 : FVec F S1x2048x3072 .f32 := (extractStridedSlice S1x2048x3072 ![1, 0, 0] · slices_S2x2048x7456_S1x2048x3072_1_0_0) main_arg2
  let main_v1 : FVec F S2048x3072 .f32 := shapeCast S2048x3072 main_v0 shapeCasts_S1x2048x3072_S2048x3072
  let main_v2 : FVec F S2048x3072 .f32 := Host.absf main_v1
  let main_cst : FVec F S_ .f32 := constant S_ .f32 0x7F800000#32
  let main_v3 : FVec F S2048x3072 .f32 := broadcastInDim S2048x3072 ![] bcast_S_S2048x3072 main_cst
  let main_v4 : IVec S2048x3072 1 := cmpf .olt main_v2 main_v3
  let main_v5 : FVec F S2048 .f32 := Host.absf main_arg1
  let main_cst_0 : FVec F S_ .f32 := constant S_ .f32 0x7F800000#32
  let main_v6 : FVec F S2048 .f32 := broadcastInDim S2048 ![] bcast_S_S2048 main_cst_0
  let main_v7 : IVec S2048 1 := cmpf .olt main_v5 main_v6
  let main_v8 : IVec S2048x1 1 := broadcastInDim S2048x1 ![0] bcast_S2048_S2048x1_0 main_v7
  let main_v9 : IVec S2048x3072 1 := broadcastInDim S2048x3072 ![0, 1] bcast_S2048x1_S2048x3072_0_1 main_v8
  let main_v10 : IVec S2048x3072 1 := andi main_v4 main_v9
  main_v10
-- ==== Kernel.lean ====
abbrev S32768x2048 : Shape := ⟨2, ![32768, 2048]⟩
abbrev S2048 : Shape := ⟨1, ![2048]⟩
abbrev S2x2048x4096 : Shape := ⟨3, ![2, 2048, 4096]⟩
abbrev S4x2048 : Shape := ⟨2, ![4, 2048]⟩
abbrev S8x256x256 : Shape := ⟨3, ![8, 256, 256]⟩
abbrev S1x2048 : Shape := ⟨2, ![1, 2048]⟩
abbrev S256x2048 : Shape := ⟨2, ![256, 2048]⟩
abbrev S1x2048x4096 : Shape := ⟨3, ![1, 2048, 4096]⟩
abbrev S8x2048 : Shape := ⟨2, ![8, 2048]⟩
abbrev S256 : Shape := ⟨1, ![256]⟩
abbrev S256x1 : Shape := ⟨2, ![256, 1]⟩
abbrev S8x256 : Shape := ⟨2, ![8, 256]⟩
abbrev S1x256 : Shape := ⟨2, ![1, 256]⟩
abbrev S256x256 : Shape := ⟨2, ![256, 256]⟩
abbrev S4x256 : Shape := ⟨2, ![4, 256]⟩
abbrev S1x256x256 : Shape := ⟨3, ![1, 256, 256]⟩
abbrev S264x256 : Shape := ⟨2, ![264, 256]⟩
abbrev S1x2048x256 : Shape := ⟨3, ![1, 2048, 256]⟩
abbrev S2048x256 : Shape := ⟨2, ![2048, 256]⟩
abbrev S32x8x256 : Shape := ⟨3, ![32, 8, 256]⟩
abbrev S1x8x1 : Shape := ⟨3, ![1, 8, 1]⟩
abbrev S1x8x256 : Shape := ⟨3, ![1, 8, 256]⟩

abbrev nBuf : Space → Nat
  | .hbm => 19
  | .vmem => 18
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2x2048x4096, .f32⟩
  | .hbm, ⟨3, _⟩ => ⟨S4x2048, .f32⟩
  | .hbm, ⟨4, _⟩ => ⟨S2048, .f32⟩
  | .hbm, ⟨5, _⟩ => ⟨S8x256x256, .f32⟩
  | .hbm, ⟨6, _⟩ => ⟨S2048, .f32⟩
  | .hbm, ⟨7, _⟩ => ⟨S8x256x256, .f32⟩
  | .hbm, ⟨8, _⟩ => ⟨S2048, .f32⟩
  | .hbm, ⟨9, _⟩ => ⟨S2048, .f32⟩
  | .hbm, ⟨10, _⟩ => ⟨S2x2048x4096, .bf16⟩
  | .hbm, ⟨11, _⟩ => ⟨S1x2048, .f32⟩
  | .hbm, ⟨12, _⟩ => ⟨S1x2048, .f32⟩
  | .hbm, ⟨13, _⟩ => ⟨S8x256x256, .bf16⟩
  | .hbm, ⟨14, _⟩ => ⟨S1x2048, .f32⟩
  | .hbm, ⟨15, _⟩ => ⟨S8x256x256, .bf16⟩
  | .hbm, ⟨16, _⟩ => ⟨S1x2048, .f32⟩
  | .hbm, ⟨17, _⟩ => ⟨S1x2048, .f32⟩
  | .hbm, ⟨18, _⟩ => ⟨S32768x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048x4096, .bf16⟩
  | .local _ .vmem, ⟨4, _⟩ => ⟨S4x2048, .f32⟩
  | .local _ .vmem, ⟨5, _⟩ => ⟨S1x2048, .f32⟩
  | .local _ .vmem, ⟨6, _⟩ => ⟨S8x256x256, .bf16⟩
  | .local _ .vmem, ⟨7, _⟩ => ⟨S1x2048, .f32⟩
  | .local _ .vmem, ⟨8, _⟩ => ⟨S8x256x256, .bf16⟩
  | .local _ .vmem, ⟨9, _⟩ => ⟨S1x2048, .f32⟩
  | .local _ .vmem, ⟨10, _⟩ => ⟨S1x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .f32⟩
  | .local _ .vmem, ⟨15, _⟩ => ⟨S256x2048, .f32⟩
  | .local _ .vmem, ⟨16, _⟩ => ⟨S8x2048, .f32⟩
  | .local _ .vmem, ⟨17, _⟩ => ⟨S1x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![129], ![false]⟩

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S32768x2048 : Shape := ⟨2, ![32768, 2048]⟩
abbrev S2048 : Shape := ⟨1, ![2048]⟩
abbrev S2x2048x4096 : Shape := ⟨3, ![2, 2048, 4096]⟩
abbrev S4x2048 : Shape := ⟨2, ![4, 2048]⟩
abbrev S8x256x256 : Shape := ⟨3, ![8, 256, 256]⟩
abbrev S4x8192x2048 : Shape := ⟨3, ![4, 8192, 2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S1x2048x4096 : Shape := ⟨3, ![1, 2048, 4096]⟩
abbrev S2048x4096 : Shape := ⟨2, ![2048, 4096]⟩
abbrev S4x8192x4096 : Shape := ⟨3, ![4, 8192, 4096]⟩
abbrev S4x8195x2048 : Shape := ⟨3, ![4, 8195, 2048]⟩
abbrev S1x2048 : Shape := ⟨2, ![1, 2048]⟩
abbrev S4x8192x8x256 : Shape := ⟨4, ![4, 8192, 8, 256]⟩
abbrev S8x256x4x8192 : Shape := ⟨4, ![8, 256, 4, 8192]⟩
abbrev S8192x4x2048 : Shape := ⟨3, ![8192, 4, 2048]⟩
abbrev S1x4x2048 : Shape := ⟨3, ![1, 4, 2048]⟩

abbrev nBuf : Space → Nat
  | .hbm => 181
  | .vmem => 0
  | .smem => 0
  | _ => 0

abbrev hbmTy0_0 (i : Nat) : BufTy := match i % 128 with
  | 0 => ⟨S32768x2048, .f32⟩
  | 1 => ⟨S2048, .f32⟩
  | 2 => ⟨S2x2048x4096, .f32⟩
  | 3 => ⟨S4x2048, .f32⟩
  | 4 => ⟨S2048, .f32⟩
  | 5 => ⟨S8x256x256, .f32⟩
  | 6 => ⟨S2048, .f32⟩
  | 7 => ⟨S8x256x256, .f32⟩
  | 8 => ⟨S2048, .f32⟩
  | 9 => ⟨S2048, .f32⟩
  | 10 => ⟨S4x8192x2048, .f32⟩
  | 11 => ⟨S4x8192x2048, .f32⟩
  | 12 => ⟨S_, .f32⟩
  | 13 => ⟨S4x8192, .f32⟩
  | 14 => ⟨S4x8192x1, .f32⟩
  | 15 => ⟨S_, .f32⟩
  | 16 => ⟨S4x8192x1, .f32⟩
  | 17 => ⟨S4x8192x1, .f32⟩
  | 18 => ⟨S_, .f32⟩
  | 19 => ⟨S4x8192x1, .f32⟩
  | 20 => ⟨S4x8192x1, .f32⟩
  | 21 => ⟨S4x8192x1, .f32⟩
  | 22 => ⟨S4x8192x2048, .f32⟩
  | 23 => ⟨S4x8192x2048, .f32⟩
  | 24 => ⟨S1x1x2048, .f32⟩
  | 25 => ⟨S4x8192x2048, .f32⟩
  | 26 => ⟨S4x8192x2048, .f32⟩
  | 27 => ⟨S1x2048x4096, .f32⟩
  | 28 => ⟨S2048x4096, .f32⟩
  | 29 => ⟨S4x8192x4096, .f32⟩
  | 30 => ⟨S4x8192x2048, .f32⟩
  | 31 => ⟨S4x8192x2048, .f32⟩
  | 32 => ⟨S4x8192x2048, .f32⟩
  | 33 => ⟨S4x8192x2048, .f32⟩
  | 34 => ⟨S_, .f32⟩
  | 35 => ⟨S4x8192x2048, .f32⟩
  | 36 => ⟨S4x8192x2048, .f32⟩
  | 37 => ⟨S4x8192x2048, .f32⟩
  | 38 => ⟨S_, .f32⟩
  | 39 => ⟨S4x8192x2048, .f32⟩
  | 40 => ⟨S4x8192x2048, .f32⟩
  | 41 => ⟨S4x8192x2048, .f32⟩
  | 42 => ⟨S_, .f32⟩
  | 43 => ⟨S4x8192x2048, .f32⟩
  | 44 => ⟨S4x8192x2048, .f32⟩
  | 45 => ⟨S_, .f32⟩
  | 46 => ⟨S4x8192x2048, .f32⟩
  | 47 => ⟨S4x8192x2048, .f32⟩
  | 48 => ⟨S4x8192x2048, .f32⟩
  | 49 => ⟨S_, .i32⟩
  | 50 => ⟨S_, .f32⟩
  | 51 => ⟨S4x8195x2048, .f32⟩
  | 52 => ⟨S1x2048, .f32⟩
  | 53 => ⟨S2048, .f32⟩
  | 54 => ⟨S4x8192x2048, .f32⟩
  | 55 => ⟨S1x1x2048, .f32⟩
  | 56 => ⟨S4x8192x2048, .f32⟩
  | 57 => ⟨S4x8192x2048, .f32⟩
  | 58 => ⟨S1x2048, .f32⟩
  | 59 => ⟨S2048, .f32⟩
  | 60 => ⟨S4x8192x2048, .f32⟩
  | 61 => ⟨S1x1x2048, .f32⟩
  | 62 => ⟨S4x8192x2048, .f32⟩
  | 63 => ⟨S4x8192x2048, .f32⟩
  | 64 => ⟨S4x8192x2048, .f32⟩
  | 65 => ⟨S1x2048, .f32⟩
  | 66 => ⟨S2048, .f32⟩
  | 67 => ⟨S4x8192x2048, .f32⟩
  | 68 => ⟨S1x1x2048, .f32⟩
  | 69 => ⟨S4x8192x2048, .f32⟩
  | 70 => ⟨S4x8192x2048, .f32⟩
  | 71 => ⟨S4x8192x2048, .f32⟩
  | 72 => ⟨S1x2048, .f32⟩
  | 73 => ⟨S2048, .f32⟩
  | 74 => ⟨S4x8192x2048, .f32⟩
  | 75 => ⟨S1x1x2048, .f32⟩
  | 76 => ⟨S4x8192x2048, .f32⟩
  | 77 => ⟨S4x8192x2048, .f32⟩
  | 78 => ⟨S4x8192x2048, .f32⟩
  | 79 => ⟨S1x1x2048, .f32⟩
  | 80 => ⟨S4x8192x2048, .f32⟩
  | 81 => ⟨S4x8192x2048, .f32⟩
  | 82 => ⟨S4x8192x8x256, .f32⟩
  | 83 => ⟨S8x256x4x8192, .f32⟩
  | 84 => ⟨S4x8192x8x256, .f32⟩
  | 85 => ⟨S4x8192x2048, .f32⟩
  | 86 => ⟨S1x1x2048, .f32⟩
  | 87 => ⟨S4x8192x2048, .f32⟩
  | 88 => ⟨S4x8192x2048, .f32⟩
  | 89 => ⟨S4x8192x2048, .f32⟩
  | 90 => ⟨S4x8192x2048, .f32⟩
  | 91 => ⟨S_, .f32⟩
  | 92 => ⟨S4x8192x2048, .f32⟩
  | 93 => ⟨S4x8192x2048, .f32⟩
  | 94 => ⟨S_, .f32⟩
  | 95 => ⟨S4x8192x2048, .f32⟩
  | 96 => ⟨S4x8192x2048, .f32⟩
  | 97 => ⟨S8x256x4x8192, .f32⟩
  | 98 => ⟨S4x8192x8x256, .f32⟩
  | 99 => ⟨S4x8192x2048, .f32⟩
  | 100 => ⟨S1x1x2048, .f32⟩
  | 101 => ⟨S4x8192x2048, .f32⟩
  | 102 => ⟨S4x8192x2048, .f32⟩
  | 103 => ⟨S4x8192x2048, .f32⟩
  | 104 => ⟨S4x8192x2048, .f32⟩
  | 105 => ⟨S_, .f32⟩
  | 106 => ⟨S4x8192x2048, .f32⟩
  | 107 => ⟨S4x8192x2048, .f32⟩
  | 108 => ⟨S_, .f32⟩
  | 109 => ⟨S4x8192x2048, .f32⟩
  | 110 => ⟨S4x8192x2048, .f32⟩
  | 111 => ⟨S_, .f32⟩
  | 112 => ⟨S4x8192x2048, .f32⟩
  | 113 => ⟨S4x8192x2048, .f32⟩
  | 114 => ⟨S2048, .f32⟩
  | 115 => ⟨S_, .f32⟩
  | 116 => ⟨S2048, .f32⟩
  | 117 => ⟨S2048, .f32⟩
  | 118 => ⟨S2048, .f32⟩
  | 119 => ⟨S2048, .f32⟩
  | 120 => ⟨S2048, .i1⟩
  | 121 => ⟨S2048, .f32⟩
  | 122 => ⟨S2048, .f32⟩
  | 123 => ⟨S2048, .f32⟩
  | 124 => ⟨S2048, .f32⟩
  | 125 => ⟨S2048, .f32⟩
  | 126 => ⟨S2048, .f32⟩
  | 127 => ⟨S2048, .f32⟩
  | _ => ⟨S32768x2048, .f32⟩

abbrev hbmTy0_1 (i : Nat) : BufTy := match i % 128 with
  | 0 => ⟨S2048, .f32⟩
  | 1 => ⟨S1x1x2048, .f32⟩
  | 2 => ⟨S4x8192x2048, .f32⟩
  | 3 => ⟨S4x8192x2048, .f32⟩
  | 4 => ⟨S4x8192x2048, .f32⟩
  | 5 => ⟨S4x8192x2048, .f32⟩
  | 6 => ⟨S_, .f32⟩
  | 7 => ⟨S4x8192x2048, .f32⟩
  | 8 => ⟨S4x8192x2048, .f32⟩
  | 9 => ⟨S4x8192x2048, .f32⟩
  | 10 => ⟨S4x8192x2048, .f32⟩
  | 11 => ⟨S4x8192x2048, .f32⟩
  | 12 => ⟨S4x8192x2048, .f32⟩
  | 13 => ⟨S_, .f32⟩
  | 14 => ⟨S4x2048, .f32⟩
  | 15 => ⟨S8192x4x2048, .f32⟩
  | 16 => ⟨S8192x4x2048, .f32⟩
  | 17 => ⟨S8192x4x2048, .f32⟩
  | 18 => ⟨S_, .f32⟩
  | 19 => ⟨S8192x4x2048, .f32⟩
  | 20 => ⟨S_, .i32⟩
  | 21 => ⟨S8192x4x2048, .f32⟩
  | 22 => ⟨S8192x4x2048, .f32⟩
  | 23 => ⟨S8192x4x2048, .f32⟩
  | 24 => ⟨S_, .i32⟩
  | 25 => ⟨S4x2048, .f32⟩
  | 26 => ⟨S8192x4x2048, .f32⟩
  | 27 => ⟨S_, .i32⟩
  | 28 => ⟨S_, .i1⟩
  | 29 => ⟨S_, .i32⟩
  | 30 => ⟨S_, .i32⟩
  | 31 => ⟨S1x4x2048, .f32⟩
  | 32 => ⟨S4x2048, .f32⟩
  | 33 => ⟨S_, .i32⟩
  | 34 => ⟨S_, .i32⟩
  | 35 => ⟨S1x4x2048, .f32⟩
  | 36 => ⟨S4x2048, .f32⟩
  | 37 => ⟨S_, .i32⟩
  | 38 => ⟨S_, .i32⟩
  | 39 => ⟨S1x4x2048, .f32⟩
  | 40 => ⟨S4x2048, .f32⟩
  | 41 => ⟨S4x2048, .f32⟩
  | 42 => ⟨S4x2048, .f32⟩
  | 43 => ⟨S4x2048, .f32⟩
  | 44 => ⟨S1x4x2048, .f32⟩
  | 45 => ⟨S_, .i32⟩
  | 46 => ⟨S_, .i32⟩
  | 47 => ⟨S8192x4x2048, .f32⟩
  | 48 => ⟨S_, .i32⟩
  | 49 => ⟨S_, .i32⟩
  | 50 => ⟨S4x8192x2048, .f32⟩
  | 51 => ⟨S32768x2048, .f32⟩
  | 52 => ⟨S32768x2048, .bf16⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c : Ref sig .tc := ⟨.hbm, 49, rfl⟩
abbrev main_call0_v0 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_6 : Ref sig .tc := ⟨.hbm, 91, rfl⟩
abbrev main_v72 : Ref sig .tc := ⟨.hbm, 92, rfl⟩
abbrev main_v73 : Ref sig .tc := ⟨.hbm, 93, rfl⟩
abbrev main_cst_7 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_cst_8 : Ref sig .tc := ⟨.hbm, 105, rfl⟩
abbrev main_v84 : Ref sig .tc := ⟨.hbm, 106, rfl⟩
abbrev main_v85 : Ref sig .tc := ⟨.hbm, 107, rfl⟩
abbrev main_cst_9 : Ref sig .tc := ⟨.hbm, 108, rfl⟩
abbrev main_v86 : Ref sig .tc := ⟨.hbm, 109, rfl⟩
abbrev main_v87 : Ref sig .tc := ⟨.hbm, 110, rfl⟩
abbrev main_cst_10 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_call1_cst : Ref sig .tc := ⟨.hbm, 115, rfl⟩
abbrev main_call1_v0 : Ref sig .tc := ⟨.hbm, 116, rfl⟩
abbrev main_call1_v1 : Ref sig .tc := ⟨.hbm, 117, rfl⟩
abbrev main_call1_v2 : Ref sig .tc := ⟨.hbm, 118, rfl⟩
abbrev main_call1_v3 : Ref sig .tc := ⟨.hbm, 119, rfl⟩
abbrev main_call1_v4 : Ref sig .tc := ⟨.hbm, 120, rfl⟩
abbrev main_call1_v5 : Ref sig .tc := ⟨.hbm, 121, rfl⟩
abbrev main_call1_v6 : Ref sig .tc := ⟨.hbm, 122, rfl⟩
abbrev main_call1_v7 : Ref sig .tc := ⟨.hbm, 123, rfl⟩
abbrev main_call1_v8 : Ref sig .tc := ⟨.hbm, 124, rfl⟩
abbrev main_call1_v9 : Ref sig .tc := ⟨.hbm, 125, rfl⟩
abbrev main_call1_v10 : Ref sig .tc := ⟨.hbm, 126, rfl⟩
abbrev main_call1_v11 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_cst_11 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_12 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_13 : Ref sig .tc := ⟨.hbm, 146, rfl⟩
abbrev main_v107 : Ref sig .tc := ⟨.hbm, 147, rfl⟩
abbrev main_c_14 : Ref sig .tc := ⟨.hbm, 148, rfl⟩
abbrev main_v108_0 : Ref sig .tc := ⟨.hbm, 149, rfl⟩
abbrev main_v108_1 : Ref sig .tc := ⟨.hbm, 150, rfl⟩
abbrev main_v108_2 : Ref sig .tc := ⟨.hbm, 151, rfl⟩
abbrev main_v108_3 : Ref sig .tc := ⟨.hbm, 152, rfl⟩
abbrev main_v108_4 : Ref sig .tc := ⟨.hbm, 153, rfl⟩
abbrev main_v108_5 : Ref sig .tc := ⟨.hbm, 154, rfl⟩
abbrev main_while0c_c_20 : Ref sig .tc := ⟨.hbm, 155, rfl⟩
abbrev main_while0c_v112 : Ref sig .tc := ⟨.hbm, 156, rfl⟩
abbrev main_while0b_call2_c : Ref sig .tc := ⟨.hbm, 157, rfl⟩
abbrev main_while0b_call2_c_0 : Ref sig .tc := ⟨.hbm, 158, rfl⟩
abbrev main_while0b_call2_v0 : Ref sig .tc := ⟨.hbm, 159, rfl⟩
abbrev main_while0b_v112 : Ref sig .tc := ⟨.hbm, 160, rfl⟩
abbrev main_while0b_call3_c : Ref sig .tc := ⟨.hbm, 161, rfl⟩
abbrev main_while0b_call3_c_0 : Ref sig .tc := ⟨.hbm, 162, rfl⟩
abbrev main_while0b_call3_v0 : Ref sig .tc := ⟨.hbm, 163, rfl⟩
abbrev main_while0b_v113 : Ref sig .tc := ⟨.hbm, 164, rfl⟩
abbrev main_while0b_call4_c : Ref sig .tc := ⟨.hbm, 165, rfl⟩
abbrev main_while0b_call4_c_0 : Ref sig .tc := ⟨.hbm, 166, rfl⟩
abbrev main_while0b_call4_v0 : Ref sig .tc := ⟨.hbm, 167, rfl⟩
abbrev main_while0b_v114 : Ref sig .tc := ⟨.hbm, 168, rfl⟩
abbrev main_while0b_v115 : Ref sig .tc := ⟨.hbm, 169, rfl⟩
abbrev main_while0b_v116 : Ref sig .tc := ⟨.hbm, 170, rfl⟩
abbrev main_while0b_v117 : Ref sig .tc := ⟨.hbm, 171, rfl⟩
abbrev main_while0b_call5_v0 : Ref sig .tc := ⟨.hbm, 172, rfl⟩
abbrev main_while0b_call5_c : Ref sig .tc := ⟨.hbm, 173, rfl⟩
abbrev main_while0b_call5_c_0 : Ref sig .tc := ⟨.hbm, 174, rfl⟩
abbrev main_while0b_v118 : Ref sig .tc := ⟨.hbm, 175, rfl⟩
abbrev main_while0b_c_20 : Ref sig .tc := ⟨.hbm, 176, rfl⟩
abbrev main_while0b_v119 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S32768x2048 : Shape := ⟨2, ![32768, 2048]⟩
abbrev S2048 : Shape := ⟨1, ![2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 9
  | .vmem => 11
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S4x8192x2048, .bf16⟩
  | .hbm, ⟨6, _⟩ => ⟨S1x2048, .f32⟩
  | .hbm, ⟨7, _⟩ => ⟨S1x2048, .f32⟩
  | .hbm, ⟨8, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .bf16⟩
  | .local _ .vmem, ⟨6, _⟩ => ⟨S1x512x2048, .bf16⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S32768x2048 : Shape := ⟨2, ![32768, 2048]⟩
abbrev S2048 : Shape := ⟨1, ![2048]⟩
abbrev S4x2048x8192 : Shape := ⟨3, ![4, 2048, 8192]⟩
abbrev S4x8192x2048 : Shape := ⟨3, ![4, 8192, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S1x2048x8192 : Shape := ⟨3, ![1, 2048, 8192]⟩
abbrev S2048x8192 : Shape := ⟨2, ![2048, 8192]⟩
abbrev S32768x8192 : Shape := ⟨2, ![32768, 8192]⟩
abbrev S1x8192x2048 : Shape := ⟨3, ![1, 8192, 2048]⟩
abbrev S8192x2048 : Shape := ⟨2, ![8192, 2048]⟩

abbrev nBuf : Space → Nat
  | .hbm => 48
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S1x2048x8192, .f32⟩
  | .hbm, ⟨22, _⟩ => ⟨S2048x8192, .f32⟩
  | .hbm, ⟨23, _⟩ => ⟨S32768x8192, .f32⟩
  | .hbm, ⟨24, _⟩ => ⟨S_, .f32⟩
  | .hbm, ⟨25, _⟩ => ⟨S32768x8192, .f32⟩
  | .hbm, ⟨26, _⟩ => ⟨S32768x8192, .f32⟩
  | .hbm, ⟨27, _⟩ => ⟨S32768x8192, .f32⟩
  | .hbm, ⟨28, _⟩ => ⟨S1x8192x2048, .f32⟩
  | .hbm, ⟨29, _⟩ => ⟨S8192x2048, .f32⟩
  | .hbm, ⟨30, _⟩ => ⟨S32768x2048, .f32⟩
  | .hbm, ⟨31, _⟩ => ⟨S32768x2048, .f32⟩
  | .hbm, ⟨32, _⟩ => ⟨S32768x2048, .f32⟩
  | .hbm, ⟨33, _⟩ => ⟨S_, .f32⟩
  | .hbm, ⟨34, _⟩ => ⟨S32768, .f32⟩
  | .hbm, ⟨35, _⟩ => ⟨S32768x1, .f32⟩
  | .hbm, ⟨36, _⟩ => ⟨S_, .f32⟩
  | .hbm, ⟨37, _⟩ => ⟨S32768x1, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x1, .f32⟩
  | .hbm, ⟨43, _⟩ => ⟨S32768x2048, .f32⟩
  | .hbm, ⟨44, _⟩ => ⟨S32768x2048, .f32⟩
  | .hbm, ⟨45, _⟩ => ⟨S1x2048, .f32⟩
  | .hbm, ⟨46, _⟩ => ⟨S32768x2048, .f32⟩
  | .hbm, ⟨47, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel3.lean ====
abbrev S32768x2048 : Shape := ⟨2, ![32768, 2048]⟩
abbrev S2048 : Shape := ⟨1, ![2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S1024 : Shape := ⟨1, ![1024]⟩
abbrev S1024x1 : Shape := ⟨2, ![1024, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 7
  | .vmem => 10
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S4x8192x2048, .bf16⟩
  | .hbm, ⟨5, _⟩ => ⟨S1x2048, .f32⟩
  | .hbm, ⟨6, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .bf16⟩
  | .local _ .vmem, ⟨6, _⟩ => ⟨S1x512x2048, .bf16⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S32768x2048 : Shape := ⟨2, ![32768, 2048]⟩
abbrev S2048 : Shape := ⟨1, ![2048]⟩
abbrev S4x2048x8192 : Shape := ⟨3, ![4, 2048, 8192]⟩
abbrev S4x8192x2048 : Shape := ⟨3, ![4, 8192, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S1x2048x8192 : Shape := ⟨3, ![1, 2048, 8192]⟩
abbrev S2048x8192 : Shape := ⟨2, ![2048, 8192]⟩
abbrev S32768x8192 : Shape := ⟨2, ![32768, 8192]⟩
abbrev S1x8192x2048 : Shape := ⟨3, ![1, 8192, 2048]⟩
abbrev S8192x2048 : Shape := ⟨2, ![8192, 2048]⟩

abbrev nBuf : Space → Nat
  | .hbm => 31
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S4x2048x8192, .f32⟩
  | .hbm, ⟨3, _⟩ => ⟨S4x8192x2048, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S1x2048x8192, .f32⟩
  | .hbm, ⟨21, _⟩ => ⟨S2048x8192, .f32⟩
  | .hbm, ⟨22, _⟩ => ⟨S32768x8192, .f32⟩
  | .hbm, ⟨23, _⟩ => ⟨S_, .f32⟩
  | .hbm, ⟨24, _⟩ => ⟨S32768x8192, .f32⟩
  | .hbm, ⟨25, _⟩ => ⟨S32768x8192, .f32⟩
  | .hbm, ⟨26, _⟩ => ⟨S32768x8192, .f32⟩
  | .hbm, ⟨27, _⟩ => ⟨S1x8192x2048, .f32⟩
  | .hbm, ⟨28, _⟩ => ⟨S8192x2048, .f32⟩
  | .hbm, ⟨29, _⟩ => ⟨S32768x2048, .f32⟩
  | .hbm, ⟨30, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel4.lean ====
abbrev S32768x2048 : Shape := ⟨2, ![32768, 2048]⟩
abbrev S2x2048x2048 : Shape := ⟨3, ![2, 2048, 2048]⟩
abbrev S512x2048 : Shape := ⟨2, ![512, 2048]⟩
abbrev S1x2048x2048 : Shape := ⟨3, ![1, 2048, 2048]⟩
abbrev S2048x2048 : Shape := ⟨2, ![2048, 2048]⟩

abbrev nBuf : Space → Nat
  | .hbm => 5
  | .vmem => 7
  | .smem => 0
  | _ => 0

abbrev bufTy : (tb : Table) → Fin (tcTables nBuf tb) → BufTy
  | .hbm, ⟨0, _⟩ => ⟨S32768x2048, .bf16⟩
  | .hbm, ⟨1, _⟩ => ⟨S2x2048x2048, .f32⟩
  | .hbm, ⟨2, _⟩ => ⟨S32768x2048, .f32⟩
  | .hbm, ⟨3, _⟩ => ⟨S2x2048x2048, .bf16⟩
  | .hbm, ⟨4, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S1x2048x2048, .bf16⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S32768x2048 : Shape := ⟨2, ![32768, 2048]⟩
abbrev S2x2048x2048 : Shape := ⟨3, ![2, 2048, 2048]⟩
abbrev S1x2048x2048 : Shape := ⟨3, ![1, 2048, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2x2048x2048, .f32⟩
  | .hbm, ⟨2, _⟩ => ⟨S32768x2048, .f32⟩
  | .hbm, ⟨3, _⟩ => ⟨S32768x2048, .f32⟩
  | .hbm, ⟨4, _⟩ => ⟨S1x2048x2048, .f32⟩
  | .hbm, ⟨5, _⟩ => ⟨S2048x2048, .f32⟩
  | .hbm, ⟨6, _⟩ => ⟨S32768x2048, .f32⟩
  | .hbm, ⟨7, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S32768x1024 : Shape := ⟨2, ![32768, 1024]⟩
abbrev S2x2048x2048 : Shape := ⟨3, ![2, 2048, 2048]⟩
abbrev S32768x2048 : Shape := ⟨2, ![32768, 2048]⟩
abbrev S512x1024 : Shape := ⟨2, ![512, 1024]⟩
abbrev S1x1024x2048 : Shape := ⟨3, ![1, 1024, 2048]⟩
abbrev S512x2048 : Shape := ⟨2, ![512, 2048]⟩
abbrev S1024x2048 : Shape := ⟨2, ![1024, 2048]⟩

abbrev nBuf : Space → Nat
  | .hbm => 6
  | .vmem => 10
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S2x2048x2048, .f32⟩
  | .hbm, ⟨3, _⟩ => ⟨S32768x2048, .f32⟩
  | .hbm, ⟨4, _⟩ => ⟨S2x2048x2048, .bf16⟩
  | .hbm, ⟨5, _⟩ => ⟨S32768x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S32768x1024 : Shape := ⟨2, ![32768, 1024]⟩
abbrev S2x2048x2048 : Shape := ⟨3, ![2, 2048, 2048]⟩
abbrev S32768x2048 : Shape := ⟨2, ![32768, 2048]⟩
abbrev S1x2048x2048 : Shape := ⟨3, ![1, 2048, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S2x2048x2048, .f32⟩
  | .hbm, ⟨3, _⟩ => ⟨S32768x2048, .f32⟩
  | .hbm, ⟨4, _⟩ => ⟨S32768x1024, .f32⟩
  | .hbm, ⟨5, _⟩ => ⟨S32768x1024, .f32⟩
  | .hbm, ⟨6, _⟩ => ⟨S32768x2048, .f32⟩
  | .hbm, ⟨7, _⟩ => ⟨S1x2048x2048, .f32⟩
  | .hbm, ⟨8, _⟩ => ⟨S2048x2048, .f32⟩
  | .hbm, ⟨9, _⟩ => ⟨S32768x2048, .f32⟩
  | .hbm, ⟨10, _⟩ => ⟨S32768x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel6.lean ====
abbrev S32768x2048 : Shape := ⟨2, ![32768, 2048]⟩
abbrev S2048 : Shape := ⟨1, ![2048]⟩
abbrev S2x2048x7456 : Shape := ⟨3, ![2, 2048, 7456]⟩
abbrev S128 : Shape := ⟨1, ![128]⟩
abbrev S_ : Shape := ⟨0, ![]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S1x2048x7456 : Shape := ⟨3, ![1, 2048, 7456]⟩
abbrev S2048x7456 : Shape := ⟨2, ![2048, 7456]⟩
abbrev S2048x4096 : Shape := ⟨2, ![2048, 4096]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S1x256x1 : Shape := ⟨3, ![1, 256, 1]⟩
abbrev S4x256x1 : Shape := ⟨3, ![4, 256, 1]⟩
abbrev S4x1x256 : Shape := ⟨3, ![4, 1, 256]⟩
abbrev S1x2048 : Shape := ⟨2, ![1, 2048]⟩
abbrev S32768x1024 : Shape := ⟨2, ![32768, 1024]⟩
abbrev S256x2048 : Shape := ⟨2, ![256, 2048]⟩
abbrev S256x128 : Shape := ⟨2, ![256, 128]⟩
abbrev S256x1024 : Shape := ⟨2, ![256, 1024]⟩
abbrev S256x4096 : Shape := ⟨2, ![256, 4096]⟩
abbrev S2048x256 : Shape := ⟨2, ![2048, 256]⟩
abbrev S1x1x256 : Shape := ⟨3, ![1, 1, 256]⟩

abbrev nBuf : Space → Nat
  | .hbm => 103
  | .vmem => 17
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2x2048x7456, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S8192, .f32⟩
  | .hbm, ⟨20, _⟩ => ⟨S8192x1, .f32⟩
  | .hbm, ⟨21, _⟩ => ⟨S1x128, .f32⟩
  | .hbm, ⟨22, _⟩ => ⟨S8192x128, .f32⟩
  | .hbm, ⟨23, _⟩ => ⟨S8192x128, .f32⟩
  | .hbm, ⟨24, _⟩ => ⟨S8192x128, .f32⟩
  | .hbm, ⟨25, _⟩ => ⟨S8192x128, .f32⟩
  | .hbm, ⟨26, _⟩ => ⟨S8192x128, .f32⟩
  | .hbm, ⟨27, _⟩ => ⟨S1x2048x7456, .f32⟩
  | .hbm, ⟨28, _⟩ => ⟨S2048x7456, .f32⟩
  | .hbm, ⟨29, _⟩ => ⟨S2048x4096, .f32⟩
  | .hbm, ⟨30, _⟩ => ⟨S2048x4096, .bf16⟩
  | .hbm, ⟨31, _⟩ => ⟨S4, .f32⟩
  | .hbm, ⟨32, _⟩ => ⟨S_, .f32⟩
  | .hbm, ⟨33, _⟩ => ⟨S4, .f32⟩
  | .hbm, ⟨34, _⟩ => ⟨S4, .f32⟩
  | .hbm, ⟨35, _⟩ => ⟨S_, .f32⟩
  | .hbm, ⟨36, _⟩ => ⟨S4, .f32⟩
  | .hbm, ⟨37, _⟩ => ⟨S4, .f32⟩
  | .hbm, ⟨38, _⟩ => ⟨S4, .f32⟩
  | .hbm, ⟨39, _⟩ => ⟨S4, .f32⟩
  | .hbm, ⟨40, _⟩ => ⟨S4, .f32⟩
  | .hbm, ⟨41, _⟩ => ⟨S256, .f32⟩
  | .hbm, ⟨42, _⟩ => ⟨S256x1, .f32⟩
  | .hbm, ⟨43, _⟩ => ⟨S1x256, .f32⟩
  | .hbm, ⟨44, _⟩ => ⟨S_, .f32⟩
  | .hbm, ⟨45, _⟩ => ⟨S256x1, .f32⟩
  | .hbm, ⟨46, _⟩ => ⟨S256x1, .f32⟩
  | .hbm, ⟨47, _⟩ => ⟨S256x1, .f32⟩
  | .hbm, ⟨48, _⟩ => ⟨S_, .f32⟩
  | .hbm, ⟨49, _⟩ => ⟨S1x256, .f32⟩
  | .hbm, ⟨50, _⟩ => ⟨S1x256, .f32⟩
  | .hbm, ⟨51, _⟩ => ⟨S1x256, .f32⟩
  | .hbm, ⟨52, _⟩ => ⟨S256x256, .f32⟩
  | .hbm, ⟨53, _⟩ => ⟨S256x256, .f32⟩
  | .hbm, ⟨54, _⟩ => ⟨S256x256, .i1⟩
  | .hbm, ⟨55, _⟩ => ⟨S256x256, .f32⟩
  | .hbm, ⟨56, _⟩ => ⟨S256x256, .f32⟩
  | .hbm, ⟨57, _⟩ => ⟨S256x256, .f32⟩
  | .hbm, ⟨58, _⟩ => ⟨S256x256, .f32⟩
  | .hbm, ⟨59, _⟩ => ⟨S256x256, .f32⟩
  | .hbm, ⟨60, _⟩ => ⟨S256x256, .f32⟩
  | .hbm, ⟨61, _⟩ => ⟨S256x256, .f32⟩
  | .hbm, ⟨62, _⟩ => ⟨S256x256, .f32⟩
  | .hbm, ⟨63, _⟩ => ⟨S4x1x1, .f32⟩
  | .hbm, ⟨64, _⟩ => ⟨S256x256, .f32⟩
  | .hbm, ⟨65, _⟩ => ⟨S256x256, .f32⟩
  | .hbm, ⟨66, _⟩ => ⟨S256x256, .i1⟩
  | .hbm, ⟨67, _⟩ => ⟨S1x256x256, .i1⟩
  | .hbm, ⟨68, _⟩ => ⟨S1x256x256, .f32⟩
  | .hbm, ⟨69, _⟩ => ⟨S4x256x256, .f32⟩
  | .hbm, ⟨70, _⟩ => ⟨S4x256x256, .f32⟩
  | .hbm, ⟨71, _⟩ => ⟨S4x256x256, .f32⟩
  | .hbm, ⟨72, _⟩ => ⟨S4x256x256, .f32⟩
  | .hbm, ⟨73, _⟩ => ⟨S_, .f32⟩
  | .hbm, ⟨74, _⟩ => ⟨S_, .f32⟩
  | .hbm, ⟨75, _⟩ => ⟨S4x256x256, .i1⟩
  | .hbm, ⟨76, _⟩ => ⟨S4x256x256, .f32⟩
  | .hbm, ⟨77, _⟩ => ⟨S4x256x256, .f32⟩
  | .hbm, ⟨78, _⟩ => ⟨S_, .f32⟩
  | .hbm, ⟨79, _⟩ => ⟨S256, .f32⟩
  | .hbm, ⟨80, _⟩ => ⟨S256, .f32⟩
  | .hbm, ⟨81, _⟩ => ⟨S1x256x1, .f32⟩
  | .hbm, ⟨82, _⟩ => ⟨S4x256x1, .f32⟩
  | .hbm, ⟨83, _⟩ => ⟨S4x256x1, .f32⟩
  | .hbm, ⟨84, _⟩ => ⟨S4x256x1, .f32⟩
  | .hbm, ⟨85, _⟩ => ⟨S4x256x1, .f32⟩
  | .hbm, ⟨86, _⟩ => ⟨S4x256x256, .f32⟩
  | .hbm, ⟨87, _⟩ => ⟨S_, .f32⟩
  | .hbm, ⟨88, _⟩ => ⟨S256, .f32⟩
  | .hbm, ⟨89, _⟩ => ⟨S256, .f32⟩
  | .hbm, ⟨90, _⟩ => ⟨S1x256x1, .f32⟩
  | .hbm, ⟨91, _⟩ => ⟨S4x256x1, .f32⟩
  | .hbm, ⟨92, _⟩ => ⟨S4x256x1, .f32⟩
  | .hbm, ⟨93, _⟩ => ⟨S4x256x1, .f32⟩
  | .hbm, ⟨94, _⟩ => ⟨S4x256x1, .f32⟩
  | .hbm, ⟨95, _⟩ => ⟨S4x256x256, .f32⟩
  | .hbm, ⟨96, _⟩ => ⟨S_, .f32⟩
  | .hbm, ⟨97, _⟩ => ⟨S4x1x1, .f32⟩
  | .hbm, ⟨98, _⟩ => ⟨S4x1x1, .f32⟩
  | .hbm, ⟨99, _⟩ => ⟨S4x1x1, .f32⟩
  | .hbm, ⟨100, _⟩ => ⟨S4x1x256, .f32⟩
  | .hbm, ⟨101, _⟩ => ⟨S1x2048, .f32⟩
  | .hbm, ⟨102, _⟩ => ⟨S32768x1024, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S2048x4096, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S4x256x256, .f32⟩
  | .local _ .vmem, ⟨9, _⟩ => ⟨S4x256x256, .f32⟩
  | .local _ .vmem, ⟨10, _⟩ => ⟨S4x256x256, .f32⟩
  | .local _ .vmem, ⟨11, _⟩ => ⟨S4x1x256, .f32⟩
  | .local _ .vmem, ⟨12, _⟩ => ⟨S256x1024, .bf16⟩
  | .local _ .vmem, ⟨13, _⟩ => ⟨S256x1024, .bf16⟩
  | .local _ .vmem, ⟨14, _⟩ => ⟨S256x2048, .bf16⟩
  | .local _ .vmem, ⟨15, _⟩ => ⟨S256x4096, .f32⟩
  | .local _ .vmem, ⟨16, _⟩ => ⟨S4x256x256, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_6 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_8 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_10 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_11 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![129], ![false]⟩

def cc0_transform_0 (i : grid0.Coords) : Fin 2 → Nat :=
  let arg0 : BitVec 32 := BitVec.ofNat 32 (i 0).val
  let c127_i32 : BitVec 32 := 127#32
  let v0 : BitVec 32 := Scalar.minsi arg0 c127_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let c0_i32_0 : BitVec 32 := 0#32
  let v2 : BitVec 1 := Scalar.cmpi .eq c32_i32 c0_i32_0
  let c1_i32_1 : BitVec 32 := 1#32
  let v3 : BitVec 32 := Scalar.select v2 c1_i32_1 c32_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let c0_i32_0 : BitVec 32 := 0#32
  let v2 : BitVec 1 := Scalar.cmpi .eq c32_i32 c0_i32_0
  let c1_i32_1 : BitVec 32 := 1#32
  let v3 : BitVec 32 := Scalar.select v2 c1_i32_1 c32_i32
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S32768x2048 : Shape := ⟨2, ![32768, 2048]⟩
abbrev S2048 : Shape := ⟨1, ![2048]⟩
abbrev S2x2048x7456 : Shape := ⟨3, ![2, 2048, 7456]⟩
abbrev S4x8192x2048 : Shape := ⟨3, ![4, 8192, 2048]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S1x2048x7456 : Shape := ⟨3, ![1, 2048, 7456]⟩
abbrev S2048x7456 : Shape := ⟨2, ![2048, 7456]⟩
abbrev S4x8192x7456 : Shape := ⟨3, ![4, 8192, 7456]⟩
abbrev S4x8192x4096 : Shape := ⟨3, ![4, 8192, 4096]⟩
abbrev S4x8192x1024 : Shape := ⟨3, ![4, 8192, 1024]⟩
abbrev S128 : Shape := ⟨1, ![128]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩
abbrev S1x8192x1x128 : Shape := ⟨4, ![1, 8192, 1, 128]⟩
abbrev S4x8192x4x256 : Shape := ⟨4, ![4, 8192, 4, 256]⟩
abbrev S4x8192x4x128 : Shape := ⟨4, ![4, 8192, 4, 128]⟩
abbrev S4 : Shape := ⟨1, ![4]⟩
abbrev S64 : Shape := ⟨1, ![64]⟩
abbrev S4x1x1 : Shape := ⟨3, ![4, 1, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x64x64 : Shape := ⟨3, ![4, 64, 64]⟩
abbrev S4x1 : Shape := ⟨2, ![4, 1]⟩
abbrev S4x64 : Shape := ⟨2, ![4, 64]⟩
abbrev S4x64x1 : Shape := ⟨3, ![4, 64, 1]⟩
abbrev S4x4x256x256 : Shape := ⟨4, ![4, 4, 256, 256]⟩
abbrev S4x128x64x4x256 : Shape := ⟨5, ![4, 128, 64, 4, 256]⟩
abbrev S128x4x4x64x256 : Shape := ⟨5, ![128, 4, 4, 64, 256]⟩
abbrev S1x4x4x64x256 : Shape := ⟨5, ![1, 4, 4, 64, 256]⟩
abbrev S4x4x64x256 : Shape := ⟨4, ![4, 4, 64, 256]⟩
abbrev S4x4x64x64 : Shape := ⟨4, ![4, 4, 64, 64]⟩
abbrev S1x4x64x64 : Shape := ⟨4, ![1, 4, 64, 64]⟩
abbrev S1x4x64x1 : Shape := ⟨4, ![1, 4, 64, 1]⟩
abbrev S1x4x1x1 : Shape := ⟨4, ![1, 4, 1, 1]⟩
abbrev S4x8192x4 : Shape := ⟨3, ![4, 8192, 4]⟩
abbrev S4x8192x4x1 : Shape := ⟨4, ![4, 8192, 4, 1]⟩
abbrev S32768x1024 : Shape := ⟨2, ![32768, 1024]⟩

abbrev nBuf : Space → Nat
  | .hbm => 239
  | .vmem => 0
  | .smem => 0
  | _ => 0

abbrev hbmTy0_0 (i : Nat) : BufTy := match i % 128 with
  | 0 => ⟨S32768x2048, .f32⟩
  | 1 => ⟨S2048, .f32⟩
  | 2 => ⟨S2x2048x7456, .f32⟩
  | 3 => ⟨S4x8192x2048, .f32⟩
  | 4 => ⟨S4x8192x2048, .f32⟩
  | 5 => ⟨S_, .f32⟩
  | 6 => ⟨S4x8192, .f32⟩
  | 7 => ⟨S4x8192x1, .f32⟩
  | 8 => ⟨S_, .f32⟩
  | 9 => ⟨S4x8192x1, .f32⟩
  | 10 => ⟨S4x8192x1, .f32⟩
  | 11 => ⟨S_, .f32⟩
  | 12 => ⟨S4x8192x1, .f32⟩
  | 13 => ⟨S4x8192x1, .f32⟩
  | 14 => ⟨S4x8192x1, .f32⟩
  | 15 => ⟨S4x8192x2048, .f32⟩
  | 16 => ⟨S4x8192x2048, .f32⟩
  | 17 => ⟨S1x1x2048, .f32⟩
  | 18 => ⟨S4x8192x2048, .f32⟩
  | 19 => ⟨S4x8192x2048, .f32⟩
  | 20 => ⟨S1x2048x7456, .f32⟩
  | 21 => ⟨S2048x7456, .f32⟩
  | 22 => ⟨S4x8192x7456, .f32⟩
  | 23 => ⟨S4x8192x4096, .f32⟩
  | 24 => ⟨S4x8192x1024, .f32⟩
  | 25 => ⟨S4x8192x1024, .f32⟩
  | 26 => ⟨S4x8192x1024, .f32⟩
  | 27 => ⟨S4x8192x1024, .f32⟩
  | 28 => ⟨S128, .f32⟩
  | 29 => ⟨S_, .f32⟩
  | 30 => ⟨S128, .f32⟩
  | 31 => ⟨S128, .f32⟩
  | 32 => ⟨S_, .f32⟩
  | 33 => ⟨S128, .f32⟩
  | 34 => ⟨S128, .f32⟩
  | 35 => ⟨S_, .f32⟩
  | 36 => ⟨S128, .f32⟩
  | 37 => ⟨S128, .f32⟩
  | 38 => ⟨S_, .f32⟩
  | 39 => ⟨S128, .f32⟩
  | 40 => ⟨S128, .f32⟩
  | 41 => ⟨S_, .f32⟩
  | 42 => ⟨S128, .f32⟩
  | 43 => ⟨S128, .f32⟩
  | 44 => ⟨S8192, .f32⟩
  | 45 => ⟨S8192x1, .f32⟩
  | 46 => ⟨S1x128, .f32⟩
  | 47 => ⟨S8192x128, .f32⟩
  | 48 => ⟨S8192x128, .f32⟩
  | 49 => ⟨S8192x128, .f32⟩
  | 50 => ⟨S8192x128, .f32⟩
  | 51 => ⟨S1x8192x1x128, .f32⟩
  | 52 => ⟨S8192x128, .f32⟩
  | 53 => ⟨S1x8192x1x128, .f32⟩
  | 54 => ⟨S4x8192x4x256, .f32⟩
  | 55 => ⟨S4x8192x4x128, .f32⟩
  | 56 => ⟨S4x8192x4x128, .f32⟩
  | 57 => ⟨S4x8192x4x128, .f32⟩
  | 58 => ⟨S4x8192x4x128, .f32⟩
  | 59 => ⟨S4x8192x4x128, .f32⟩
  | 60 => ⟨S4x8192x4x128, .f32⟩
  | 61 => ⟨S4x8192x4x128, .f32⟩
  | 62 => ⟨S4x8192x4x128, .f32⟩
  | 63 => ⟨S4x8192x4x128, .f32⟩
  | 64 => ⟨S4x8192x4x128, .f32⟩
  | 65 => ⟨S4x8192x4x128, .f32⟩
  | 66 => ⟨S4x8192x4x128, .f32⟩
  | 67 => ⟨S4x8192x4x256, .f32⟩
  | 68 => ⟨S4x8192x4x256, .f32⟩
  | 69 => ⟨S4x8192x4x128, .f32⟩
  | 70 => ⟨S4x8192x4x128, .f32⟩
  | 71 => ⟨S4x8192x4x128, .f32⟩
  | 72 => ⟨S4x8192x4x128, .f32⟩
  | 73 => ⟨S4x8192x4x128, .f32⟩
  | 74 => ⟨S4x8192x4x128, .f32⟩
  | 75 => ⟨S4x8192x4x128, .f32⟩
  | 76 => ⟨S4x8192x4x128, .f32⟩
  | 77 => ⟨S4x8192x4x128, .f32⟩
  | 78 => ⟨S4x8192x4x128, .f32⟩
  | 79 => ⟨S4x8192x4x128, .f32⟩
  | 80 => ⟨S4x8192x4x128, .f32⟩
  | 81 => ⟨S4x8192x4x256, .f32⟩
  | 82 => ⟨S_, .f32⟩
  | 83 => ⟨S4x8192x4x256, .f32⟩
  | 84 => ⟨S4x8192x4x256, .f32⟩
  | 85 => ⟨S4, .f32⟩
  | 86 => ⟨S_, .f32⟩
  | 87 => ⟨S4, .f32⟩
  | 88 => ⟨S4, .f32⟩
  | 89 => ⟨S_, .f32⟩
  | 90 => ⟨S4, .f32⟩
  | 91 => ⟨S4, .f32⟩
  | 92 => ⟨S4, .f32⟩
  | 93 => ⟨S4, .f32⟩
  | 94 => ⟨S4, .f32⟩
  | 95 => ⟨S64, .f32⟩
  | 96 => ⟨S4x1x1, .f32⟩
  | 97 => ⟨S64x1, .f32⟩
  | 98 => ⟨S1x64, .f32⟩
  | 99 => ⟨S64x64, .f32⟩
  | 100 => ⟨S64x64, .f32⟩
  | 101 => ⟨S64x64, .f32⟩
  | 102 => ⟨S64x64, .f32⟩
  | 103 => ⟨S1x64x64, .f32⟩
  | 104 => ⟨S4x64x64, .f32⟩
  | 105 => ⟨S4x64x64, .f32⟩
  | 106 => ⟨S4x64x64, .f32⟩
  | 107 => ⟨S4x64x64, .f32⟩
  | 108 => ⟨S4x1, .f32⟩
  | 109 => ⟨S_, .f32⟩
  | 110 => ⟨S64, .f32⟩
  | 111 => ⟨S64, .f32⟩
  | 112 => ⟨S1x64, .f32⟩
  | 113 => ⟨S4x64, .f32⟩
  | 114 => ⟨S4x64, .f32⟩
  | 115 => ⟨S4x64, .f32⟩
  | 116 => ⟨S4x64, .f32⟩
  | 117 => ⟨S4x64x1, .f32⟩
  | 118 => ⟨S4x1, .f32⟩
  | 119 => ⟨S_, .f32⟩
  | 120 => ⟨S64, .f32⟩
  | 121 => ⟨S64, .f32⟩
  | 122 => ⟨S1x64, .f32⟩
  | 123 => ⟨S4x64, .f32⟩
  | 124 => ⟨S4x64, .f32⟩
  | 125 => ⟨S4x64, .f32⟩
  | 126 => ⟨S4x64, .f32⟩
  | 127 => ⟨S4x64x1, .f32⟩
  | _ => ⟨S32768x2048, .f32⟩

abbrev hbmTy0_1 (i : Nat) : BufTy := match i % 128 with
  | 0 => ⟨S_, .f32⟩
  | 1 => ⟨S4, .f32⟩
  | 2 => ⟨S4, .f32⟩
  | 3 => ⟨S4, .f32⟩
  | 4 => ⟨S4x1x1, .f32⟩
  | 5 => ⟨S_, .f32⟩
  | 6 => ⟨S4x4x256x256, .f32⟩
  | 7 => ⟨S4x128x64x4x256, .f32⟩
  | 8 => ⟨S128x4x4x64x256, .f32⟩
  | 9 => ⟨S4x128x64x4x256, .f32⟩
  | 10 => ⟨S128x4x4x64x256, .f32⟩
  | 11 => ⟨S4x8192x4x256, .f32⟩
  | 12 => ⟨S4x128x64x4x256, .f32⟩
  | 13 => ⟨S128x4x4x64x256, .f32⟩
  | 14 => ⟨S_, .f32⟩
  | 15 => ⟨S128x4x4x64x256, .f32⟩
  | 16 => ⟨S_, .i32⟩
  | 17 => ⟨S128x4x4x64x256, .f32⟩
  | 18 => ⟨S128x4x4x64x256, .f32⟩
  | 19 => ⟨S128x4x4x64x256, .f32⟩
  | 20 => ⟨S4x64x64, .f32⟩
  | 21 => ⟨S4x64x1, .f32⟩
  | 22 => ⟨S4x1x1, .f32⟩
  | 23 => ⟨S4x64x1, .f32⟩
  | 24 => ⟨S_, .i32⟩
  | 25 => ⟨S4x4x256x256, .f32⟩
  | 26 => ⟨S128x4x4x64x256, .f32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S1x4x4x64x256, .f32⟩
  | 34 => ⟨S4x4x64x256, .f32⟩
  | 35 => ⟨S_, .i32⟩
  | 36 => ⟨S_, .i32⟩
  | 37 => ⟨S_, .i32⟩
  | 38 => ⟨S_, .i32⟩
  | 39 => ⟨S1x4x4x64x256, .f32⟩
  | 40 => ⟨S4x4x64x256, .f32⟩
  | 41 => ⟨S_, .i32⟩
  | 42 => ⟨S_, .i32⟩
  | 43 => ⟨S_, .i32⟩
  | 44 => ⟨S_, .i32⟩
  | 45 => ⟨S1x4x4x64x256, .f32⟩
  | 46 => ⟨S4x4x64x256, .f32⟩
  | 47 => ⟨S4x4x64x64, .f32⟩
  | 48 => ⟨S1x4x64x64, .f32⟩
  | 49 => ⟨S4x4x64x64, .f32⟩
  | 50 => ⟨S4x4x64x64, .f32⟩
  | 51 => ⟨S4x4x64x256, .f32⟩
  | 52 => ⟨S1x4x64x1, .f32⟩
  | 53 => ⟨S4x4x64x256, .f32⟩
  | 54 => ⟨S4x4x64x256, .f32⟩
  | 55 => ⟨S4x4x64x256, .f32⟩
  | 56 => ⟨S4x4x64x256, .f32⟩
  | 57 => ⟨S1x4x1x1, .f32⟩
  | 58 => ⟨S4x4x256x256, .f32⟩
  | 59 => ⟨S4x4x256x256, .f32⟩
  | 60 => ⟨S1x4x64x1, .f32⟩
  | 61 => ⟨S4x4x64x256, .f32⟩
  | 62 => ⟨S4x4x64x256, .f32⟩
  | 63 => ⟨S4x4x256x256, .f32⟩
  | 64 => ⟨S4x4x256x256, .f32⟩
  | 65 => ⟨S1x4x4x64x256, .f32⟩
  | 66 => ⟨S_, .i32⟩
  | 67 => ⟨S_, .i32⟩
  | 68 => ⟨S_, .i32⟩
  | 69 => ⟨S_, .i32⟩
  | 70 => ⟨S128x4x4x64x256, .f32⟩
  | 71 => ⟨S_, .i32⟩
  | 72 => ⟨S_, .i32⟩
  | 73 => ⟨S4x128x64x4x256, .f32⟩
  | 74 => ⟨S4x8192x4x256, .f32⟩
  | 75 => ⟨S_, .f32⟩
  | 76 => ⟨S4x8192x4, .f32⟩
  | 77 => ⟨S4x8192x4x1, .f32⟩
  | 78 => ⟨S_, .f32⟩
  | 79 => ⟨S4x8192x4x1, .f32⟩
  | 80 => ⟨S4x8192x4x1, .f32⟩
  | 81 => ⟨S4x8192x4x256, .f32⟩
  | 82 => ⟨S4x8192x4x256, .f32⟩
  | 83 => ⟨S4x8192x4x256, .f32⟩
  | 84 => ⟨S_, .f32⟩
  | 85 => ⟨S4x8192x4, .f32⟩
  | 86 => ⟨S4x8192x4x1, .f32⟩
  | 87 => ⟨S_, .f32⟩
  | 88 => ⟨S4x8192x4x1, .f32⟩
  | 89 => ⟨S4x8192x4x1, .f32⟩
  | 90 => ⟨S4x8192x4x256, .f32⟩
  | 91 => ⟨S4x8192x4x256, .f32⟩
  | 92 => ⟨S_, .f32⟩
  | 93 => ⟨S4x8192x4x1, .f32⟩
  | 94 => ⟨S4x8192x4x1, .f32⟩
  | 95 => ⟨S4x8192x4x1, .f32⟩
  | 96 => ⟨S4x8192x4x256, .f32⟩
  | 97 => ⟨S4x8192x4x256, .f32⟩
  | 98 => ⟨S4x8192x1024, .f32⟩
  | 99 => ⟨S4x8192x1024, .f32⟩
  | 100 => ⟨S_, .f32⟩
  | 101 => ⟨S4x8192x1024, .f32⟩
  | 102 => ⟨S4x8192x1024, .f32⟩
  | 103 => ⟨S_, .f32⟩
  | 104 => ⟨S4x8192x1024, .f32⟩
  | 105 => ⟨S4x8192x1024, .f32⟩
  | 106 => ⟨S4x8192x1024, .f32⟩
  | 107 => ⟨S4x8192x1024, .f32⟩
  | 108 => ⟨S4x8192x1024, .f32⟩
  | 109 => ⟨S32768x1024, .f32⟩
  | 110 => ⟨S32768x1024, .bf16⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_cst_7 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_cst_8 : Ref sig .tc := ⟨.hbm, 86, rfl⟩
abbrev main_v74 : Ref sig .tc := ⟨.hbm, 87, rfl⟩
abbrev main_v75 : Ref sig .tc := ⟨.hbm, 88, rfl⟩
abbrev main_cst_9 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_cst_10 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_cst_11 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_cst_12 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_cst_13 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_cst_14 : Ref sig .tc := ⟨.hbm, 142, rfl⟩
abbrev main_v124 : Ref sig .tc := ⟨.hbm, 143, rfl⟩
abbrev main_c : Ref sig .tc := ⟨.hbm, 144, rfl⟩
abbrev main_v125_0 : Ref sig .tc := ⟨.hbm, 145, rfl⟩
abbrev main_v125_1 : Ref sig .tc := ⟨.hbm, 146, rfl⟩
abbrev main_v125_2 : Ref sig .tc := ⟨.hbm, 147, rfl⟩
abbrev main_v125_3 : Ref sig .tc := ⟨.hbm, 148, rfl⟩
abbrev main_v125_4 : Ref sig .tc := ⟨.hbm, 149, rfl⟩
abbrev main_v125_5 : Ref sig .tc := ⟨.hbm, 150, rfl⟩
abbrev main_v125_6 : Ref sig .tc := ⟨.hbm, 151, rfl⟩
abbrev main_v125_7 : Ref sig .tc := ⟨.hbm, 152, rfl⟩
abbrev main_v125_8 : Ref sig .tc := ⟨.hbm, 153, rfl⟩
abbrev main_v125_9 : Ref sig .tc := ⟨.hbm, 154, rfl⟩
abbrev main_while0c_c_29 : Ref sig .tc := ⟨.hbm, 155, rfl⟩
abbrev main_while0c_v151 : Ref sig .tc := ⟨.hbm, 156, rfl⟩
abbrev main_while0b_call0_c : Ref sig .tc := ⟨.hbm, 157, rfl⟩
abbrev main_while0b_call0_c_0 : Ref sig .tc := ⟨.hbm, 158, rfl⟩
abbrev main_while0b_call0_c_1 : Ref sig .tc := ⟨.hbm, 159, rfl⟩
abbrev main_while0b_call0_c_2 : Ref sig .tc := ⟨.hbm, 160, rfl⟩
abbrev main_while0b_call0_v0 : Ref sig .tc := ⟨.hbm, 161, rfl⟩
abbrev main_while0b_v151 : Ref sig .tc := ⟨.hbm, 162, rfl⟩
abbrev main_while0b_call1_c : Ref sig .tc := ⟨.hbm, 163, rfl⟩
abbrev main_while0b_call1_c_0 : Ref sig .tc := ⟨.hbm, 164, rfl⟩
abbrev main_while0b_call1_c_1 : Ref sig .tc := ⟨.hbm, 165, rfl⟩
abbrev main_while0b_call1_c_2 : Ref sig .tc := ⟨.hbm, 166, rfl⟩
abbrev main_while0b_call1_v0 : Ref sig .tc := ⟨.hbm, 167, rfl⟩
abbrev main_while0b_v152 : Ref sig .tc := ⟨.hbm, 168, rfl⟩
abbrev main_while0b_call2_c : Ref sig .tc := ⟨.hbm, 169, rfl⟩
abbrev main_while0b_call2_c_0 : Ref sig .tc := ⟨.hbm, 170, rfl⟩
abbrev main_while0b_call2_c_1 : Ref sig .tc := ⟨.hbm, 171, rfl⟩
abbrev main_while0b_call2_c_2 : Ref sig .tc := ⟨.hbm, 172, rfl⟩
abbrev main_while0b_call2_v0 : Ref sig .tc := ⟨.hbm, 173, rfl⟩
abbrev main_while0b_v153 : Ref sig .tc := ⟨.hbm, 174, rfl⟩
abbrev main_while0b_v154 : Ref sig .tc := ⟨.hbm, 175, rfl⟩
abbrev main_while0b_v155 : Ref sig .tc := ⟨.hbm, 176, rfl⟩
abbrev main_while0b_v156 : Ref sig .tc := ⟨.hbm, 177, rfl⟩
abbrev main_while0b_v157 : Ref sig .tc := ⟨.hbm, 178, rfl⟩
abbrev main_while0b_v158 : Ref sig .tc := ⟨.hbm, 179, rfl⟩
abbrev main_while0b_v159 : Ref sig .tc := ⟨.hbm, 180, rfl⟩
abbrev main_while0b_v160 : Ref sig .tc := ⟨.hbm, 181, rfl⟩
abbrev main_while0b_v161 : Ref sig .tc := ⟨.hbm, 182, rfl⟩
abbrev main_while0b_v162 : Ref sig .tc := ⟨.hbm, 183, rfl⟩
abbrev main_while0b_v163 : Ref sig .tc := ⟨.hbm, 184, rfl⟩
abbrev main_while0b_v164 : Ref sig .tc := ⟨.hbm, 185, rfl⟩
abbrev main_while0b_v165 : Ref sig .tc := ⟨.hbm, 186, rfl⟩
abbrev main_while0b_v166 : Ref sig .tc := ⟨.hbm, 187, rfl⟩
abbrev main_while0b_v167 : Ref sig .tc := ⟨.hbm, 188, rfl⟩
abbrev main_while0b_v168 : Ref sig .tc := ⟨.hbm, 189, rfl⟩
abbrev main_while0b_v169 : Ref sig .tc := ⟨.hbm, 190, rfl⟩
abbrev main_while0b_v170 : Ref sig .tc := ⟨.hbm, 191, rfl⟩
abbrev main_while0b_v171 : Ref sig .tc := ⟨.hbm, 192, rfl⟩
abbrev main_while0b_call3_v0 : Ref sig .tc := ⟨.hbm, 193, rfl⟩
abbrev main_while0b_call3_c : Ref sig .tc := ⟨.hbm, 194, rfl⟩
abbrev main_while0b_call3_c_0 : Ref sig .tc := ⟨.hbm, 195, rfl⟩
abbrev main_while0b_call3_c_1 : Ref sig .tc := ⟨.hbm, 196, rfl⟩
abbrev main_while0b_call3_c_2 : Ref sig .tc := ⟨.hbm, 197, rfl⟩
abbrev main_while0b_v172 : Ref sig .tc := ⟨.hbm, 198, rfl⟩
abbrev main_while0b_c_29 : Ref sig .tc := ⟨.hbm, 199, rfl⟩
abbrev main_while0b_v173 : Ref sig .tc := ⟨.hbm, 200, rfl⟩
abbrev main_v126 : Ref sig .tc := ⟨.hbm, 201, rfl⟩
abbrev main_v127 : Ref sig .tc := ⟨.hbm, 202, rfl⟩
abbrev main_cst_15 : Ref sig .tc := ⟨.hbm, 203, rfl⟩
abbrev main_v128 : Ref sig .tc := ⟨.hbm, 204, rfl⟩
abbrev main_v129 : Ref sig .tc := ⟨.hbm, 205, rfl⟩
abbrev main_cst_16 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_cst_17 : Ref sig .tc := ⟨.hbm, 212, rfl⟩
abbrev main_v135 : Ref sig .tc := ⟨.hbm, 213, rfl⟩
abbrev main_v136 : Ref sig .tc := ⟨.hbm, 214, rfl⟩
abbrev main_cst_18 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_cst_19 : Ref sig .tc := ⟨.hbm, 220, rfl⟩
abbrev main_v141 : Ref sig .tc := ⟨.hbm, 221, rfl⟩
abbrev main_v142 : Ref sig .tc := ⟨.hbm, 222, rfl⟩
abbrev main_v143 : Ref sig .tc := ⟨.hbm, 223, rfl⟩
abbrev main_v144 : Ref sig .tc := ⟨.hbm, 224, rfl⟩
abbrev main_v145 : Ref sig .tc := ⟨.hbm, 225, rfl⟩
abbrev main_call4_v0 : Ref sig .tc := ⟨.hbm, 226, rfl⟩
abbrev main_call4_v1 : Ref sig .tc := ⟨.hbm, 227, rfl⟩
abbrev main_call4_cst : Ref sig .tc := ⟨.hbm, 228, rfl⟩
abbrev main_call4_v2 : Ref sig .tc := ⟨.hbm, 229, rfl⟩
abbrev main_call4_v3 : Ref sig .tc := ⟨.hbm, 230, rfl⟩
abbrev main_call4_cst_0 : Ref sig .tc := ⟨.hbm, 231, rfl⟩
abbrev main_call4_v4 : Ref sig .tc := ⟨.hbm, 232, rfl⟩
abbrev main_call4_v5 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩

abbrev nD : Nat := 1
abbrev τ : Topo := Topo.v7x

variable {F : FTy → Type} [FloatOps F]

abbrev main_while0_count : Scf.Loop 32 := ⟨0#32, 128#32, 1#32⟩
-- ==== Proof.GateMath.lean ====
/-
  The scalar mathematics of the gated recurrence, over the extended reals: the decay
  `exp (-8 * gate * softplus)` is a nonnegative real whatever the weights hold, such a factor
  distributes over every sum, and the two spellings of the input's scale agree.
-/
module

public import Idealize.ShloMosaic.Lib.Pointwise
public import Idealize.ShloMosaic.Lib.IdealHost

@[expose] public section

noncomputable section

namespace Mixer

open Idealize.ShloMosaic

/-- A factor that distributes over every sum of extended reals. -/
def Mild (a : EReal) : Prop := 0 ≤ a ∧ a ≠ ⊤

theorem Mild.coe {r : ℝ} (h : 0 ≤ r) : Mild (r : EReal) :=
  ⟨by exact_mod_cast h, EReal.coe_ne_top r⟩

theorem Mild.exists_coe {a : EReal} (h : Mild a) : ∃ r : ℝ, 0 ≤ r ∧ a = (r : EReal) := by
  obtain ⟨h0, ht⟩ := h
  induction a with
  | bot => exact absurd h0 (by simp)
  | top => exact absurd rfl ht
  | coe r => exact ⟨r, by exact_mod_cast h0, rfl⟩

theorem Mild.mul {a b : EReal} (ha : Mild a) (hb : Mild b) : Mild (a * b) := by
  obtain ⟨x, hx, rfl⟩ := ha.exists_coe
  obtain ⟨y, hy, rfl⟩ := hb.exists_coe
  rw [← EReal.coe_mul]
  exact Mild.coe (mul_nonneg hx hy)

theorem Mild.one : Mild (1 : EReal) := by
  rw [show (1 : EReal) = ((1 : ℝ) : EReal) by norm_cast]
  exact Mild.coe zero_le_one

theorem Mild.mul_add {a : EReal} (ha : Mild a) (x y : EReal) : a * (x + y) = a * x + a * y := by
  obtain ⟨h0, ht⟩ := ha
  exact EReal.left_distrib_of_nonneg_of_ne_top h0 ht x y

/-! ## The gates -/

theorem exp_bot : Ideal.exp ⊥ = 0 := rfl
theorem exp_top : Ideal.exp ⊤ = ⊤ := rfl
theorem exp_coe (r : ℝ) : Ideal.exp (r : EReal) = ((Real.exp r : ℝ) : EReal) := rfl
theorem tanh_bot : Ideal.tanh ⊥ = -1 := rfl
theorem tanh_top : Ideal.tanh ⊤ = 1 := rfl
theorem tanh_coe (r : ℝ) : Ideal.tanh (r : EReal) = ((Real.tanh r : ℝ) : EReal) := rfl
theorem log_top : Ideal.log ⊤ = ⊤ := rfl
theorem log_coe (r : ℝ) : Ideal.log (r : EReal) = if r ≤ 0 then ⊥ else ((Real.log r : ℝ) : EReal) := rfl

theorem logistic_nonneg (x : EReal) : 0 ≤ Ideal.logistic x := by
  induction x with
  | bot => simp
  | top => simp
  | coe r =>
    rw [Ideal.logistic_coe]
    exact_mod_cast inv_nonneg.mpr (add_nonneg zero_le_one (Real.exp_pos _).le)

theorem exp_nonneg (x : EReal) : 0 ≤ Ideal.exp x := by
  induction x with
  | bot => rw [exp_bot]
  | top => rw [exp_top]; exact le_top
  | coe r => rw [exp_coe]; exact_mod_cast (Real.exp_pos r).le

theorem log_nonneg {x : EReal} (h : 1 ≤ x) : 0 ≤ Ideal.log x := by
  induction x with
  | bot => exact absurd h (not_le.mpr (EReal.bot_lt_coe 1))
  | top => rw [log_top]; exact le_top
  | coe r =>
    have h1 : (1 : ℝ) ≤ r := by exact_mod_cast h
    have h0 : ¬ r ≤ 0 := by linarith
    rw [log_coe, if_neg h0]
    exact_mod_cast Real.log_nonneg h1

/-- The softplus of `-l`. -/
def spl (l : EReal) : EReal :=
  max (-l) 0 + Ideal.log (1 + Ideal.exp (-(max (-l) (-(-l)))))

theorem spl_nonneg (l : EReal) : 0 ≤ spl l := by
  refine add_nonneg (le_max_right _ _) (log_nonneg ?_)
  calc (1 : EReal) = 1 + 0 := (add_zero 1).symm
    _ ≤ _ := by gcongr; exact exp_nonneg _

/-- The pattern of minus eight. -/
theorem ofBits_neg_eight : Ideal.ofBits .f32 0xC1000000#32 = ((-8 : ℝ) : EReal) := by
  simp [Ideal.ofBits, Ideal.ieee, -EReal.coe_mul, -EReal.coe_neg]; norm_num

theorem ofBits_two : Ideal.ofBits .f32 0x40000000#32 = ((2 : ℝ) : EReal) := by
  simp [Ideal.ofBits, Ideal.ieee, -EReal.coe_mul]; norm_num

/-- The decay's logarithm, of the gate's pre-activation `p` and the weight `l`. -/
def logDecay (p l : EReal) : EReal := Ideal.ofBits .f32 0xC1000000#32 * Ideal.logistic p * spl l

theorem logDecay_nonpos (p l : EReal) : logDecay p l ≤ 0 := by
  unfold logDecay
  rw [ofBits_neg_eight, mul_assoc]
  have h : 0 ≤ Ideal.logistic p * spl l := mul_nonneg (logistic_nonneg p) (spl_nonneg l)
  have h8 : ((-8 : ℝ) : EReal) = -((8 : ℝ) : EReal) := by rw [EReal.coe_neg]
  rw [h8, EReal.neg_mul, EReal.neg_le_zero]
  exact mul_nonneg (by norm_num) h

theorem exp_mild {x : EReal} (h : x ≤ 0) : Mild (Ideal.exp x) := by
  induction x with
  | bot => rw [exp_bot]; exact ⟨le_refl _, EReal.zero_ne_top⟩
  | top => exact absurd h (by simp)
  | coe r => exact Mild.coe (Real.exp_pos r).le

/-- The decay. -/
def decay (p l : EReal) : EReal := Ideal.exp (logDecay p l)

theorem decay_mild (p l : EReal) : Mild (decay p l) := exp_mild (logDecay_nonpos p l)

/-- `-tanh x * (e²ˣ + 1) = -(e²ˣ - 1)`, infinities included. -/
theorem neg_tanh_mul (x : EReal) :
    (0 - Ideal.tanh x) * (Ideal.exp x * Ideal.exp x + 1) = -Ideal.expm1 (((2 : ℝ) : EReal) * x) := by
  unfold Ideal.expm1
  induction x with
  | bot =>
    rw [EReal.coe_mul_bot_of_pos (by norm_num)]
    rw [exp_bot, tanh_bot]
    rw [show (0 : EReal) = ((0 : ℝ) : EReal) by norm_cast, show (1 : EReal) = ((1 : ℝ) : EReal) by norm_cast]
    simp only [← EReal.coe_mul, ← EReal.coe_sub, ← EReal.coe_add, ← EReal.coe_neg]
    norm_num
  | top =>
    rw [EReal.coe_mul_top_of_pos (by norm_num)]
    have h1 : (⊤ : EReal) - 1 = ⊤ := rfl
    have h2 : (0 : EReal) - 1 = ((-1 : ℝ) : EReal) := by
      rw [show (0 : EReal) = ((0 : ℝ) : EReal) by norm_cast, show (1 : EReal) = ((1 : ℝ) : EReal) by norm_cast,
        ← EReal.coe_sub]; norm_num
    have h3 : (⊤ : EReal) + 1 = ⊤ := rfl
    simp only [exp_top, tanh_top, EReal.top_mul_top, h1, h2, h3, EReal.neg_top]
    exact EReal.coe_mul_top_of_neg (by norm_num)
  | coe r =>
    simp only [exp_coe, tanh_coe, ← EReal.coe_mul]
    rw [show (0 : EReal) = ((0 : ℝ) : EReal) by norm_cast, show (1 : EReal) = ((1 : ℝ) : EReal) by norm_cast]
    simp only [← EReal.coe_mul, ← EReal.coe_sub, ← EReal.coe_add, ← EReal.coe_neg]
    congr 1
    rw [Real.tanh_eq_sinh_div_cosh, Real.sinh_eq, Real.cosh_eq]
    have he : Real.exp (2 * r) = Real.exp r * Real.exp r := by rw [← Real.exp_add]; ring_nf
    have hn : Real.exp (-r) = (Real.exp r)⁻¹ := Real.exp_neg r
    have hp : 0 < Real.exp r := Real.exp_pos r
    rw [he, hn]
    have : 0 < Real.exp r * Real.exp r + 1 := by positivity
    field_simp
    ring

/-- What is added to the state: the convolved input through its gate, times the scale. -/
def inject (x px pa l : EReal) : EReal :=
  x * Ideal.logistic px * Ideal.sqrt (-Ideal.expm1 (Ideal.ofBits .f32 0x40000000#32 * logDecay pa l))

/-! ## Eight rows at once

    Row `r` of a group holds an affine map `h ↦ a r * h + b r`. Three rounds of composing each row with
    the row one, two and four above leave row `r` the composition of rows `0` to `r`. -/

/-- The state after `r` rows of the group `a`, `b`, from `h`. -/
def seqState (a b : ℕ → EReal) (h : EReal) : ℕ → EReal
  | 0 => h
  | r + 1 => a r * seqState a b h r + b r

/-- One round: row `r` composed with the row `s` above it, if there is one. -/
def roundB (s : ℕ) (a b : ℕ → EReal) (r : ℕ) : EReal := b r + a r * (if s ≤ r then b (r - s) else 0)
def roundA (s : ℕ) (a : ℕ → EReal) (r : ℕ) : EReal := a r * (if s ≤ r then a (r - s) else 1)

/-- The rows `r - n + 1` to `r` composed (fewer at the group's head), applied to `h`. -/
def lastN (a b : ℕ → EReal) : ℕ → ℕ → EReal → EReal
  | 0, _, h => h
  | _ + 1, 0, h => a 0 * h + b 0
  | n + 1, r + 1, h => a (r + 1) * lastN a b n r h + b (r + 1)

theorem lastN_add (a b : ℕ → EReal) (m n r : ℕ) (h : EReal) :
    lastN a b (n + m) r h = if n ≤ r then lastN a b n r (lastN a b m (r - n) h) else lastN a b n r h := by
  induction n generalizing r with
  | zero => simp [lastN]
  | succ n ih =>
    rw [show n + 1 + m = (n + m) + 1 by omega]
    cases r with
    | zero => simp [lastN]
    | succ r =>
      simp only [lastN, ih r, Nat.add_le_add_iff_right, Nat.add_sub_add_right]
      split <;> rfl

theorem lastN_eq_seqState (a b : ℕ → EReal) (n r : ℕ) (hr : r < n) (h : EReal) :
    lastN a b n r h = seqState a b h (r + 1) := by
  induction n generalizing r with
  | zero => omega
  | succ n ih =>
    cases r with
    | zero => rfl
    | succ r => rw [lastN, ih r (by omega)]; rfl

/-- One round doubles the number of rows composed. -/
theorem round_lastN (a b A B : ℕ → EReal) (n : ℕ) (hA : ∀ r, Mild (A r))
    (h : ∀ r x, A r * x + B r = lastN a b n r x) (r : ℕ) (x : EReal) :
    roundA n A r * x + roundB n A B r = lastN a b (n + n) r x := by
  rw [lastN_add, roundA, roundB]
  split
  · rw [← h, ← h, (hA r).mul_add, mul_assoc, add_comm (B r), add_assoc]
  · rw [← h, mul_one, mul_zero, add_zero]

theorem roundA_mild (A : ℕ → EReal) (n : ℕ) (hA : ∀ r, Mild (A r)) (r : ℕ) : Mild (roundA n A r) := by
  unfold roundA
  split
  · exact (hA _).mul (hA _)
  · exact (hA _).mul Mild.one

/-- The three rounds, then one application: the state after row `r`. -/
theorem rounds_eq (a b : ℕ → EReal) (ha : ∀ r, Mild (a r)) (r : ℕ) (hr : r < 8) (x : EReal) :
    roundA 4 (roundA 2 (roundA 1 a)) r * x
        + roundB 4 (roundA 2 (roundA 1 a)) (roundB 2 (roundA 1 a) (roundB 1 a b)) r
      = seqState a b x (r + 1) := by
  have h1 : ∀ r x, a r * x + b r = lastN a b 1 r x := by
    intro r x; cases r <;> rfl
  have h2 := round_lastN a b a b 1 ha h1
  have h4 := round_lastN a b _ _ 2 (roundA_mild a 1 ha) h2
  have h8 := round_lastN a b _ _ 4 (roundA_mild _ 2 (roundA_mild a 1 ha)) h4
  rw [h8, lastN_eq_seqState a b _ r hr]

theorem seqState_congr {a b a' b' : ℕ → EReal} (h : EReal) (n : ℕ)
    (ha : ∀ r, r < n → a r = a' r) (hb : ∀ r, r < n → b r = b' r) :
    seqState a b h n = seqState a' b' h n := by
  induction n with
  | zero => rfl
  | succ n ih =>
    rw [seqState, seqState, ih (fun r hr => ha r (by omega)) (fun r hr => hb r (by omega)),
      ha n (by omega), hb n (by omega)]

end Mixer

end
-- ==== Proof.Spec.lean ====
/-
  The mixer as mathematics: rows of a stream, each row's normalised projection, the causal convolution
  within a sequence of 8192 rows, the gates, the recurrence restarted at each sequence, and the output.
  No tiling and no buffers: both programs are shown to hold these functions.
-/
module

public import proofs.«01_k».proof.Proof.GateMath

@[expose] public section

set_option maxRecDepth 16384

noncomputable section

namespace Mixer

open Idealize.ShloMosaic

/-- Channel `l` of block `b`. -/
def ch (b : Fin 8) (l : Fin 256) : Fin 2048 := ⟨b.val * 256 + l.val, by omega⟩

theorem ch_surj (k : Fin 2048) : ∃ (b : Fin 8) (l : Fin 256), k = ch b l :=
  ⟨⟨k.val / 256, by omega⟩, ⟨k.val % 256, by omega⟩, Fin.ext (by show k.val = k.val / 256 * 256 + k.val % 256; omega)⟩

/-- Channel `k` of the second half of the projection. -/
def hi (k : Fin 2048) : Fin 4096 := ⟨2048 + k.val, by omega⟩
def lo (k : Fin 2048) : Fin 4096 := ⟨k.val, by omega⟩

/-- What the mixer is given. -/
structure Given where
  x : ℕ → Fin 2048 → EReal
  g : Fin 2048 → EReal
  w : Fin 2048 → Fin 4096 → EReal
  cw : Fin 4 → Fin 2048 → EReal
  cb : Fin 2048 → EReal
  gx : Fin 8 → Fin 256 → Fin 256 → EReal
  gxb : Fin 2048 → EReal
  ga : Fin 8 → Fin 256 → Fin 256 → EReal
  gab : Fin 2048 → EReal
  l : Fin 2048 → EReal

/-- The approximated unit. -/
def unitVal (y : EReal) : EReal :=
  Ideal.ofBits .f32 0x3F000000#32 * y *
    (1 + Ideal.tanh (Ideal.ofBits .f32 0x3F4C422A#32 * (y + Ideal.ofBits .f32 0x3D372713#32 * (y * y * y))))

/-- The mean square of a row, kept from zero, and its reciprocal root. -/
def rms (x : Fin 2048 → EReal) : EReal :=
  Ideal.rsqrt (Ideal.div (∑ k : Fin 2048, x k * x k) (Ideal.ofBits .f32 0x45000000#32) + Ideal.ofBits .f32 0x358637BD#32)

/-- The mixer's arguments: the second of the two layers' projections. -/
def given (a0 : (⟨2, ![32768, 2048]⟩ : Shape).Idx → EReal) (a1 : (⟨1, ![2048]⟩ : Shape).Idx → EReal)
    (a2 : (⟨3, ![2, 2048, 4096]⟩ : Shape).Idx → EReal) (a3 : (⟨2, ![4, 2048]⟩ : Shape).Idx → EReal)
    (a4 : (⟨1, ![2048]⟩ : Shape).Idx → EReal) (a5 : (⟨3, ![8, 256, 256]⟩ : Shape).Idx → EReal)
    (a6 : (⟨1, ![2048]⟩ : Shape).Idx → EReal) (a7 : (⟨3, ![8, 256, 256]⟩ : Shape).Idx → EReal)
    (a8 a9 : (⟨1, ![2048]⟩ : Shape).Idx → EReal) : Given where
  x n k := a0 (ix2 ⟨n % 32768, Nat.mod_lt _ (by omega)⟩ k)
  g k := a1 (ix1 k)
  w k c := a2 (ix3 1 k c)
  cw j k := a3 (ix2 j k)
  cb k := a4 (ix1 k)
  gx b q l := a5 (ix3 b q l)
  gxb k := a6 (ix1 k)
  ga b q l := a7 (ix3 b q l)
  gab k := a8 (ix1 k)
  l k := a9 (ix1 k)

namespace Given

variable (I : Given)

/-- The normalised row. -/
def xn (n : ℕ) (k : Fin 2048) : EReal := I.x n k * rms (I.x n) * I.g k

/-- The projection. -/
def z (n : ℕ) (c : Fin 4096) : EReal := ∑ k : Fin 2048, I.xn n k * I.w k c
def y (n : ℕ) (k : Fin 2048) : EReal := I.z n (lo k)
def u (n : ℕ) (k : Fin 2048) : EReal := I.z n (hi k)

/-- The row `j` before row `n` in its sequence; zero before its head. -/
def prev (j n : ℕ) (k : Fin 2048) : EReal := if j ≤ n % 8192 then I.u (n - j) k else 0

/-- The convolved row. -/
def xc (n : ℕ) (k : Fin 2048) : EReal :=
  I.cb k + I.cw 3 k * I.u n k + I.cw 2 k * I.prev 1 n k + I.cw 1 k * I.prev 2 n k + I.cw 0 k * I.prev 3 n k

/-- The gates before their sigmoids. -/
def px (n : ℕ) (b : Fin 8) (l : Fin 256) : EReal := (∑ q : Fin 256, I.xc n (ch b q) * I.gx b q l) + I.gxb (ch b l)
def pa (n : ℕ) (b : Fin 8) (l : Fin 256) : EReal := (∑ q : Fin 256, I.xc n (ch b q) * I.ga b q l) + I.gab (ch b l)

/-- The decay and the injected input. -/
def a (n : ℕ) (b : Fin 8) (l : Fin 256) : EReal := decay (I.pa n b l) (I.l (ch b l))
def v (n : ℕ) (b : Fin 8) (l : Fin 256) : EReal := inject (I.xc n (ch b l)) (I.px n b l) (I.pa n b l) (I.l (ch b l))

/-- The state before row `n`. -/
def state (b : Fin 8) (l : Fin 256) : ℕ → EReal
  | 0 => 0
  | n + 1 => I.a n b l * (if n % 8192 = 0 then 0 else state b l n) + I.v n b l

/-- The output of row `n`. -/
def out (n : ℕ) (b : Fin 8) (l : Fin 256) : EReal := unitVal (I.y n (ch b l)) * I.state b l (n + 1)

/-- Inside one sequence the state is the recurrence run down from any row of it. -/
theorem seqState_rows (b : Fin 8) (l : Fin 256) (n : ℕ) (r : ℕ) (hr : n % 8192 + r < 8192) :
    seqState (fun q => I.a (n + q) b l) (fun q => I.v (n + q) b l) (if n % 8192 = 0 then 0 else I.state b l n) (r + 1)
      = I.state b l (n + r + 1) := by
  induction r with
  | zero => rfl
  | succ r ih =>
    show I.a (n + (r + 1)) b l * seqState _ _ _ (r + 1) + I.v (n + (r + 1)) b l = _
    rw [ih (by omega)]
    show _ = I.a (n + (r + 1)) b l * (if (n + (r + 1)) % 8192 = 0 then 0 else I.state b l (n + (r + 1)))
      + I.v (n + (r + 1)) b l
    rw [if_neg (by omega)]
    rfl

end Given

end Mixer

end
-- ==== Proof.RefRows.lean ====
/-
  The plain program's projection: the rows of its first stretch of operations, at coordinates.
-/
module

public import proofs.«01_k».proof.Proof.Spec
public import proofs.«01_k».proof.Proof.Gen.ReferenceIdeal.Run

@[expose] public section

set_option maxRecDepth 16384

noncomputable section

namespace Cert.ReferenceIdeal.Mix

open Idealize.ShloMosaic Idealize.ShloMosaic.TcCoe Cert.ReferenceIdeal Cert.ReferenceIdeal.Gen Mixer StableHlo

variable (V : Valuation τ sig (Elt Ideal))

/-- Row `t` of sequence `b`. -/
abbrev row (b : Fin 4) (t : Fin 8192) : ℕ := b.val * 8192 + t.val

/-- The arguments, as the mixer is given them. -/
def args : Given :=
  given (V (Proc.devRef .tc main_arg0)) (V (Proc.devRef .tc main_arg1)) (V (Proc.devRef .tc main_arg2))
    (V (Proc.devRef .tc main_arg3)) (V (Proc.devRef .tc main_arg4)) (V (Proc.devRef .tc main_arg5))
    (V (Proc.devRef .tc main_arg6)) (V (Proc.devRef .tc main_arg7)) (V (Proc.devRef .tc main_arg8))
    (V (Proc.devRef .tc main_arg9))

abbrev V1 : Valuation τ sig (Elt Ideal) := after hostOps0 V

theorem args_x (b : Fin 4) (t : Fin 8192) (k : Fin 2048) (h : b.val * 8192 + t.val < 32768) :
    (args V).x (row b t) k = V (Proc.devRef .tc main_arg0) (ix2 ⟨b.val * 8192 + t.val, h⟩ k) :=
  congrArg (fun r => V (Proc.devRef .tc main_arg0) (ix2 r k)) (Fin.ext (Nat.mod_eq_of_lt h))

/-- The sum a projection is. -/
def projSum (f g w : Fin 2048 → EReal) : EReal := ∑ x : Fin 2048, f x * rms f * g x * w x

/-- The projection of a row, spelled out. -/
theorem z_row (b : Fin 4) (t : Fin 8192) (k : Fin 4096) (h : b.val * 8192 + t.val < 32768) :
    (args V).z (row b t) k = projSum (fun q => V (Proc.devRef .tc main_arg0) (ix2 ⟨b.val * 8192 + t.val, h⟩ q))
      (fun q => V (Proc.devRef .tc main_arg1) (ix1 q)) (fun q => V (Proc.devRef .tc main_arg2) (ix3 1 q k)) := by
  have e : (args V).x (row b t) = fun q : Fin 2048 => V (Proc.devRef .tc main_arg0) (ix2 ⟨b.val * 8192 + t.val, h⟩ q) :=
    funext fun q => args_x V b t q h
  rw [← e]
  rfl

theorem V1_v31 (b : Fin 4) (t : Fin 8192) (k : Fin 2048) : V1 V (Proc.devRef .tc main_v31) (ix3 b t k) = unitVal ((args V).y (row b t) k) := by
  have e := z_row V b t (lo k) (by omega)
  unfold Given.y
  rw [e]
  unfold V1
  after_results
  pointwise [projSum, rms, lo, unitVal]
  generalize (∑ x : Fin 2048, _ : EReal) = s
  rw [← mul_assoc, mul_comm s]

theorem V1_v18 (b : Fin 4) (t : Fin 8192) (k : Fin 2048) : V1 V (Proc.devRef .tc main_v18) (ix3 b t k) = (args V).u (row b t) k := by
  have e := z_row V b t (hi k) (by omega)
  unfold Given.u
  rw [e]
  unfold V1
  after_results
  pointwise [projSum, rms, hi]

end Cert.ReferenceIdeal.Mix

end
-- ==== Proof.RefGates.lean ====
/-
  The plain program's convolution, gates, decay and injected input: what each stretch of operations leaves,
  at coordinates, from what the stretch before it left.
-/
module

public import proofs.«01_k».proof.Proof.RefRows
public import Idealize.ShloMosaic.Lib.KernelVsHost

@[expose] public section

set_option maxRecDepth 16384

noncomputable section

namespace Cert.ReferenceIdeal.Mix

open Idealize.ShloMosaic Idealize.ShloMosaic.TcCoe Cert.ReferenceIdeal Cert.ReferenceIdeal.Gen Mixer StableHlo

variable (W : Valuation τ sig (Elt Ideal))

theorem read_v32 (b : Fin 4) (r : Fin 8195) (k : Fin 2048) (hc : W (Proc.devRef .tc main_c) = constantI S_ 32 0#32) :
    after hostOps0_1 W (Proc.devRef .tc main_v32) (ix3 b r k) =
      if h : 3 ≤ r.val then W (Proc.devRef .tc main_v18) (ix3 b ⟨r.val - 3, by omega⟩ k) else (0 : EReal) := by
  after_results
  simp only [TRef.toBuf, TRef.ofBuf, cast_eq, hc]
  split
  · rename_i h
    refine pad_apply_of_inside _ _ _ _ _ _ _ _ _ fun a => ?_
    match a with
    | 0 => show b.val = 0 + b.val * 1; omega
    | 1 => show r.val = 3 + (r.val - 3) * 1; omega
    | 2 => show k.val = 0 + k.val * 1; omega
  · rename_i h
    refine (pad_apply_of_not_inside _ _ _ _ _ _ _ _ 1 fun h' => h h'.1).trans ?_
    show (((0#32 : BitVec 32).toInt : ℝ) : EReal) = 0
    simp

theorem read_v62 (b : Fin 4) (t : Fin 8192) (k : Fin 2048) (f : Fin 8195 → EReal) (hf : ∀ r, W (Proc.devRef .tc main_v32) (ix3 b r k) = f r)
    (cw : Fin 4 → EReal) (hcw : ∀ j, W (Proc.devRef .tc main_arg3) (ix2 j k) = cw j) (cb : EReal) (hcb : W (Proc.devRef .tc main_arg4) (ix1 k) = cb) :
    after hostOps0_2 W (Proc.devRef .tc main_v62) (ix3 b t k) =
      cw 0 * f ⟨t.val, by omega⟩ + cw 1 * f ⟨1 + t.val, by omega⟩ + cw 2 * f ⟨2 + t.val, by omega⟩ + cw 3 * f ⟨3 + t.val, by omega⟩ + cb := by
  after_results
  pointwise [hf, hcw, hcb]

/-- A gate before its sigmoid, of a convolved row. -/
def gateSum (f w : Fin 256 → EReal) (bias : EReal) : EReal := (∑ q : Fin 256, w q * f q) + bias

theorem read_v75 (b : Fin 4) (t : Fin 8192) (p : Fin 8) (l : Fin 256) (f : Fin 256 → EReal)
    (hf : ∀ q, after hostOps0_2 W (Proc.devRef .tc main_v62) (ix3 b t (ch p q)) = f q) :
    after hostOps0_2 W (Proc.devRef .tc main_v75) (ix3 b t (ch p l)) =
      Ideal.logistic (gateSum f (fun q => W (Proc.devRef .tc main_arg5) (ix3 p q l)) (W (Proc.devRef .tc main_arg6) (ix1 (ch p l)))) := by
  obtain rfl : _ = f := funext hf
  have h1 : (p.val * 256 + l.val) / 256 = p.val := by omega
  have h2 : (p.val * 256 + l.val) % 256 = l.val := by omega
  after_results
  pointwise [ch, gateSum, Ideal.logistic, h1, h2]

theorem read_v89 (b : Fin 4) (t : Fin 8192) (p : Fin 8) (l : Fin 256) (f : Fin 256 → EReal)
    (hf : ∀ q, after hostOps0_2 W (Proc.devRef .tc main_v62) (ix3 b t (ch p q)) = f q) :
    after hostOps0_2 W (Proc.devRef .tc main_v89) (ix3 b t (ch p l)) =
      Ideal.ofBits .f32 0xC1000000#32 * Ideal.logistic (gateSum f (fun q => W (Proc.devRef .tc main_arg7) (ix3 p q l)) (W (Proc.devRef .tc main_arg8) (ix1 (ch p l)))) := by
  obtain rfl : _ = f := funext hf
  have h1 : (p.val * 256 + l.val) / 256 = p.val := by omega
  have h2 : (p.val * 256 + l.val) % 256 = l.val := by omega
  after_results
  pointwise [ch, gateSum, Ideal.logistic, h1, h2]

theorem read_v90 (k : Fin 2048) (l : EReal) (hl : W (Proc.devRef .tc main_arg9) (ix1 k) = l) :
    after hostOps0_2 W (Proc.devRef .tc main_v90) (ix1 k) = -l := by
  after_results
  pointwise [hl]

theorem read_v91 (k : Fin 2048) (l : EReal) (hl : W (Proc.devRef .tc main_v90) (ix1 k) = -l) :
    after hostOps0_3 W (Proc.devRef .tc main_v91) (ix1 k) = spl l := by
  after_results
  simp only [TRef.toBuf, TRef.ofBuf, cast_eq]
  pointwise [hl, spl, Ideal.log1p]
  exact if_neg fun h => h rfl

theorem read_a (b : Fin 4) (t : Fin 8192) (k : Fin 2048) (g s : EReal) (hg : W (Proc.devRef .tc main_v89) (ix3 b t k) = g)
    (hs : W (Proc.devRef .tc main_v91) (ix1 k) = s) :
    after hostOps0_4 W (Proc.devRef .tc main_v108_0) (ix3 t b k) = Ideal.exp (g * s) := by
  after_results
  simp only [id_eq]
  pointwise [hg, hs]

theorem read_v (b : Fin 4) (t : Fin 8192) (k : Fin 2048) (x h g s : EReal) (hx : W (Proc.devRef .tc main_v62) (ix3 b t k) = x)
    (hh : W (Proc.devRef .tc main_v75) (ix3 b t k) = h) (hg : W (Proc.devRef .tc main_v89) (ix3 b t k) = g)
    (hs : W (Proc.devRef .tc main_v91) (ix1 k) = s) :
    after hostOps0_4 W (Proc.devRef .tc main_v108_1) (ix3 t b k) =
      x * h * Ideal.sqrt (-(Ideal.expm1 (Ideal.ofBits .f32 0x40000000#32 * (g * s)))) := by
  after_results
  simp only [id_eq]
  pointwise [hx, hh, hg, hs]
  rfl

theorem read_y (b : Fin 4) (t : Fin 8192) (k : Fin 2048) :
    after hostOps0_4 W (Proc.devRef .tc main_v108_2) (ix3 t b k) = W (Proc.devRef .tc main_v31) (ix3 b t k) := by
  after_results
  simp only [id_eq]
  pointwise

theorem read_state (b : Fin 4) (k : Fin 2048) : after hostOps0_4 W (Proc.devRef .tc main_v108_4) (ix2 b k) = (0 : EReal) := by
  after_results
  simp only [id_eq]
  pointwise

end Cert.ReferenceIdeal.Mix

end
-- ==== Proof.RefLoop.lean ====
/-
  The plain program's loop: after `k` trips the state it carries is the recurrence's before row `k` of each
  sequence, and the rows written are the first `k`.
-/
module

public import proofs.«01_k».proof.Proof.RefRows
public import Idealize.ShloMosaic.Lib.DynamicIndex
public import Idealize.ShloMosaic.Lib.WordArith.Masks

@[expose] public section

set_option maxRecDepth 16384

noncomputable section

namespace Cert.ReferenceIdeal.Mix

open Idealize.ShloMosaic Idealize.ShloMosaic.TcCoe Cert.ReferenceIdeal Cert.ReferenceIdeal.Gen Mixer StableHlo
open Cert.ReferenceIdeal.Value

/-- The block the loop reads at trip `t` is row `t` of every sequence. -/
theorem slice_read (x : S8192x4x2048.Idx → EReal) (start : Fin 3 → Int) (t : Fin 8192) (h0 : start 0 = t.val) (h1 : start 1 = 0)
    (h2 : start 2 = 0) (b : Fin 4) (k : Fin 2048) :
    shapeCast S4x2048 (Host.dynamicSlice S1x4x2048 x start sliceFits_S8192x4x2048_S1x4x2048) shapeCasts_S1x4x2048_S4x2048 (ix2 b k)
      = x (ix3 t b k) := by
  rw [Host.dynamicSlice_eq_extractStridedSlice S1x4x2048 x start ![t.val, 0, 0] sliceFits_S8192x4x2048_S1x4x2048
    ⟨rfl, fun a => by match a with
      | 0 => show t.val + 1 ≤ 8192; omega
      | 1 => show 0 + 4 ≤ 4; omega
      | 2 => show 0 + 2048 ≤ 2048; omega⟩
    fun a => by match a with
      | 0 => exact h0
      | 1 => exact h1
      | 2 => exact h2]
  pointwise

/-- The block it writes at trip `t` is row `t` of every sequence, and the other rows are kept. -/
theorem update_read (x : S8192x4x2048.Idx → EReal) (y : S4x2048.Idx → EReal) (start : Fin 3 → Int) (t : Fin 8192) (h0 : start 0 = t.val)
    (h1 : start 1 = 0) (h2 : start 2 = 0) (n : Fin 8192) (b : Fin 4) (k : Fin 2048) :
    Host.dynamicUpdateSlice x (broadcastInDim S1x4x2048 ![1, 2] bcast_S4x2048_S1x4x2048_1_2 y) start sliceFits_S8192x4x2048_S1x4x2048 (ix3 n b k)
      = if n = t then y (ix2 b k) else x (ix3 n b k) := by
  have hs : S8192x4x2048.Slices ![t.val, 0, 0] S1x4x2048 := ⟨rfl, fun a => by match a with
      | 0 => show t.val + 1 ≤ 8192; omega
      | 1 => show 0 + 4 ≤ 4; omega
      | 2 => show 0 + 2048 ≤ 2048; omega⟩
  rw [Host.dynamicUpdateSlice_eq_updateSlice x _ start sliceFits_S8192x4x2048_S1x4x2048 ![t.val, 0, 0] (fun a => by match a with
      | 0 => show (min (max (start 0) 0) ((8192 - 1 : ℕ) : Int)).toNat = t.val; omega
      | 1 => show (min (max (start 1) 0) ((4 - 4 : ℕ) : Int)).toNat = 0; omega
      | 2 => show (min (max (start 2) 0) ((2048 - 2048 : ℕ) : Int)).toNat = 0; omega) hs]
  rw [updateSlice_apply]
  split
  · rename_i h
    have e0 := h 0
    have e : n = t := Fin.ext (by
      have a : t.val ≤ n.val := e0.1
      have b : n.val < t.val + 1 := e0.2
      omega)
    rw [if_pos e]
    pointwise
  · rename_i h
    refine (if_neg fun e => h fun a => ?_).symm
    rw [e]
    match a with
    | 0 => exact ⟨Nat.le_refl _, Nat.lt_succ_self _⟩
    | 1 => exact ⟨Nat.zero_le _, by show b.val < 0 + 4; omega⟩
    | 2 => exact ⟨Nat.zero_le _, by show k.val < 0 + 2048; omega⟩

/-- The counter's word at trip `t` is `t`. -/
theorem ctr_val (t : ℕ) (ht : t < 8192) : (Scf.iv 0#32 1#32 t).toInt = t := by
  have h := WordArith.toNat_iv_zero_one t (by omega)
  rw [BitVec.toInt_eq_toNat_of_lt (by rw [h]; omega), h]

/-- What the loop holds after `k` trips, of decays `A`, injected inputs `B` and output gates `G`. -/
structure Held (A B G : Fin 8192 → Fin 4 → Fin 2048 → EReal) (k : ℕ) (S : Valuation τ sig (Elt Ideal)) : Prop where
  a : ∀ t b c, S (Proc.devRef .tc main_v108_0) (ix3 t b c) = A t b c
  v : ∀ t b c, S (Proc.devRef .tc main_v108_1) (ix3 t b c) = B t b c
  y : ∀ t b c, S (Proc.devRef .tc main_v108_2) (ix3 t b c) = G t b c
  ctr : S (Proc.devRef .tc main_v108_3) = fun _ => Scf.iv 0#32 1#32 k

variable {A B G : Fin 8192 → Fin 4 → Fin 2048 → EReal}

/-- One trip keeps what it reads, and steps the state. -/
theorem held_step (k : ℕ) (S : Valuation τ sig (Elt Ideal)) (h : Held A B G k S) : Held A B G (k + 1) (STEP S) where
  a t b c := by rw [STEP_main_v108_0]; exact h.a t b c
  v t b c := by rw [STEP_main_v108_1]; exact h.v t b c
  y t b c := by rw [STEP_main_v108_2]; exact h.y t b c
  ctr := by
    rw [STEP_main_v108_3]
    unfold step_main_v108_3
    rw [h.ctr, Scf.iv_succ]
    rfl

theorem state_eq (k : ℕ) (hk : k < 8192) (S : Valuation τ sig (Elt Ideal)) (h : Held A B G k S) (b : Fin 4) (c : Fin 2048) (s : EReal)
    (hs : S (Proc.devRef .tc main_v108_4) (ix2 b c) = s) :
    res_main_while0b_v116 S (ix2 b c) = A ⟨k, hk⟩ b c * s + B ⟨k, hk⟩ b c := by
  have hc : (S (Proc.devRef .tc main_v108_3) (Shape.Idx.first h_S_)).toInt = k := by
    rw [h.ctr]; exact ctr_val k hk
  unfold res_main_while0b_v116
  refine (congrArg₂ (· + ·) (congrArg₂ (· * ·) ((slice_read _ _ ⟨k, hk⟩ hc rfl rfl b c).trans (h.a _ b c)) hs)
    ((slice_read _ _ ⟨k, hk⟩ hc rfl rfl b c).trans (h.v _ b c)))

theorem step_state (k : ℕ) (hk : k < 8192) (S : Valuation τ sig (Elt Ideal)) (h : Held A B G k S) (b : Fin 4) (c : Fin 2048) (s : EReal)
    (hs : S (Proc.devRef .tc main_v108_4) (ix2 b c) = s) :
    STEP S (Proc.devRef .tc main_v108_4) (ix2 b c) = A ⟨k, hk⟩ b c * s + B ⟨k, hk⟩ b c := by
  rw [STEP_main_v108_4]
  exact state_eq k hk S h b c s hs

theorem step_out (k : ℕ) (hk : k < 8192) (S : Valuation τ sig (Elt Ideal)) (h : Held A B G k S) (n : Fin 8192) (b : Fin 4) (c : Fin 2048) (s : EReal)
    (hs : S (Proc.devRef .tc main_v108_4) (ix2 b c) = s) :
    STEP S (Proc.devRef .tc main_v108_5) (ix3 n b c) =
      if n = ⟨k, hk⟩ then G ⟨k, hk⟩ b c * (A ⟨k, hk⟩ b c * s + B ⟨k, hk⟩ b c) else S (Proc.devRef .tc main_v108_5) (ix3 n b c) := by
  have hc : (S (Proc.devRef .tc main_v108_3) (Shape.Idx.first h_S_)).toInt = k := by
    rw [h.ctr]; exact ctr_val k hk
  rw [STEP_main_v108_5]
  unfold step_main_v108_5
  refine (update_read _ _ _ ⟨k, hk⟩ hc rfl rfl n b c).trans ?_
  refine congrArg (fun z => if n = ⟨k, hk⟩ then z else S (Proc.devRef .tc main_v108_5) (ix3 n b c)) ?_
  exact congrArg₂ (· * ·) ((slice_read _ _ ⟨k, hk⟩ hc rfl rfl b c).trans (h.y _ b c)) (state_eq k hk S h b c s hs)

/-- The recurrence of one channel of one sequence, and the loop after `k` trips. -/
def run1 (A B : Fin 8192 → Fin 4 → Fin 2048 → EReal) (b : Fin 4) (c : Fin 2048) : ℕ → EReal
  | 0 => 0
  | t + 1 => if h : t < 8192 then A ⟨t, h⟩ b c * run1 A B b c t + B ⟨t, h⟩ b c else run1 A B b c t

theorem run1_succ (b : Fin 4) (c : Fin 2048) (k : ℕ) (hk : k < 8192) :
    run1 A B b c (k + 1) = A ⟨k, hk⟩ b c * run1 A B b c k + B ⟨k, hk⟩ b c := by
  rw [run1, dif_pos hk]

theorem loop (S : Valuation τ sig (Elt Ideal)) (h : Held A B G 0 S) (h0 : ∀ b c, S (Proc.devRef .tc main_v108_4) (ix2 b c) = (0 : EReal)) (k : ℕ)
    (hk : k ≤ 8192) :
    Held A B G k (STEP^[k] S) ∧ (∀ b c, (STEP^[k] S) (Proc.devRef .tc main_v108_4) (ix2 b c) = run1 A B b c k) ∧
      ∀ (n : Fin 8192) b c, n.val < k → (STEP^[k] S) (Proc.devRef .tc main_v108_5) (ix3 n b c) = G n b c * run1 A B b c (n.val + 1) := by
  induction k with
  | zero => exact ⟨h, h0, fun n b c hn => absurd hn (Nat.not_lt_zero _)⟩
  | succ k ih =>
    obtain ⟨h1, h2, h3⟩ := ih (by omega)
    have hk' : k < 8192 := by omega
    rw [Function.iterate_succ_apply']
    refine ⟨held_step k _ h1, fun b c => (step_state k hk' _ h1 b c _ (h2 b c)).trans (run1_succ b c k hk').symm, fun n b c hn => ?_⟩
    refine (step_out k hk' _ h1 n b c _ (h2 b c)).trans ?_
    by_cases e : n = ⟨k, hk'⟩
    · rw [if_pos e, e]
      exact congrArg (G ⟨k, hk'⟩ b c * ·) (run1_succ b c k hk').symm
    · rw [if_neg e]
      refine h3 n b c ?_
      have : n.val ≠ k := fun e' => e (Fin.ext e')
      omega

end Cert.ReferenceIdeal.Mix

end
-- ==== Proof.RefValue.lean ====
/-
  The plain program's result, row by row, is the mixer's.
-/
module

public import proofs.«01_k».proof.Proof.RefGates
public import proofs.«01_k».proof.Proof.RefLoop

@[expose] public section

set_option maxRecDepth 16384

noncomputable section

namespace Cert.ReferenceIdeal.Mix

open Idealize.ShloMosaic Idealize.ShloMosaic.TcCoe Cert.ReferenceIdeal Cert.ReferenceIdeal.Gen Mixer StableHlo
open Cert.ReferenceIdeal.Value

variable (V : Valuation τ sig (Elt Ideal))

/-- The contents after each stretch before the loop. -/
def V2 : Valuation τ sig (Elt Ideal) := after hostOps0_1 (V1 V)
def V3 : Valuation τ sig (Elt Ideal) := after hostOps0_2 (V2 V)
def V4 : Valuation τ sig (Elt Ideal) := after hostOps0_3 (V3 V)
def V5 : Valuation τ sig (Elt Ideal) := after hostOps0_4 (V4 V)

theorem V1_c : V1 V (Proc.devRef .tc main_c) = constantI S_ 32 0#32 := by
  unfold V1
  after_results

theorem V2_v32 (b : Fin 4) (r : Fin 8195) (k : Fin 2048) :
    V2 V (Proc.devRef .tc main_v32) (ix3 b r k) = if 3 ≤ r.val then (args V).u (b.val * 8192 + (r.val - 3)) k else 0 := by
  refine (read_v32 (V1 V) b r k (V1_c V)).trans ?_
  by_cases h : 3 ≤ r.val
  · rw [dif_pos h, if_pos h]
    exact V1_v18 V b ⟨r.val - 3, by omega⟩ k
  · rw [dif_neg h, if_neg h]

theorem V2_arg3 : V2 V (Proc.devRef .tc main_arg3) = V (Proc.devRef .tc main_arg3) :=
  (keep_main_arg3_hostOps0_1 _).trans (keep_main_arg3_hostOps0 _)
theorem V2_arg4 : V2 V (Proc.devRef .tc main_arg4) = V (Proc.devRef .tc main_arg4) :=
  (keep_main_arg4_hostOps0_1 _).trans (keep_main_arg4_hostOps0 _)
theorem V2_arg5 : V2 V (Proc.devRef .tc main_arg5) = V (Proc.devRef .tc main_arg5) :=
  (keep_main_arg5_hostOps0_1 _).trans (keep_main_arg5_hostOps0 _)
theorem V2_arg6 : V2 V (Proc.devRef .tc main_arg6) = V (Proc.devRef .tc main_arg6) :=
  (keep_main_arg6_hostOps0_1 _).trans (keep_main_arg6_hostOps0 _)
theorem V2_arg7 : V2 V (Proc.devRef .tc main_arg7) = V (Proc.devRef .tc main_arg7) :=
  (keep_main_arg7_hostOps0_1 _).trans (keep_main_arg7_hostOps0 _)
theorem V2_arg8 : V2 V (Proc.devRef .tc main_arg8) = V (Proc.devRef .tc main_arg8) :=
  (keep_main_arg8_hostOps0_1 _).trans (keep_main_arg8_hostOps0 _)
theorem V2_arg9 : V2 V (Proc.devRef .tc main_arg9) = V (Proc.devRef .tc main_arg9) :=
  (keep_main_arg9_hostOps0_1 _).trans (keep_main_arg9_hostOps0 _)

theorem prev_eq (I : Given) (j : ℕ) (hj : j ≤ 3) (b : Fin 4) (t : Fin 8192) (k : Fin 2048) :
    (if 3 ≤ 3 - j + t.val then I.u (b.val * 8192 + (3 - j + t.val - 3)) k else 0) = I.prev j (row b t) k := by
  have e : row b t % 8192 = t.val := by show (b.val * 8192 + t.val) % 8192 = t.val; omega
  unfold Given.prev
  rw [e]
  by_cases h : j ≤ t.val
  · rw [if_pos h, if_pos (by omega)]
    have e2 : b.val * 8192 + (3 - j + t.val - 3) = row b t - j := by
      show b.val * 8192 + (3 - j + t.val - 3) = b.val * 8192 + t.val - j
      omega
    rw [e2]
  · rw [if_neg h, if_neg (by omega)]

theorem V3_v62 (b : Fin 4) (t : Fin 8192) (k : Fin 2048) :
    V3 V (Proc.devRef .tc main_v62) (ix3 b t k) = (args V).xc (row b t) k := by
  refine (read_v62 (V2 V) b t k _ (fun r => V2_v32 V b r k) ((args V).cw · k) (fun j => by rw [V2_arg3]; rfl) ((args V).cb k)
    (by rw [V2_arg4]; rfl)).trans ?_
  have h0 : (args V).u (row b t) k = (args V).prev 0 (row b t) k := by
    unfold Given.prev
    rw [if_pos (Nat.zero_le _)]
    rfl
  have h3 := prev_eq (args V) 3 (by omega) b t k
  have h2 := prev_eq (args V) 2 (by omega) b t k
  have h1 := prev_eq (args V) 1 (by omega) b t k
  have h0' := prev_eq (args V) 0 (by omega) b t k
  simp only [Nat.sub_self, Nat.zero_add, Nat.reduceSub, Nat.sub_zero] at h3 h2 h1 h0'
  unfold Given.xc
  rw [h0, ← h0', ← h1, ← h2, ← h3]
  simp only []
  abel

theorem gate_comm (f w : Fin 256 → EReal) (c : EReal) : gateSum f w c = (∑ q : Fin 256, f q * w q) + c := by
  unfold gateSum
  simp only [mul_comm]

theorem V3_v75 (b : Fin 4) (t : Fin 8192) (p : Fin 8) (l : Fin 256) :
    V3 V (Proc.devRef .tc main_v75) (ix3 b t (ch p l)) = Ideal.logistic ((args V).px (row b t) p l) := by
  refine (read_v75 (V2 V) b t p l _ (fun q => V3_v62 V b t (ch p q))).trans ?_
  rw [gate_comm, V2_arg5, V2_arg6]
  rfl

theorem V3_v89 (b : Fin 4) (t : Fin 8192) (p : Fin 8) (l : Fin 256) :
    V3 V (Proc.devRef .tc main_v89) (ix3 b t (ch p l)) = Ideal.ofBits .f32 0xC1000000#32 * Ideal.logistic ((args V).pa (row b t) p l) := by
  refine (read_v89 (V2 V) b t p l _ (fun q => V3_v62 V b t (ch p q))).trans ?_
  rw [gate_comm, V2_arg7, V2_arg8]
  rfl

theorem V4_v91 (k : Fin 2048) : V4 V (Proc.devRef .tc main_v91) (ix1 k) = spl ((args V).l k) :=
  read_v91 (V3 V) k _ (read_v90 (V2 V) k _ (by rw [V2_arg9]; rfl))

theorem V4_v62 : V4 V (Proc.devRef .tc main_v62) = V3 V (Proc.devRef .tc main_v62) :=
  after_of_writes_sub hostOps0_3 _ hostOps0_3_writes (by decide +kernel)
theorem V4_v75 : V4 V (Proc.devRef .tc main_v75) = V3 V (Proc.devRef .tc main_v75) :=
  after_of_writes_sub hostOps0_3 _ hostOps0_3_writes (by decide +kernel)
theorem V4_v89 : V4 V (Proc.devRef .tc main_v89) = V3 V (Proc.devRef .tc main_v89) :=
  after_of_writes_sub hostOps0_3 _ hostOps0_3_writes (by decide +kernel)
theorem V4_v31 : V4 V (Proc.devRef .tc main_v31) = V1 V (Proc.devRef .tc main_v31) :=
  (after_of_writes_sub hostOps0_3 _ hostOps0_3_writes (by decide +kernel)).trans
    ((after_of_writes_sub hostOps0_2 _ hostOps0_2_writes (by decide +kernel)).trans
      (after_of_writes_sub hostOps0_1 _ hostOps0_1_writes (by decide +kernel)))

/-- The block and the lane of a channel. -/
abbrev blk (c : Fin 2048) : Fin 8 := ⟨c.val / 256, by omega⟩
abbrev lane (c : Fin 2048) : Fin 256 := ⟨c.val % 256, by omega⟩

theorem ch_blk (c : Fin 2048) : ch (blk c) (lane c) = c := Fin.ext (by show c.val / 256 * 256 + c.val % 256 = c.val; omega)

theorem entry_a (t : Fin 8192) (b : Fin 4) (c : Fin 2048) :
    V5 V (Proc.devRef .tc main_v108_0) (ix3 t b c) = (args V).a (row b t) (blk c) (lane c) := by
  have h := V3_v89 V b t (blk c) (lane c)
  rw [ch_blk] at h
  refine (read_a (V4 V) b t c _ _ ((congrFun (V4_v89 V) _).trans h) (V4_v91 V c)).trans ?_
  unfold Given.a
  rw [ch_blk]
  rfl

theorem entry_v (t : Fin 8192) (b : Fin 4) (c : Fin 2048) :
    V5 V (Proc.devRef .tc main_v108_1) (ix3 t b c) = (args V).v (row b t) (blk c) (lane c) := by
  have h := V3_v89 V b t (blk c) (lane c)
  have h' := V3_v75 V b t (blk c) (lane c)
  rw [ch_blk] at h h'
  refine (read_v (V4 V) b t c _ _ _ _ ((congrFun (V4_v62 V) _).trans (V3_v62 V b t c)) ((congrFun (V4_v75 V) _).trans h')
    ((congrFun (V4_v89 V) _).trans h) (V4_v91 V c)).trans ?_
  unfold Given.v
  rw [ch_blk]
  rfl

theorem entry_y (t : Fin 8192) (b : Fin 4) (c : Fin 2048) :
    V5 V (Proc.devRef .tc main_v108_2) (ix3 t b c) = unitVal ((args V).y (row b t) c) :=
  (read_y (V4 V) b t c).trans ((congrFun (V4_v31 V) _).trans (V1_v31 V b t c))

theorem entry_held (hc : V5 V (Proc.devRef .tc main_v108_3) = fun _ => (0#32 : BitVec 32)) :
    Held (fun t b c => (args V).a (row b t) (blk c) (lane c)) (fun t b c => (args V).v (row b t) (blk c) (lane c))
      (fun t b c => unitVal ((args V).y (row b t) c)) 0 (V5 V) where
  a := entry_a V
  v := entry_v V
  y := entry_y V
  ctr := by rw [hc, Scf.iv_zero]

theorem state_first (I : Given) (p : Fin 8) (l : Fin 256) (n : ℕ) (h : n % 8192 = 0) :
    I.state p l (n + 1) = I.a n p l * 0 + I.v n p l := by
  rw [Given.state, if_pos h]

theorem state_next (I : Given) (p : Fin 8) (l : Fin 256) (n : ℕ) (h : ¬n % 8192 = 0) :
    I.state p l (n + 1) = I.a n p l * I.state p l n + I.v n p l := by
  rw [Given.state, if_neg h]

/-- The loop's recurrence is the mixer's state inside the sequence. -/
theorem run1_eq (I : Given) (b : Fin 4) (c : Fin 2048) (k : ℕ) (hk : k < 8192) :
    run1 (fun t b c => I.a (row b t) (blk c) (lane c)) (fun t b c => I.v (row b t) (blk c) (lane c)) b c (k + 1)
      = I.state (blk c) (lane c) (b.val * 8192 + k + 1) := by
  induction k with
  | zero =>
    have h := state_first I (blk c) (lane c) (b.val * 8192) (by omega)
    rw [run1_succ b c 0 hk, Nat.add_zero, h, run1]
    have e : row b ⟨0, hk⟩ = b.val * 8192 := Nat.add_zero _
    simp only [e]
  | succ k ih =>
    have h := state_next I (blk c) (lane c) (b.val * 8192 + k + 1) (by omega)
    rw [run1_succ b c (k + 1) hk, ih (by omega), ← Nat.add_assoc, h]
    have e : row b ⟨k + 1, hk⟩ = b.val * 8192 + k + 1 := (Nat.add_assoc _ _ _).symm
    simp only [e]

theorem result_row (hc : V5 V (Proc.devRef .tc main_v108_3) = fun _ => (0#32 : BitVec 32)) (n : Fin 32768) (p : Fin 8) (l : Fin 256) :
    out_main_v111 (STEP^[8192] (V5 V)) (ix2 n (ch p l)) = (args V).out n.val p l := by
  have h := (loop (V5 V) (entry_held V hc) (fun b c => read_state (V4 V) b c) 8192 (Nat.le_refl _)).2.2 ⟨n.val % 8192, by omega⟩ ⟨n.val / 8192, by omega⟩ (ch p l)
    (by show n.val % 8192 < 8192; omega)
  have e : out_main_v111 (STEP^[8192] (V5 V)) (ix2 n (ch p l)) =
      (STEP^[8192] (V5 V)) (Proc.devRef .tc main_v108_5) (ix3 ⟨n.val % 8192, by omega⟩ ⟨n.val / 8192, by omega⟩ (ch p l)) := by
    generalize STEP^[8192] (V5 V) = S
    unfold out_main_v111
    pointwise [ch]
  rw [e, h, run1_eq _ _ _ _ (by omega)]
  have e1 : n.val / 8192 * 8192 + n.val % 8192 = n.val := by omega
  have eb : blk (ch p l) = p := Fin.ext (by show (p.val * 256 + l.val) / 256 = p.val; omega)
  have el : lane (ch p l) = l := Fin.ext (by show (p.val * 256 + l.val) % 256 = l.val; omega)
  show unitVal ((args V).y (n.val / 8192 * 8192 + n.val % 8192) _) * (args V).state _ _ (n.val / 8192 * 8192 + n.val % 8192 + 1) = _
  rw [e1, eb, el]
  rfl

end Cert.ReferenceIdeal.Mix

end
-- ==== Proof.Block.lean ====
/-
  What one block of 256 channels does at one grid point, as functions of the values it loads: the
  causal convolution, the two gates, the decay and the injected input, three rounds composing the eight
  rows of a group, the walk over the 32 groups, and the gated output. Every one of the eight blocks of
  a point stores these functions of its own columns.
-/
module

public import proofs.«01_k».proof.Proof.Gen.KernelIdeal.Value

@[expose] public section

set_option maxRecDepth 16384

noncomputable section

namespace Cert.KernelIdeal.Mix

open Idealize.ShloMosaic Idealize.ShloMosaic.TcCoe Cert.KernelIdeal Cert.KernelIdeal.Gen

variable {F : FTy → Type} [FloatOps F]

/-- Whether the tile a point scans opens a sequence, as the program computes it from the point. -/
def starts (i : grid0.Coords) : BitVec 1 :=
  let prev : BitVec 32 := Scalar.maxsi (Scalar.subi (BitVec.ofNat 32 (i 0).val) 1#32) 0#32
  let per : BitVec 32 := Scalar.select (Scalar.cmpi .eq 32#32 0#32) 1#32 32#32
  let rem : BitVec 32 := Scalar.remsi prev per
  let wrap : BitVec 1 := Scalar.andi (Scalar.xori (Scalar.cmpi .slt rem 0#32) (Scalar.cmpi .slt per 0#32)) (Scalar.cmpi .ne rem 0#32)
  Scalar.cmpi .eq (Scalar.select wrap (Scalar.addi rem per) rem) 0#32

/-- The rows before the tile. -/
def tailIn (i : grid0.Coords) (t : Vec F S8x256 .f32) : FVec F S8x256 .f32 :=
  Scalar.select (starts i) (broadcast S8x256 (Scalar.ofBits .f32 0x00000000#32)) t

/-- The state before the tile. -/
def stateIn (i : grid0.Coords) (h : Vec F S1x256 .f32) : FVec F S1x256 .f32 :=
  Scalar.select (starts i) (broadcast S1x256 (Scalar.ofBits .f32 0x00000000#32)) h

/-- The tile under the rows before it. -/
def stacked (t : FVec F S8x256 .f32) (u : Vec F S256x256 .f32) : FVec F S264x256 .f32 :=
  concatenate S264x256 0 [⟨S8x256, t⟩, ⟨S256x256, u⟩] concatenates_S8x256_S256x256_S264x256_d0

/-- One tap of the convolution: a row of weights times the tile moved down by `n` rows. -/
def tap (n : BitVec 32) (w : FVec F S1x256 .f32) (v : FVec F S264x256 .f32) : FVec F S256x256 .f32 :=
  mulf (broadcastTo S256x256 w broadcasts_S1x256_S256x256)
    (extractStridedSlice S256x256 ![8, 0] (dynamicRotate 0 n none v rotates_S264x256_d0) slices_S264x256_o8_0_S256x256)

/-- The convolved tile. -/
def conv (t : FVec F S8x256 .f32) (u : Vec F S256x256 .f32) (cw : Vec F S4x256 .f32) (cb : Vec F S1x256 .f32) :
    FVec F S256x256 .f32 :=
  addf
    (addf
      (addf
        (addf (broadcastTo S256x256 (shapeCast S1x256 cb shapeCasts_S1x256_S1x256) broadcasts_S1x256_S256x256)
          (mulf (broadcastTo S256x256 (extractStridedSlice S1x256 ![3, 0] cw slices_S4x256_o3_0_S1x256)
            broadcasts_S1x256_S256x256) u))
        (tap 1#32 (extractStridedSlice S1x256 ![2, 0] cw slices_S4x256_o2_0_S1x256) (stacked t u)))
      (tap 2#32 (extractStridedSlice S1x256 ![1, 0] cw slices_S4x256_o1_0_S1x256) (stacked t u)))
    (tap 3#32 (extractStridedSlice S1x256 ![0, 0] cw slices_S4x256_o0_0_S1x256) (stacked t u))

/-- A gate before its sigmoid. -/
def gatePre (xc : FVec F S256x256 .f32) (w : Vec F S1x256x256 .bf16) (b : Vec F S1x256 .f32) : FVec F S256x256 .f32 :=
  addf
    (matmul dot_S256x256_S256x256_S256x256_1_0_0_1_n_n none (truncf .bf16 xc bitsLt_bf16_f32)
      (shapeCast S256x256 w shapeCasts_S1x256x256_S256x256) (constant S256x256 .f32 0x00000000#32))
    (broadcastTo S256x256 (shapeCast S1x256 b shapeCasts_S1x256_S1x256) broadcasts_S1x256_S256x256)

/-- The approximated unit on the gate branch. -/
def unit (y : Vec F S256x256 .f32) : FVec F S256x256 .f32 :=
  mulf (mulf (broadcast S256x256 (Scalar.ofBits .f32 0x3F000000#32)) y)
    (addf (broadcast S256x256 (Scalar.ofBits .f32 0x3F800000#32))
      (tanh (mulf (broadcast S256x256 (Scalar.ofBits .f32 0x3F4C422A#32))
        (addf y (mulf (broadcast S256x256 (Scalar.ofBits .f32 0x3D372713#32)) (mulf (mulf y y) y))))))

/-- Minus the weight of the decay. -/
def negLam (l : Vec F S1x256 .f32) : FVec F S1x256 .f32 :=
  subf (broadcast S1x256 (Scalar.ofBits .f32 0x00000000#32)) (shapeCast S1x256 l shapeCasts_S1x256_S1x256)

/-- The softplus of minus the weight. -/
def softplus (l : Vec F S1x256 .f32) : FVec F S1x256 .f32 :=
  addf (maximumf (negLam l) (broadcast S1x256 (Scalar.ofBits .f32 0x00000000#32)))
    (log (addf (broadcast S1x256 (Scalar.ofBits .f32 0x3F800000#32))
      (exp (subf (broadcast S1x256 (Scalar.ofBits .f32 0x00000000#32)) (absf (negLam l))))))

/-- The decay's logarithm. -/
def logA (pa : FVec F S256x256 .f32) (l : Vec F S1x256 .f32) : FVec F S256x256 .f32 :=
  mulf (mulf (broadcast S256x256 (Scalar.ofBits .f32 0xC1000000#32)) (logistic pa))
    (broadcastTo S256x256 (softplus l) broadcasts_S1x256_S256x256)

/-- The scale of the injected input. -/
def scale (g : FVec F S256x256 .f32) : FVec F S256x256 .f32 :=
  sqrt (mulf (subf (broadcast S256x256 (Scalar.ofBits .f32 0x00000000#32)) (tanh g))
    (addf (mulf (exp g) (exp g)) (broadcast S256x256 (Scalar.ofBits .f32 0x3F800000#32))))

/-- The decays, in groups of eight rows. -/
def decays (pa : FVec F S256x256 .f32) (l : Vec F S1x256 .f32) : FVec F S32x8x256 .f32 :=
  shapeCast S32x8x256 (exp (logA pa l)) shapeCasts_S256x256_S32x8x256

/-- The injected inputs, in groups of eight rows. -/
def injects (xc px pa : FVec F S256x256 .f32) (l : Vec F S1x256 .f32) : FVec F S32x8x256 .f32 :=
  shapeCast S32x8x256 (mulf (mulf xc (logistic px)) (scale (logA pa l))) shapeCasts_S256x256_S32x8x256

/-- The rows of a group that have a row `s` above them. -/
def hasAbove (s : BitVec 32) : IVec S32x8x256 1 :=
  broadcastTo S32x8x256 (shapeCast S1x8x1
    (cmpi .sge (iota .tc S1x8x1 32 [1] iota_S1x8x1_d1_w32) (broadcast S1x8x1 s)) shapeCasts_S1x8x1_S1x8x1)
    broadcasts_S1x8x1_S32x8x256

/-- The row `s` above, or `z` where there is none. -/
def above (s : BitVec 32) (z : BitVec 32) (x : FVec F S32x8x256 .f32) : FVec F S32x8x256 .f32 :=
  select (hasAbove s) (dynamicRotate 1 s none x rotates_S32x8x256_d1) (broadcast S32x8x256 (Scalar.ofBits .f32 z))

/-- One round on the injected inputs. -/
def addRound (s : BitVec 32) (a b : FVec F S32x8x256 .f32) : FVec F S32x8x256 .f32 :=
  addf b (mulf a (above s 0x00000000#32 b))

/-- One round on the decays. -/
def mulRound (s : BitVec 32) (a : FVec F S32x8x256 .f32) : FVec F S32x8x256 .f32 :=
  mulf a (above s 0x3F800000#32 a)

/-- The decays after the three rounds. -/
def decays8 (a : FVec F S32x8x256 .f32) : FVec F S32x8x256 .f32 :=
  mulRound 4#32 (mulRound 2#32 (mulRound 1#32 a))

/-- The injected inputs after the three rounds. -/
def injects8 (a b : FVec F S32x8x256 .f32) : FVec F S32x8x256 .f32 :=
  addRound 4#32 (mulRound 2#32 (mulRound 1#32 a)) (addRound 2#32 (mulRound 1#32 a) (addRound 1#32 a b))

theorem slices_group (g : ℕ) (hg : g < 32) : S32x8x256.Slices ![g, 0, 0] S1x8x256 := by
  refine ⟨rfl, fun a => ?_⟩
  fin_cases a
  · show g + 1 ≤ 32
    omega
  · show 0 + 8 ≤ 8
    omega
  · show 0 + 256 ≤ 256
    omega

/-- Group `g` of a stack. -/
def group (g : ℕ) (hg : g < 32) (x : FVec F S32x8x256 .f32) : FVec F S8x256 .f32 :=
  shapeCast S8x256 (extractStridedSlice S1x8x256 ![g, 0, 0] x (slices_group g hg)) shapeCasts_S1x8x256_S8x256

/-- The states of group `g`, from the state before it. -/
def step (A B : FVec F S32x8x256 .f32) (g : ℕ) (hg : g < 32) (h : FVec F S1x256 .f32) : FVec F S8x256 .f32 :=
  addf (mulf (group g hg A) (broadcastTo S8x256 h broadcasts_S1x256_S8x256)) (group g hg B)

/-- The last row of a group. -/
def lastRow (x : FVec F S8x256 .f32) : FVec F S1x256 .f32 :=
  extractStridedSlice S1x256 ![7, 0] x slices_S8x256_o7_0_S1x256

/-- The states of group `n`, walking the groups from the state before the tile. -/
def walk (A B : FVec F S32x8x256 .f32) (h : FVec F S1x256 .f32) : (n : ℕ) → n < 32 → FVec F S8x256 .f32
  | 0, hn => step A B 0 hn h
  | n + 1, hn => step A B (n + 1) hn (lastRow (walk A B h n (Nat.lt_of_succ_lt hn)))

/-- The states of the tile: the groups under one another. -/
def states (w : Fin 32 → FVec F S8x256 .f32) : FVec F S256x256 .f32 :=
  concatenate S256x256 0
    [⟨S8x256, w 0⟩, ⟨S8x256, w 1⟩, ⟨S8x256, w 2⟩, ⟨S8x256, w 3⟩, ⟨S8x256, w 4⟩, ⟨S8x256, w 5⟩, ⟨S8x256, w 6⟩,
      ⟨S8x256, w 7⟩, ⟨S8x256, w 8⟩, ⟨S8x256, w 9⟩, ⟨S8x256, w 10⟩, ⟨S8x256, w 11⟩, ⟨S8x256, w 12⟩, ⟨S8x256, w 13⟩,
      ⟨S8x256, w 14⟩, ⟨S8x256, w 15⟩, ⟨S8x256, w 16⟩, ⟨S8x256, w 17⟩, ⟨S8x256, w 18⟩, ⟨S8x256, w 19⟩, ⟨S8x256, w 20⟩,
      ⟨S8x256, w 21⟩, ⟨S8x256, w 22⟩, ⟨S8x256, w 23⟩, ⟨S8x256, w 24⟩, ⟨S8x256, w 25⟩, ⟨S8x256, w 26⟩, ⟨S8x256, w 27⟩,
      ⟨S8x256, w 28⟩, ⟨S8x256, w 29⟩, ⟨S8x256, w 30⟩, ⟨S8x256, w 31⟩]
    concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S256x256_d0

/-- What a block loads at a point. -/
structure Loads (F : FTy → Type) where
  i : grid0.Coords
  t : Vec F S8x256 .f32
  h : Vec F S1x256 .f32
  y : Vec F S256x256 .f32
  u : Vec F S256x256 .f32
  cw : Vec F S4x256 .f32
  cb : Vec F S1x256 .f32
  gx : Vec F S1x256x256 .bf16
  gxb : Vec F S1x256 .f32
  ga : Vec F S1x256x256 .bf16
  gab : Vec F S1x256 .f32
  l : Vec F S1x256 .f32

namespace Loads

variable (L : Loads F)

def xc : FVec F S256x256 .f32 := conv (tailIn L.i L.t) L.u L.cw L.cb
def pa : FVec F S256x256 .f32 := gatePre L.xc L.ga L.gab
def px : FVec F S256x256 .f32 := gatePre L.xc L.gx L.gxb
def A : FVec F S32x8x256 .f32 := decays L.pa L.l
def B : FVec F S32x8x256 .f32 := injects L.xc L.px L.pa L.l
def A8 : FVec F S32x8x256 .f32 := decays8 L.A
def B8 : FVec F S32x8x256 .f32 := injects8 L.A L.B
def rows (n : Fin 32) : FVec F S8x256 .f32 := walk L.A8 L.B8 (stateIn L.i L.h) n.val n.isLt

/-- The block's output. -/
def out : FVec F S256x256 .bf16 := truncf .bf16 (mulf (unit L.y) (states L.rows)) bitsLt_bf16_f32

/-- The state after the tile. -/
def last : FVec F S1x256 .f32 := shapeCast S1x256 (lastRow (L.rows 31)) shapeCasts_S1x256_S1x256

end Loads

/-- The last rows of the tile. -/
def tailOut (u : Vec F S256x256 .f32) : FVec F S8x256 .f32 :=
  shapeCast S8x256 (extractStridedSlice S8x256 ![248, 0] u slices_S256x256_o248_0_S8x256) shapeCasts_S8x256_S8x256

/-- A block of a projection. -/
def proj (xn : FVec F S256x2048 .bf16) (w : Vec F S1x2048x256 .bf16) : FVec F S256x256 .f32 :=
  shapeCast S256x256 (matmul dot_S256x2048_S2048x256_S256x256_1_0_0_1_n_n none xn
    (shapeCast S2048x256 w shapeCasts_S1x2048x256_S2048x256) (constant S256x256 .f32 0x00000000#32))
    shapeCasts_S256x256_S256x256

/-- The normalised tile. -/
def norm (x : Vec F S256x2048 .f32) (g : Vec F S1x2048 .f32) : FVec F S256x2048 .bf16 := Gen.k0_pay12 x g

end Cert.KernelIdeal.Mix

end
-- ==== Proof.Pieces.lean ====
/-
  The stores of a grid point, read as functions of the values before it: block `b` of each stored array
  is the block function of block `b`'s loads, whatever the point.
-/
module

public import proofs.«01_k».proof.Proof.Block
public import Idealize.ShloMosaic.Lib.WritesUnit
public import Idealize.ShloMosaic.Lib.Pointwise
public import Idealize.ShloMosaic.Lib.WholeRead

@[expose] public section

set_option maxRecDepth 16384

noncomputable section

namespace Cert.KernelIdeal.Mix

open Idealize.ShloMosaic Idealize.ShloMosaic.TcCoe Cert.KernelIdeal Cert.KernelIdeal.Gen

variable {F : FTy → Type} [FloatOps F]

theorem inb2 (R W r w o : ℕ) (hr : r ≤ R) (ho : o + w ≤ W) :
    ∀ a : Fin 2, (![0, o] : Fin 2 → ℕ) a + (![r, w] : Fin 2 → ℕ) a ≤ (![R, W] : Fin 2 → ℕ) a := by
  intro a
  fin_cases a
  · show 0 + r ≤ R
    omega
  · exact ho

theorem inb3 (N P Q n p q o k : ℕ) (hn : o + n ≤ N) (hp : p ≤ P) (hq : k + q ≤ Q) :
    ∀ a : Fin 3, (![o, 0, k] : Fin 3 → ℕ) a + (![n, p, q] : Fin 3 → ℕ) a ≤ (![N, P, Q] : Fin 3 → ℕ) a := by
  intro a
  fin_cases a
  · exact hn
  · show 0 + p ≤ P
    omega
  · exact hq

/-- Columns `o` to `o + 256` of a row of channels, and of the other arrays the blocks cut. -/
def cut1 (o : ℕ) (ho : o + 256 ≤ 2048) : Rect S1x2048 := Rect.unit (s := S1x2048) ![0, o] S1x256.size (inb2 1 2048 1 256 o (by omega) ho)
def cut4 (o : ℕ) (ho : o + 256 ≤ 2048) : Rect S4x2048 := Rect.unit (s := S4x2048) ![0, o] S4x256.size (inb2 4 2048 4 256 o (by omega) ho)
def cut8 (o : ℕ) (ho : o + 256 ≤ 2048) : Rect S8x2048 := Rect.unit (s := S8x2048) ![0, o] S8x256.size (inb2 8 2048 8 256 o (by omega) ho)
def cut256 (o : ℕ) (ho : o + 256 ≤ 2048) : Rect S256x2048 := Rect.unit (s := S256x2048) ![0, o] S256x256.size (inb2 256 2048 256 256 o (by omega) ho)
def cutG (b : ℕ) (hb : b + 1 ≤ 8) : Rect S8x256x256 := Rect.unit (s := S8x256x256) ![b, 0, 0] S1x256x256.size (inb3 8 256 256 1 256 256 b 0 hb (by omega) (by omega))
def cutW (o : ℕ) (ho : o + 256 ≤ 4096) : Rect S1x2048x4096 := Rect.unit (s := S1x2048x4096) ![0, 0, o] S1x2048x256.size (inb3 1 2048 4096 1 2048 256 0 o (by omega) (by omega) ho)

/-- The buffers the scan of a tile reads, and what they hold. -/
structure Src (F : FTy → Type) where
  r4 : Memref sig .tc .vmem S4x2048 .f32
  w4 : r4.IsWhole
  cw : Vec F S4x2048 .f32
  r5 : Memref sig .tc .vmem S1x2048 .f32
  w5 : r5.IsWhole
  cb : Vec F S1x2048 .f32
  r6 : Memref sig .tc .vmem S8x256x256 .bf16
  w6 : r6.IsWhole
  gx : Vec F S8x256x256 .bf16
  r7 : Memref sig .tc .vmem S1x2048 .f32
  w7 : r7.IsWhole
  gxb : Vec F S1x2048 .f32
  r8 : Memref sig .tc .vmem S8x256x256 .bf16
  w8 : r8.IsWhole
  ga : Vec F S8x256x256 .bf16
  r9 : Memref sig .tc .vmem S1x2048 .f32
  w9 : r9.IsWhole
  gab : Vec F S1x2048 .f32
  r10 : Memref sig .tc .vmem S1x2048 .f32
  w10 : r10.IsWhole
  l : Vec F S1x2048 .f32
  r13 : Memref sig .tc .vmem S256x2048 .f32
  w13 : r13.IsWhole
  y : Vec F S256x2048 .f32
  r14 : Memref sig .tc .vmem S256x2048 .f32
  w14 : r14.IsWhole
  u : Vec F S256x2048 .f32
  r15 : Memref sig .tc .vmem S8x2048 .f32
  w15 : r15.IsWhole
  t : Vec F S8x2048 .f32
  r16 : Memref sig .tc .vmem S1x2048 .f32
  w16 : r16.IsWhole
  h : Vec F S1x2048 .f32

/-- What block `b` loads. -/
def Src.loads (S : Src F) (i : grid0.Coords) (b : Fin 8) : Loads F where
  i := i
  t := View.readAt (Elt F) S.r15.view (cut8 (b.val * 256) (by omega)).toLoadRect (S.w15.unread S.t)
  h := View.readAt (Elt F) S.r16.view (cut1 (b.val * 256) (by omega)).toLoadRect (S.w16.unread S.h)
  y := View.readAt (Elt F) S.r13.view (cut256 (b.val * 256) (by omega)).toLoadRect (S.w13.unread S.y)
  u := View.readAt (Elt F) S.r14.view (cut256 (b.val * 256) (by omega)).toLoadRect (S.w14.unread S.u)
  cw := View.readAt (Elt F) S.r4.view (cut4 (b.val * 256) (by omega)).toLoadRect (S.w4.unread S.cw)
  cb := View.readAt (Elt F) S.r5.view (cut1 (b.val * 256) (by omega)).toLoadRect (S.w5.unread S.cb)
  gx := View.readAt (Elt F) S.r6.view (cutG b.val (by omega)).toLoadRect (S.w6.unread S.gx)
  gxb := View.readAt (Elt F) S.r7.view (cut1 (b.val * 256) (by omega)).toLoadRect (S.w7.unread S.gxb)
  ga := View.readAt (Elt F) S.r8.view (cutG b.val (by omega)).toLoadRect (S.w8.unread S.ga)
  gab := View.readAt (Elt F) S.r9.view (cut1 (b.val * 256) (by omega)).toLoadRect (S.w9.unread S.gab)
  l := View.readAt (Elt F) S.r10.view (cut1 (b.val * 256) (by omega)).toLoadRect (S.w10.unread S.l)

/-- Stores of the eight blocks of columns. -/
def tiles2 {R : ℕ} {e : EltTy} (P : Fin 8 → (⟨2, ![R, 256]⟩ : Shape).Idx → Elt F e) : List (View.Piece (Elt F) ⟨2, ![R, 2048]⟩ e) :=
  View.tilePieces (s := ⟨2, ![R, 2048]⟩) (![R, 256] : Fin 2 → ℕ) (fun i : Fin 8 => ![0, i.val * 256])
    (fun i => inb2 R 2048 R 256 (i.val * 256) (by omega) (by omega)) P 8 le_rfl

/-- An entry of the eight blocks stored: its block's value at its column there. -/
theorem read_tiles2 {sg : RefSig} {κ : Kind} {sp : Space} {R : ℕ} {e : EltTy} (v : View sg κ sp ⟨2, ![R, 2048]⟩ e) (f : v.ty.Contents (Elt F))
    (P : Fin 8 → (⟨2, ![R, 256]⟩ : Shape).Idx → Elt F e) (r : Fin R) (b : Fin 8) (l : Fin 256) (k : Fin 2048) (hk : k.val = b.val * 256 + l.val) :
    v.read (Elt F) (v.writes (Elt F) f (tiles2 P)) (ix2 r k) = P b (ix2 r l) := by
  refine View.read_tilePieces v f _ _ _ P 8 le_rfl (ix2 r k) b b.isLt (ix2 r l) (fun a => ?_) (1 : Fin 2) (fun i' hi' => ?_)
  · fin_cases a
    · show r.val = 0 + r.val
      omega
    · exact hk
  · have h1 : i'.val ≠ b.val := fun h => hi' (Fin.ext h)
    have h2 := l.isLt
    show k.val < i'.val * 256 ∨ i'.val * 256 + 256 ≤ k.val
    omega

/-- The output tile, the kept rows and the kept state. -/
def Src.out (S : Src F) (i : grid0.Coords) : Vec F S256x2048 .bf16 :=
  VO0_10.read (Elt F) (VO0_10.writes (Elt F) VO0_10.junk (tiles2 (R := 256) (e := .bf16) fun b => (S.loads i b).out))

def Src.tail (S : Src F) (i : grid0.Coords) : Vec F S8x2048 .f32 :=
  VS0_3.read (Elt F) (VS0_3.writes (Elt F) VS0_3.junk (tiles2 (R := 8) (e := .f32) fun b => tailOut (S.loads i b).u))

def Src.last (S : Src F) (i : grid0.Coords) : Vec F S1x2048 .f32 :=
  VS0_4.read (Elt F) (VS0_4.writes (Elt F) VS0_4.junk (tiles2 (R := 1) (e := .f32) fun b => (S.loads i b).last))

/-- The buffers the projections read, and what they hold. -/
structure Feed (F : FTy → Type) where
  r1 : Memref sig .tc .vmem S256x2048 .f32
  w1 : r1.IsWhole
  x : Vec F S256x2048 .f32
  r2 : Memref sig .tc .vmem S1x2048 .f32
  w2 : r2.IsWhole
  g : Vec F S1x2048 .f32
  r3 : Memref sig .tc .vmem S1x2048x4096 .bf16
  w3 : r3.IsWhole
  w : Vec F S1x2048x4096 .bf16
  r12 : Memref sig .tc .vmem S256x2048 .bf16

def all256 : Rect S256x2048 := Rect.unit (s := S256x2048) ![0, 0] S256x2048.size inb_S256x2048_S256x2048_0_0
def all1 : Rect S1x2048 := Rect.unit (s := S1x2048) ![0, 0] S1x2048.size inb_S1x2048_S1x2048_0_0

/-- The normalised tile, stored and read back. -/
def Feed.xn (P : Feed F) : Vec F S256x2048 .bf16 :=
  P.r12.view.readCov [⟨all256, norm (View.readAt (Elt F) P.r1.view all256.toLoadRect (P.w1.unread P.x))
    (View.readAt (Elt F) P.r2.view all1.toLoadRect (P.w2.unread P.g))⟩] all256.toLoadRect

/-- A block of a projection, its columns starting at `o`. -/
def Feed.block (P : Feed F) (o : ℕ) (ho : o + 2048 ≤ 4096) (b : Fin 8) : FVec F S256x256 .f32 :=
  proj P.xn (View.readAt (Elt F) P.r3.view (cutW (o + b.val * 256) (by omega)).toLoadRect (P.w3.unread P.w))

/-- The two projections, stored over what their buffers were stored before. -/
def Feed.zy (P : Feed F) (base : List (View.Piece (Elt F) S256x2048 .f32)) : Vec F S256x2048 .f32 :=
  VS0_1.read (Elt F) (VS0_1.writes (Elt F) VS0_1.junk (tiles2 (R := 256) (e := .f32) (P.block 0 (by omega)) ++ base))

def Feed.zx (P : Feed F) (base : List (View.Piece (Elt F) S256x2048 .f32)) : Vec F S256x2048 .f32 :=
  VS0_2.read (Elt F) (VS0_2.writes (Elt F) VS0_2.junk (tiles2 (R := 256) (e := .f32) (P.block 2048 (by omega)) ++ base))

theorem tail_B (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S1x2048x4096 .bf16) (harg3 : arg3.IsWhole) (arg4 : Memref sig .tc .vmem S4x2048 .f32) (harg4 : arg4.IsWhole) (arg5 : Memref sig .tc .vmem S1x2048 .f32) (harg5 : arg5.IsWhole) (arg6 : Memref sig .tc .vmem S8x256x256 .bf16) (harg6 : arg6.IsWhole) (arg7 : Memref sig .tc .vmem S1x2048 .f32) (harg7 : arg7.IsWhole) (arg8 : Memref sig .tc .vmem S8x256x256 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .f32) (harg13 : arg13.IsWhole) (arg14 : Memref sig .tc .vmem S256x2048 .f32) (harg14 : arg14.IsWhole) (arg15 : Memref sig .tc .vmem S8x2048 .f32) (harg15 : arg15.IsWhole) (arg16 : Memref sig .tc .vmem S1x2048 .f32) (harg16 : arg16.IsWhole) (hc0 : ¬cond0_0 i) (hc1 : cond0_1 i)
    (x0 : Vec F S256x2048 .f32) (x1 : Vec F S1x2048 .f32) (x2 : Vec F S1x2048x4096 .bf16) (x3 : Vec F S4x2048 .f32) (x4 : Vec F S1x2048 .f32) (x5 : Vec F S8x256x256 .bf16) (x6 : Vec F S1x2048 .f32) (x7 : Vec F S8x256x256 .bf16) (x8 : Vec F S1x2048 .f32) (x9 : Vec F S1x2048 .f32) (xs1 : Vec F S256x2048 .f32) (xs2 : Vec F S256x2048 .f32) (xs3 : Vec F S8x2048 .f32) (xs4 : Vec F S1x2048 .f32) :
    sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs1 xs2 xs3 xs4
      = (Src.mk arg4 harg4 x3 arg5 harg5 x4 arg6 harg6 x5 arg7 harg7 x6 arg8 harg8 x7 arg9 harg9 x8 arg10 harg10 x9 arg13 harg13 xs1 arg14 harg14 xs2 arg15 harg15 xs3 arg16 harg16 xs4).tail i := by
  sl_kernel_rfl

theorem out_B (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S1x2048x4096 .bf16) (harg3 : arg3.IsWhole) (arg4 : Memref sig .tc .vmem S4x2048 .f32) (harg4 : arg4.IsWhole) (arg5 : Memref sig .tc .vmem S1x2048 .f32) (harg5 : arg5.IsWhole) (arg6 : Memref sig .tc .vmem S8x256x256 .bf16) (harg6 : arg6.IsWhole) (arg7 : Memref sig .tc .vmem S1x2048 .f32) (harg7 : arg7.IsWhole) (arg8 : Memref sig .tc .vmem S8x256x256 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .f32) (harg13 : arg13.IsWhole) (arg14 : Memref sig .tc .vmem S256x2048 .f32) (harg14 : arg14.IsWhole) (arg15 : Memref sig .tc .vmem S8x2048 .f32) (harg15 : arg15.IsWhole) (arg16 : Memref sig .tc .vmem S1x2048 .f32) (harg16 : arg16.IsWhole) (hc0 : ¬cond0_0 i) (hc1 : cond0_1 i)
    (x0 : Vec F S256x2048 .f32) (x1 : Vec F S1x2048 .f32) (x2 : Vec F S1x2048x4096 .bf16) (x3 : Vec F S4x2048 .f32) (x4 : Vec F S1x2048 .f32) (x5 : Vec F S8x256x256 .bf16) (x6 : Vec F S1x2048 .f32) (x7 : Vec F S8x256x256 .bf16) (x8 : Vec F S1x2048 .f32) (x9 : Vec F S1x2048 .f32) (xs1 : Vec F S256x2048 .f32) (xs2 : Vec F S256x2048 .f32) (xs3 : Vec F S8x2048 .f32) (xs4 : Vec F S1x2048 .f32) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs1 xs2 xs3 xs4
      = (Src.mk arg4 harg4 x3 arg5 harg5 x4 arg6 harg6 x5 arg7 harg7 x6 arg8 harg8 x7 arg9 harg9 x8 arg10 harg10 x9 arg13 harg13 xs1 arg14 harg14 xs2 arg15 harg15 xs3 arg16 harg16 xs4).out i := by
  sl_kernel_rfl

theorem last_B (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S1x2048x4096 .bf16) (harg3 : arg3.IsWhole) (arg4 : Memref sig .tc .vmem S4x2048 .f32) (harg4 : arg4.IsWhole) (arg5 : Memref sig .tc .vmem S1x2048 .f32) (harg5 : arg5.IsWhole) (arg6 : Memref sig .tc .vmem S8x256x256 .bf16) (harg6 : arg6.IsWhole) (arg7 : Memref sig .tc .vmem S1x2048 .f32) (harg7 : arg7.IsWhole) (arg8 : Memref sig .tc .vmem S8x256x256 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .f32) (harg13 : arg13.IsWhole) (arg14 : Memref sig .tc .vmem S256x2048 .f32) (harg14 : arg14.IsWhole) (arg15 : Memref sig .tc .vmem S8x2048 .f32) (harg15 : arg15.IsWhole) (arg16 : Memref sig .tc .vmem S1x2048 .f32) (harg16 : arg16.IsWhole) (hc0 : ¬cond0_0 i) (hc1 : cond0_1 i)
    (x0 : Vec F S256x2048 .f32) (x1 : Vec F S1x2048 .f32) (x2 : Vec F S1x2048x4096 .bf16) (x3 : Vec F S4x2048 .f32) (x4 : Vec F S1x2048 .f32) (x5 : Vec F S8x256x256 .bf16) (x6 : Vec F S1x2048 .f32) (x7 : Vec F S8x256x256 .bf16) (x8 : Vec F S1x2048 .f32) (x9 : Vec F S1x2048 .f32) (xs1 : Vec F S256x2048 .f32) (xs2 : Vec F S256x2048 .f32) (xs3 : Vec F S8x2048 .f32) (xs4 : Vec F S1x2048 .f32) :
    sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs1 xs2 xs3 xs4
      = (Src.mk arg4 harg4 x3 arg5 harg5 x4 arg6 harg6 x5 arg7 harg7 x6 arg8 harg8 x7 arg9 harg9 x8 arg10 harg10 x9 arg13 harg13 xs1 arg14 harg14 xs2 arg15 harg15 xs3 arg16 harg16 xs4).last i := by
  sl_kernel_rfl

theorem tail_C (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S1x2048x4096 .bf16) (harg3 : arg3.IsWhole) (arg4 : Memref sig .tc .vmem S4x2048 .f32) (harg4 : arg4.IsWhole) (arg5 : Memref sig .tc .vmem S1x2048 .f32) (harg5 : arg5.IsWhole) (arg6 : Memref sig .tc .vmem S8x256x256 .bf16) (harg6 : arg6.IsWhole) (arg7 : Memref sig .tc .vmem S1x2048 .f32) (harg7 : arg7.IsWhole) (arg8 : Memref sig .tc .vmem S8x256x256 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .f32) (harg13 : arg13.IsWhole) (arg14 : Memref sig .tc .vmem S256x2048 .f32) (harg14 : arg14.IsWhole) (arg15 : Memref sig .tc .vmem S8x2048 .f32) (harg15 : arg15.IsWhole) (arg16 : Memref sig .tc .vmem S1x2048 .f32) (harg16 : arg16.IsWhole) (hc0 : ¬cond0_0 i) (hc1 : ¬cond0_1 i)
    (x0 : Vec F S256x2048 .f32) (x1 : Vec F S1x2048 .f32) (x2 : Vec F S1x2048x4096 .bf16) (x3 : Vec F S4x2048 .f32) (x4 : Vec F S1x2048 .f32) (x5 : Vec F S8x256x256 .bf16) (x6 : Vec F S1x2048 .f32) (x7 : Vec F S8x256x256 .bf16) (x8 : Vec F S1x2048 .f32) (x9 : Vec F S1x2048 .f32) (xs0 : Vec F S256x2048 .bf16) (xs1 : Vec F S256x2048 .f32) (xs2 : Vec F S256x2048 .f32) (xs3 : Vec F S8x2048 .f32) (xs4 : Vec F S1x2048 .f32) :
    sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 xs4
      = (Src.mk arg4 harg4 x3 arg5 harg5 x4 arg6 harg6 x5 arg7 harg7 x6 arg8 harg8 x7 arg9 harg9 x8 arg10 harg10 x9 arg13 harg13 xs1 arg14 harg14 xs2 arg15 harg15 xs3 arg16 harg16 xs4).tail i := by
  sl_kernel_rfl

theorem out_C (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S1x2048x4096 .bf16) (harg3 : arg3.IsWhole) (arg4 : Memref sig .tc .vmem S4x2048 .f32) (harg4 : arg4.IsWhole) (arg5 : Memref sig .tc .vmem S1x2048 .f32) (harg5 : arg5.IsWhole) (arg6 : Memref sig .tc .vmem S8x256x256 .bf16) (harg6 : arg6.IsWhole) (arg7 : Memref sig .tc .vmem S1x2048 .f32) (harg7 : arg7.IsWhole) (arg8 : Memref sig .tc .vmem S8x256x256 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .f32) (harg13 : arg13.IsWhole) (arg14 : Memref sig .tc .vmem S256x2048 .f32) (harg14 : arg14.IsWhole) (arg15 : Memref sig .tc .vmem S8x2048 .f32) (harg15 : arg15.IsWhole) (arg16 : Memref sig .tc .vmem S1x2048 .f32) (harg16 : arg16.IsWhole) (hc0 : ¬cond0_0 i) (hc1 : ¬cond0_1 i)
    (x0 : Vec F S256x2048 .f32) (x1 : Vec F S1x2048 .f32) (x2 : Vec F S1x2048x4096 .bf16) (x3 : Vec F S4x2048 .f32) (x4 : Vec F S1x2048 .f32) (x5 : Vec F S8x256x256 .bf16) (x6 : Vec F S1x2048 .f32) (x7 : Vec F S8x256x256 .bf16) (x8 : Vec F S1x2048 .f32) (x9 : Vec F S1x2048 .f32) (xs0 : Vec F S256x2048 .bf16) (xs1 : Vec F S256x2048 .f32) (xs2 : Vec F S256x2048 .f32) (xs3 : Vec F S8x2048 .f32) (xs4 : Vec F S1x2048 .f32) :
    out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 xs4
      = (Src.mk arg4 harg4 x3 arg5 harg5 x4 arg6 harg6 x5 arg7 harg7 x6 arg8 harg8 x7 arg9 harg9 x8 arg10 harg10 x9 arg13 harg13 xs1 arg14 harg14 xs2 arg15 harg15 xs3 arg16 harg16 xs4).out i := by
  sl_kernel_rfl

theorem last_C (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S1x2048x4096 .bf16) (harg3 : arg3.IsWhole) (arg4 : Memref sig .tc .vmem S4x2048 .f32) (harg4 : arg4.IsWhole) (arg5 : Memref sig .tc .vmem S1x2048 .f32) (harg5 : arg5.IsWhole) (arg6 : Memref sig .tc .vmem S8x256x256 .bf16) (harg6 : arg6.IsWhole) (arg7 : Memref sig .tc .vmem S1x2048 .f32) (harg7 : arg7.IsWhole) (arg8 : Memref sig .tc .vmem S8x256x256 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .f32) (harg13 : arg13.IsWhole) (arg14 : Memref sig .tc .vmem S256x2048 .f32) (harg14 : arg14.IsWhole) (arg15 : Memref sig .tc .vmem S8x2048 .f32) (harg15 : arg15.IsWhole) (arg16 : Memref sig .tc .vmem S1x2048 .f32) (harg16 : arg16.IsWhole) (hc0 : ¬cond0_0 i) (hc1 : ¬cond0_1 i)
    (x0 : Vec F S256x2048 .f32) (x1 : Vec F S1x2048 .f32) (x2 : Vec F S1x2048x4096 .bf16) (x3 : Vec F S4x2048 .f32) (x4 : Vec F S1x2048 .f32) (x5 : Vec F S8x256x256 .bf16) (x6 : Vec F S1x2048 .f32) (x7 : Vec F S8x256x256 .bf16) (x8 : Vec F S1x2048 .f32) (x9 : Vec F S1x2048 .f32) (xs0 : Vec F S256x2048 .bf16) (xs1 : Vec F S256x2048 .f32) (xs2 : Vec F S256x2048 .f32) (xs3 : Vec F S8x2048 .f32) (xs4 : Vec F S1x2048 .f32) :
    sout0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs0 xs1 xs2 xs3 xs4
      = (Src.mk arg4 harg4 x3 arg5 harg5 x4 arg6 harg6 x5 arg7 harg7 x6 arg8 harg8 x7 arg9 harg9 x8 arg10 harg10 x9 arg13 harg13 xs1 arg14 harg14 xs2 arg15 harg15 xs3 arg16 harg16 xs4).last i := by
  sl_kernel_rfl

theorem zy_B (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S1x2048x4096 .bf16) (harg3 : arg3.IsWhole) (arg4 : Memref sig .tc .vmem S4x2048 .f32) (harg4 : arg4.IsWhole) (arg5 : Memref sig .tc .vmem S1x2048 .f32) (harg5 : arg5.IsWhole) (arg6 : Memref sig .tc .vmem S8x256x256 .bf16) (harg6 : arg6.IsWhole) (arg7 : Memref sig .tc .vmem S1x2048 .f32) (harg7 : arg7.IsWhole) (arg8 : Memref sig .tc .vmem S8x256x256 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .f32) (harg13 : arg13.IsWhole) (arg14 : Memref sig .tc .vmem S256x2048 .f32) (harg14 : arg14.IsWhole) (arg15 : Memref sig .tc .vmem S8x2048 .f32) (harg15 : arg15.IsWhole) (arg16 : Memref sig .tc .vmem S1x2048 .f32) (harg16 : arg16.IsWhole) (hc0 : ¬cond0_0 i) (hc1 : cond0_1 i)
    (x0 : Vec F S256x2048 .f32) (x1 : Vec F S1x2048 .f32) (x2 : Vec F S1x2048x4096 .bf16) (x3 : Vec F S4x2048 .f32) (x4 : Vec F S1x2048 .f32) (x5 : Vec F S8x256x256 .bf16) (x6 : Vec F S1x2048 .f32) (x7 : Vec F S8x256x256 .bf16) (x8 : Vec F S1x2048 .f32) (x9 : Vec F S1x2048 .f32) (xs1 : Vec F S256x2048 .f32) (xs2 : Vec F S256x2048 .f32) (xs3 : Vec F S8x2048 .f32) (xs4 : Vec F S1x2048 .f32) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs1 xs2 xs3 xs4
      = (Feed.mk arg1 harg1 x0 arg2 harg2 x1 arg3 harg3 x2 arg12).zy [] := by
  sl_kernel_rfl

theorem zx_B (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S1x2048x4096 .bf16) (harg3 : arg3.IsWhole) (arg4 : Memref sig .tc .vmem S4x2048 .f32) (harg4 : arg4.IsWhole) (arg5 : Memref sig .tc .vmem S1x2048 .f32) (harg5 : arg5.IsWhole) (arg6 : Memref sig .tc .vmem S8x256x256 .bf16) (harg6 : arg6.IsWhole) (arg7 : Memref sig .tc .vmem S1x2048 .f32) (harg7 : arg7.IsWhole) (arg8 : Memref sig .tc .vmem S8x256x256 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .f32) (harg13 : arg13.IsWhole) (arg14 : Memref sig .tc .vmem S256x2048 .f32) (harg14 : arg14.IsWhole) (arg15 : Memref sig .tc .vmem S8x2048 .f32) (harg15 : arg15.IsWhole) (arg16 : Memref sig .tc .vmem S1x2048 .f32) (harg16 : arg16.IsWhole) (hc0 : ¬cond0_0 i) (hc1 : cond0_1 i)
    (x0 : Vec F S256x2048 .f32) (x1 : Vec F S1x2048 .f32) (x2 : Vec F S1x2048x4096 .bf16) (x3 : Vec F S4x2048 .f32) (x4 : Vec F S1x2048 .f32) (x5 : Vec F S8x256x256 .bf16) (x6 : Vec F S1x2048 .f32) (x7 : Vec F S8x256x256 .bf16) (x8 : Vec F S1x2048 .f32) (x9 : Vec F S1x2048 .f32) (xs1 : Vec F S256x2048 .f32) (xs2 : Vec F S256x2048 .f32) (xs3 : Vec F S8x2048 .f32) (xs4 : Vec F S1x2048 .f32) :
    sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 xs1 xs2 xs3 xs4
      = (Feed.mk arg1 harg1 x0 arg2 harg2 x1 arg3 harg3 x2 arg12).zx [] := by
  sl_kernel_rfl

theorem zy_A (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S1x2048x4096 .bf16) (harg3 : arg3.IsWhole) (arg4 : Memref sig .tc .vmem S4x2048 .f32) (harg4 : arg4.IsWhole) (arg5 : Memref sig .tc .vmem S1x2048 .f32) (harg5 : arg5.IsWhole) (arg6 : Memref sig .tc .vmem S8x256x256 .bf16) (harg6 : arg6.IsWhole) (arg7 : Memref sig .tc .vmem S1x2048 .f32) (harg7 : arg7.IsWhole) (arg8 : Memref sig .tc .vmem S8x256x256 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .f32) (harg13 : arg13.IsWhole) (arg14 : Memref sig .tc .vmem S256x2048 .f32) (harg14 : arg14.IsWhole) (arg15 : Memref sig .tc .vmem S8x2048 .f32) (harg15 : arg15.IsWhole) (arg16 : Memref sig .tc .vmem S1x2048 .f32) (harg16 : arg16.IsWhole) (hc0 : cond0_0 i) (hc1 : cond0_1 i)
    (x0 : Vec F S256x2048 .f32) (x1 : Vec F S1x2048 .f32) (x2 : Vec F S1x2048x4096 .bf16) (x3 : Vec F S4x2048 .f32) (x4 : Vec F S1x2048 .f32) (x5 : Vec F S8x256x256 .bf16) (x6 : Vec F S1x2048 .f32) (x7 : Vec F S8x256x256 .bf16) (x8 : Vec F S1x2048 .f32) (x9 : Vec F S1x2048 .f32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9
      = (Feed.mk arg1 harg1 x0 arg2 harg2 x1 arg3 harg3 x2 arg12).zy [⟨all256, k0_pay8⟩] := by
  sl_kernel_rfl

theorem zx_A (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S1x2048x4096 .bf16) (harg3 : arg3.IsWhole) (arg4 : Memref sig .tc .vmem S4x2048 .f32) (harg4 : arg4.IsWhole) (arg5 : Memref sig .tc .vmem S1x2048 .f32) (harg5 : arg5.IsWhole) (arg6 : Memref sig .tc .vmem S8x256x256 .bf16) (harg6 : arg6.IsWhole) (arg7 : Memref sig .tc .vmem S1x2048 .f32) (harg7 : arg7.IsWhole) (arg8 : Memref sig .tc .vmem S8x256x256 .bf16) (harg8 : arg8.IsWhole) (arg9 : Memref sig .tc .vmem S1x2048 .f32) (harg9 : arg9.IsWhole) (arg10 : Memref sig .tc .vmem S1x2048 .f32) (harg10 : arg10.IsWhole) (arg11 : Memref sig .tc .vmem S256x2048 .bf16) (harg11 : arg11.IsWhole) (arg12 : Memref sig .tc .vmem S256x2048 .bf16) (harg12 : arg12.IsWhole) (arg13 : Memref sig .tc .vmem S256x2048 .f32) (harg13 : arg13.IsWhole) (arg14 : Memref sig .tc .vmem S256x2048 .f32) (harg14 : arg14.IsWhole) (arg15 : Memref sig .tc .vmem S8x2048 .f32) (harg15 : arg15.IsWhole) (arg16 : Memref sig .tc .vmem S1x2048 .f32) (harg16 : arg16.IsWhole) (hc0 : cond0_0 i) (hc1 : cond0_1 i)
    (x0 : Vec F S256x2048 .f32) (x1 : Vec F S1x2048 .f32) (x2 : Vec F S1x2048x4096 .bf16) (x3 : Vec F S4x2048 .f32) (x4 : Vec F S1x2048 .f32) (x5 : Vec F S8x256x256 .bf16) (x6 : Vec F S1x2048 .f32) (x7 : Vec F S8x256x256 .bf16) (x8 : Vec F S1x2048 .f32) (x9 : Vec F S1x2048 .f32) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9
      = (Feed.mk arg1 harg1 x0 arg2 harg2 x1 arg3 harg3 x2 arg12).zx [⟨all256, k0_pay9⟩] := by
  sl_kernel_rfl

end Cert.KernelIdeal.Mix

end
-- ==== Proof.BlockValue.lean ====
/-
  What a block's functions are at one row and column: the convolution reads the three rows above, the
  rounds over the eight rows of a group and the walk over the groups are the recurrence run down the
  rows of the tile, and the output is the unit times its state.
-/
module

public import proofs.«01_k».proof.Proof.Pieces
public import proofs.«01_k».proof.Proof.Spec

@[expose] public section

set_option maxRecDepth 16384

noncomputable section

namespace Cert.KernelIdeal.Mix

open Idealize.ShloMosaic Idealize.ShloMosaic.TcCoe Cert.KernelIdeal Cert.KernelIdeal.Gen

/-- The row `n` above row `r`, the tile `u` standing under the rows `t`. -/
def back (t : FVec Ideal S8x256 .f32) (u : Vec Ideal S256x256 .f32) (n : ℕ) (hn : n ≤ 8) (r l : Fin 256) : EReal :=
  if h : n ≤ r.val then u (ix2 ⟨r.val - n, by omega⟩ l) else t (ix2 ⟨8 + r.val - n, by omega⟩ l)

theorem stacked_apply (t : FVec Ideal S8x256 .f32) (u : Vec Ideal S256x256 .f32) (n : ℕ) (hn : n ≤ 8) (r l : Fin 256)
    (q : Fin 264) (hq : q.val = 8 + r.val - n) : stacked t u (ix2 q l) = back t u n hn r l := by
  pointwise [stacked]
  unfold back
  by_cases h : n ≤ r.val
  · rw [dif_neg (by omega), dif_pos h]
    congr 2
    exact Fin.ext (by show q.val - 8 = r.val - n; omega)
  · rw [dif_pos (by omega), dif_neg h]
    congr 2
    exact Fin.ext hq

theorem tap_apply (n : BitVec 32) (hn : n.toNat ≤ 8) (w : FVec Ideal S1x256 .f32) (t : FVec Ideal S8x256 .f32)
    (u : Vec Ideal S256x256 .f32) (r l : Fin 256) :
    tap n w (stacked t u) (ix2 r l) = w (ix2 0 l) * back t u n.toNat hn r l := by
  pointwise [tap]
  congr 1
  exact stacked_apply t u n.toNat hn r l _ (by show _ % _ = _; omega)

theorem conv_apply (t : FVec Ideal S8x256 .f32) (u : Vec Ideal S256x256 .f32) (cw : Vec Ideal S4x256 .f32)
    (cb : Vec Ideal S1x256 .f32) (r l : Fin 256) :
    conv t u cw cb (ix2 r l)
      = cb (ix2 0 l) + cw (ix2 3 l) * u (ix2 r l) + cw (ix2 2 l) * back t u 1 (by omega) r l
        + cw (ix2 1 l) * back t u 2 (by omega) r l + cw (ix2 0 l) * back t u 3 (by omega) r l := by
  unfold conv
  have h1 := tap_apply 1#32 (by decide) (extractStridedSlice S1x256 ![2, 0] cw slices_S4x256_o2_0_S1x256) t u r l
  have h2 := tap_apply 2#32 (by decide) (extractStridedSlice S1x256 ![1, 0] cw slices_S4x256_o1_0_S1x256) t u r l
  have h3 := tap_apply 3#32 (by decide) (extractStridedSlice S1x256 ![0, 0] cw slices_S4x256_o0_0_S1x256) t u r l
  generalize tap 1#32 (extractStridedSlice S1x256 ![2, 0] cw slices_S4x256_o2_0_S1x256) (stacked t u) = T1 at h1 ⊢
  generalize tap 2#32 (extractStridedSlice S1x256 ![1, 0] cw slices_S4x256_o1_0_S1x256) (stacked t u) = T2 at h2 ⊢
  generalize tap 3#32 (extractStridedSlice S1x256 ![0, 0] cw slices_S4x256_o0_0_S1x256) (stacked t u) = T3 at h3 ⊢
  pointwise
  rw [h1, h2, h3]
  pointwise

theorem gatePre_apply (xc : FVec Ideal S256x256 .f32) (w : Vec Ideal S1x256x256 .bf16) (b : Vec Ideal S1x256 .f32)
    (r l : Fin 256) :
    gatePre xc w b (ix2 r l) = (∑ k : Fin 256, xc (ix2 r k) * w (ix3 0 k l)) + b (ix2 0 l) := by
  pointwise [gatePre]

theorem unit_apply (y : Vec Ideal S256x256 .f32) (r l : Fin 256) : unit y (ix2 r l) = Mixer.unitVal (y (ix2 r l)) := by
  pointwise [unit]
  rfl

theorem logA_apply (pa : FVec Ideal S256x256 .f32) (w : Vec Ideal S1x256 .f32) (r l : Fin 256) :
    logA pa w (ix2 r l) = Mixer.logDecay (pa (ix2 r l)) (w (ix2 0 l)) := by
  pointwise [logA, softplus, negLam]
  simp only [zero_sub]
  rfl

theorem scale_apply (g : FVec Ideal S256x256 .f32) (r l : Fin 256) :
    scale g (ix2 r l) = Ideal.sqrt (-Ideal.expm1 (((2 : ℝ) : EReal) * g (ix2 r l))) := by
  pointwise [scale]
  rw [Mixer.neg_tanh_mul]

theorem decays_apply (pa : FVec Ideal S256x256 .f32) (w : Vec Ideal S1x256 .f32) (g : Fin 32) (j : Fin 8) (l r : Fin 256)
    (hr : r.val = g.val * 8 + j.val) : decays pa w (ix3 g j l) = Mixer.decay (pa (ix2 r l)) (w (ix2 0 l)) := by
  have h := logA_apply pa w r l
  have e : (⟨g.val * 8 + j.val, by omega⟩ : Fin 256) = r := Fin.ext hr.symm
  unfold decays
  generalize logA pa w = X at h ⊢
  pointwise
  rw [e, h]
  rfl

theorem injects_apply (xc px pa : FVec Ideal S256x256 .f32) (w : Vec Ideal S1x256 .f32) (g : Fin 32) (j : Fin 8)
    (l r : Fin 256) (hr : r.val = g.val * 8 + j.val) :
    injects xc px pa w (ix3 g j l)
      = Mixer.inject (xc (ix2 r l)) (px (ix2 r l)) (pa (ix2 r l)) (w (ix2 0 l)) := by
  have h := scale_apply (logA pa w) r l
  rw [logA_apply] at h
  have e : (⟨g.val * 8 + j.val, by omega⟩ : Fin 256) = r := Fin.ext hr.symm
  unfold injects
  generalize scale (logA pa w) = X at h ⊢
  pointwise
  rw [e, h, ← Mixer.ofBits_two]
  rfl

theorem group_apply (x : FVec Ideal S32x8x256 .f32) (g : ℕ) (hg : g < 32) (j : Fin 8) (l : Fin 256) :
    group g hg x (ix2 j l) = x (ix3 ⟨g, hg⟩ j l) := by
  pointwise [group]

theorem lastRow_apply (x : FVec Ideal S8x256 .f32) (l : Fin 256) : lastRow x (ix2 0 l) = x (ix2 7 l) := by
  pointwise [lastRow]

theorem tailOut_apply (u : Vec Ideal S256x256 .f32) (j : Fin 8) (l : Fin 256) :
    tailOut u (ix2 j l) = u (ix2 ⟨248 + j.val, by omega⟩ l) := by
  pointwise [tailOut]

theorem tailIn_apply (i : grid0.Coords) (t : FVec Ideal S8x256 .f32) (j : Fin 8) (l : Fin 256) :
    tailIn i t (ix2 j l) = if starts i = 1#1 then 0 else t (ix2 j l) := by
  pointwise [tailIn]
  rfl

theorem stateIn_apply (i : grid0.Coords) (t : FVec Ideal S1x256 .f32) (l : Fin 256) :
    stateIn i t (ix2 0 l) = if starts i = 1#1 then 0 else t (ix2 0 l) := by
  pointwise [stateIn]
  rfl

theorem hasAbove_word : ∀ (j : Fin 8) (s : Fin 8),
    (IntOp.cmpi CmpIPredicate.sge (BitVec.ofNat 32 j.val) (BitVec.ofNat 32 s.val) = 1#1 ↔ s.val ≤ j.val) := by
  decide +kernel

theorem above_apply (x : FVec Ideal S32x8x256 .f32) (s : Fin 8) (z : BitVec 32) (g : Fin 32) (j : Fin 8)
    (l : Fin 256) :
    above (BitVec.ofNat 32 s.val) z x (ix3 g j l)
      = if h : s.val ≤ j.val then x (ix3 g ⟨j.val - s.val, by omega⟩ l) else Ideal.ofBits .f32 z := by
  pointwise [above, hasAbove]
  have h := hasAbove_word j s
  have hs : (BitVec.ofNat 32 s.val).toNat = s.val := by
    rw [BitVec.toNat_ofNat]
    exact Nat.mod_eq_of_lt (by omega)
  unfold Scalar.select
  by_cases hj : s.val ≤ j.val
  · refine (if_pos (h.mpr hj)).trans ?_
    rw [dif_pos hj]
    congr 2
    refine Fin.ext ?_
    show (j.val + 8 - (BitVec.ofNat 32 s.val).toNat % 8) % 8 = j.val - s.val
    rw [hs]
    omega
  · refine (if_neg (fun hh => hj (h.mp hh))).trans ?_
    rw [dif_neg hj]

/-- A column of a group, as a sequence. -/
def col (x : FVec Ideal S32x8x256 .f32) (g : Fin 32) (l : Fin 256) (r : ℕ) : EReal := x (ix3 g ⟨r % 8, by omega⟩ l)

theorem col_lt (x : FVec Ideal S32x8x256 .f32) (g : Fin 32) (l : Fin 256) (j : Fin 8) : col x g l j.val = x (ix3 g j l) := by
  unfold col
  congr 2
  exact Fin.ext (Nat.mod_eq_of_lt j.isLt)

theorem mulRound_col (a : FVec Ideal S32x8x256 .f32) (s : Fin 8) (g : Fin 32) (l : Fin 256) (r : ℕ) (hr : r < 8) :
    col (mulRound (BitVec.ofNat 32 s.val) a) g l r = Mixer.roundA s.val (col a g l) r := by
  have h := above_apply a s 0x3F800000#32 g ⟨r, hr⟩ l
  rw [Ideal.ofBits_one_f32] at h
  have e := col_lt (mulRound (BitVec.ofNat 32 s.val) a) g l ⟨r, hr⟩
  have ea := col_lt a g l ⟨r, hr⟩
  unfold Mixer.roundA
  refine e.trans ?_
  unfold mulRound
  generalize above (BitVec.ofNat 32 s.val) 0x3F800000#32 a = X at h ⊢
  pointwise
  rw [h]
  refine congr (congrArg _ ea.symm) ?_
  by_cases hs : s.val ≤ r
  · rw [dif_pos hs, if_pos hs]
    exact (col_lt a g l ⟨r - s.val, by omega⟩).symm
  · rw [dif_neg hs, if_neg hs]

theorem addRound_col (a b : FVec Ideal S32x8x256 .f32) (s : Fin 8) (g : Fin 32) (l : Fin 256) (r : ℕ) (hr : r < 8) :
    col (addRound (BitVec.ofNat 32 s.val) a b) g l r = Mixer.roundB s.val (col a g l) (col b g l) r := by
  have h := above_apply b s 0x00000000#32 g ⟨r, hr⟩ l
  rw [Ideal.ofBits_zero_f32] at h
  have e := col_lt (addRound (BitVec.ofNat 32 s.val) a b) g l ⟨r, hr⟩
  have ea := col_lt a g l ⟨r, hr⟩
  have eb := col_lt b g l ⟨r, hr⟩
  unfold Mixer.roundB
  refine e.trans ?_
  unfold addRound
  generalize above (BitVec.ofNat 32 s.val) 0x00000000#32 b = X at h ⊢
  pointwise
  rw [h]
  refine congr (congrArg _ eb.symm) (congr (congrArg _ ea.symm) ?_)
  by_cases hs : s.val ≤ r
  · rw [dif_pos hs, if_pos hs]
    exact (col_lt b g l ⟨r - s.val, by omega⟩).symm
  · rw [dif_neg hs, if_neg hs]

theorem roundA_congr {a a' : ℕ → EReal} (h : ∀ r, r < 8 → a r = a' r) (s r : ℕ) (hr : r < 8) :
    Mixer.roundA s a r = Mixer.roundA s a' r := by
  unfold Mixer.roundA
  rw [h r hr, h (r - s) (by omega)]

theorem roundB_congr {a a' b b' : ℕ → EReal} (h : ∀ r, r < 8 → a r = a' r) (hb : ∀ r, r < 8 → b r = b' r) (s r : ℕ)
    (hr : r < 8) : Mixer.roundB s a b r = Mixer.roundB s a' b' r := by
  unfold Mixer.roundB
  rw [h r hr, hb r hr, hb (r - s) (by omega)]

/-- A group's states are the recurrence run from the state before it. -/
theorem step_apply (a b : FVec Ideal S32x8x256 .f32) (g : ℕ) (hg : g < 32) (l : Fin 256)
    (ha : ∀ r, Mixer.Mild (col a ⟨g, hg⟩ l r)) (h : FVec Ideal S1x256 .f32) (j : Fin 8) :
    step (decays8 a) (injects8 a b) g hg h (ix2 j l)
      = Mixer.seqState (col a ⟨g, hg⟩ l) (col b ⟨g, hg⟩ l) (h (ix2 0 l)) (j.val + 1) := by
  rw [← Mixer.rounds_eq _ _ ha j.val j.isLt]
  have hA1 : ∀ r, r < 8 → col (mulRound 1#32 a) ⟨g, hg⟩ l r = Mixer.roundA 1 (col a ⟨g, hg⟩ l) r :=
    fun r hr => mulRound_col a 1 ⟨g, hg⟩ l r hr
  have hA2 : ∀ r, r < 8 → col (mulRound 2#32 (mulRound 1#32 a)) ⟨g, hg⟩ l r
      = Mixer.roundA 2 (Mixer.roundA 1 (col a ⟨g, hg⟩ l)) r :=
    fun r hr => (mulRound_col _ 2 ⟨g, hg⟩ l r hr).trans (roundA_congr hA1 2 r hr)
  have hA4 : ∀ r, r < 8 → col (decays8 a) ⟨g, hg⟩ l r
      = Mixer.roundA 4 (Mixer.roundA 2 (Mixer.roundA 1 (col a ⟨g, hg⟩ l))) r :=
    fun r hr => (mulRound_col _ 4 ⟨g, hg⟩ l r hr).trans (roundA_congr hA2 4 r hr)
  have hB1 : ∀ r, r < 8 → col (addRound 1#32 a b) ⟨g, hg⟩ l r
      = Mixer.roundB 1 (col a ⟨g, hg⟩ l) (col b ⟨g, hg⟩ l) r :=
    fun r hr => addRound_col a b 1 ⟨g, hg⟩ l r hr
  have hB2 : ∀ r, r < 8 → col (addRound 2#32 (mulRound 1#32 a) (addRound 1#32 a b)) ⟨g, hg⟩ l r
      = Mixer.roundB 2 (Mixer.roundA 1 (col a ⟨g, hg⟩ l)) (Mixer.roundB 1 (col a ⟨g, hg⟩ l) (col b ⟨g, hg⟩ l)) r :=
    fun r hr => (addRound_col _ _ 2 ⟨g, hg⟩ l r hr).trans (roundB_congr hA1 hB1 2 r hr)
  have hB4 : ∀ r, r < 8 → col (injects8 a b) ⟨g, hg⟩ l r
      = Mixer.roundB 4 (Mixer.roundA 2 (Mixer.roundA 1 (col a ⟨g, hg⟩ l)))
          (Mixer.roundB 2 (Mixer.roundA 1 (col a ⟨g, hg⟩ l)) (Mixer.roundB 1 (col a ⟨g, hg⟩ l) (col b ⟨g, hg⟩ l))) r :=
    fun r hr => (addRound_col _ _ 4 ⟨g, hg⟩ l r hr).trans (roundB_congr hA2 hB2 4 r hr)
  rw [← hA4 j.val j.isLt, ← hB4 j.val j.isLt, col_lt, col_lt]
  have eA := group_apply (decays8 a) g hg j l
  have eB := group_apply (injects8 a b) g hg j l
  unfold step
  generalize group g hg (decays8 a) = XA at eA ⊢
  generalize group g hg (injects8 a b) = XB at eB ⊢
  pointwise
  rw [eA, eB]

theorem seqState_add (a b : ℕ → EReal) (h : EReal) (m n : ℕ) :
    Mixer.seqState a b h (m + n)
      = Mixer.seqState (fun r => a (m + r)) (fun r => b (m + r)) (Mixer.seqState a b h m) n := by
  induction n with
  | zero => rfl
  | succ n ih =>
    show a (m + n) * Mixer.seqState a b h (m + n) + b (m + n) = _
    rw [ih]
    rfl

/-- The walk over the groups is the recurrence run down the rows. -/
theorem walk_apply (a b : FVec Ideal S32x8x256 .f32) (l : Fin 256) (fa fb : ℕ → EReal)
    (hfa : ∀ (g : Fin 32) (j : Fin 8), a (ix3 g j l) = fa (8 * g.val + j.val))
    (hfb : ∀ (g : Fin 32) (j : Fin 8), b (ix3 g j l) = fb (8 * g.val + j.val))
    (hm : ∀ r, Mixer.Mild (fa r)) (h : FVec Ideal S1x256 .f32) (n : ℕ) (hn : n < 32) (j : Fin 8) :
    walk (decays8 a) (injects8 a b) h n hn (ix2 j l)
      = Mixer.seqState fa fb (h (ix2 0 l)) (8 * n + (j.val + 1)) := by
  have hmild : ∀ (g : Fin 32) r, Mixer.Mild (col a g l r) := fun g r => by
    unfold col
    rw [hfa]
    exact hm _
  have key : ∀ (m : ℕ) (hm' : m < 32) (x : FVec Ideal S1x256 .f32) (j : Fin 8),
      step (decays8 a) (injects8 a b) m hm' x (ix2 j l)
        = Mixer.seqState (fun r => fa (8 * m + r)) (fun r => fb (8 * m + r)) (x (ix2 0 l)) (j.val + 1) := by
    intro m hm' x j
    rw [step_apply a b m hm' l (hmild _)]
    refine Mixer.seqState_congr _ _ (fun r hr => ?_) (fun r hr => ?_)
    · exact (col_lt a ⟨m, hm'⟩ l ⟨r, by omega⟩).trans (hfa ⟨m, hm'⟩ ⟨r, by omega⟩)
    · exact (col_lt b ⟨m, hm'⟩ l ⟨r, by omega⟩).trans (hfb ⟨m, hm'⟩ ⟨r, by omega⟩)
  induction n generalizing j with
  | zero =>
    rw [seqState_add]
    exact key 0 hn h j
  | succ n ih =>
    rw [seqState_add]
    refine (key (n + 1) hn _ j).trans ?_
    rw [lastRow_apply, ih (Nat.lt_of_succ_lt hn)]
    rfl

theorem states_apply (w : Fin 32 → FVec Ideal S8x256 .f32) (r l : Fin 256) :
    states w (ix2 r l) = w ⟨r.val / 8, by omega⟩ (ix2 ⟨r.val % 8, by omega⟩ l) := by
  refine concatenate_ofFn_apply (t := S256x256) (s₁ := S8x256) 0 w _ rfl 8 rfl (ix2 r l) ⟨r.val / 8, by omega⟩ rfl
    (ix2 ⟨r.val % 8, by omega⟩ l) rfl (fun b hb => ?_)
  fin_cases b
  · exact absurd rfl hb
  · rfl

namespace Loads

variable (L : Loads Ideal)

/-- The decay and the injected input of a row. -/
def fa (l : Fin 256) (r : ℕ) : EReal := Mixer.decay (L.pa (ix2 ⟨r % 256, by omega⟩ l)) (L.l (ix2 0 l))
def fb (l : Fin 256) (r : ℕ) : EReal :=
  Mixer.inject (L.xc (ix2 ⟨r % 256, by omega⟩ l)) (L.px (ix2 ⟨r % 256, by omega⟩ l)) (L.pa (ix2 ⟨r % 256, by omega⟩ l))
    (L.l (ix2 0 l))

theorem rows_apply (n : Fin 32) (j : Fin 8) (l : Fin 256) :
    L.rows n (ix2 j l) = Mixer.seqState (L.fa l) (L.fb l) (stateIn L.i L.h (ix2 0 l)) (8 * n.val + (j.val + 1)) :=
  walk_apply L.A L.B l (L.fa l) (L.fb l)
    (fun g j => decays_apply L.pa L.l g j l ⟨(8 * g.val + j.val) % 256, by omega⟩ (by show _ % _ = _; omega))
    (fun g j => injects_apply L.xc L.px L.pa L.l g j l ⟨(8 * g.val + j.val) % 256, by omega⟩ (by show _ % _ = _; omega))
    (fun _ => Mixer.decay_mild _ _) _ n.val n.isLt j

theorem out_apply (r l : Fin 256) :
    L.out (ix2 r l)
      = Mixer.unitVal (L.y (ix2 r l)) * Mixer.seqState (L.fa l) (L.fb l) (stateIn L.i L.h (ix2 0 l)) (r.val + 1) := by
  have e1 := unit_apply L.y r l
  have e2 := states_apply L.rows r l
  rw [rows_apply, show 8 * (r.val / 8) + (r.val % 8 + 1) = r.val + 1 by omega] at e2
  unfold out
  generalize unit L.y = X1 at e1 ⊢
  generalize states L.rows = X2 at e2 ⊢
  pointwise
  rw [e1, e2]

theorem last_apply (l : Fin 256) :
    L.last (ix2 0 l) = Mixer.seqState (L.fa l) (L.fb l) (stateIn L.i L.h (ix2 0 l)) 256 := by
  have e := L.rows_apply 31 7 l
  unfold last
  rw [← lastRow_apply (L.rows 31) l] at e
  generalize lastRow (L.rows 31) = X at e ⊢
  pointwise
  exact e

end Loads

end Cert.KernelIdeal.Mix

end
-- ==== Proof.TileValue.lean ====
/-
  What a grid point leaves, from what it found: over a tile's projections, the last rows of the tile
  before and the state before it, the point writes the tile's output, its last rows and its state; and
  it leaves the next tile's projections.
-/
module

public import proofs.«01_k».proof.Proof.BlockValue
public import proofs.«01_k».proof.Proof.Spec

@[expose] public section

set_option maxRecDepth 16384

noncomputable section

namespace Cert.KernelIdeal.Mix

open Idealize.ShloMosaic Idealize.ShloMosaic.TcCoe Cert.KernelIdeal Cert.KernelIdeal.Gen Mixer

theorem idx2 {R W r w : ℕ} (o : ℕ) (inb : ∀ a, (![0, o] : Fin 2 → ℕ) a + (![r, w] : Fin 2 → ℕ) a ≤ (![R, W] : Fin 2 → ℕ) a)
    (i : Fin r) (j : Fin w) (i' : Fin R) (j' : Fin W) (hi : i'.val = i.val) (hj : j'.val = o + j.val) :
    (Rect.unit (s := ⟨2, ![R, W]⟩) ![0, o] ![r, w] inb).toLoadRect.idx (ix2 i j) = ix2 i' j' := by
  refine funext fun a => Fin.ext ?_
  fin_cases a
  · show 0 + 1 * i.val = i'.val
    omega
  · show o + 1 * j.val = j'.val
    omega

theorem idx3 {N P Q n p q : ℕ} (o k : ℕ) (inb : ∀ a, (![o, 0, k] : Fin 3 → ℕ) a + (![n, p, q] : Fin 3 → ℕ) a ≤ (![N, P, Q] : Fin 3 → ℕ) a)
    (i : Fin n) (j : Fin p) (l : Fin q) (i' : Fin N) (j' : Fin P) (l' : Fin Q) (hi : i'.val = o + i.val) (hj : j'.val = j.val)
    (hl : l'.val = k + l.val) :
    (Rect.unit (s := ⟨3, ![N, P, Q]⟩) ![o, 0, k] ![n, p, q] inb).toLoadRect.idx (ix3 i j l) = ix3 i' j' l' := by
  refine funext fun a => Fin.ext ?_
  fin_cases a
  · show o + 1 * i.val = i'.val
    omega
  · show 0 + 1 * j.val = j'.val
    omega
  · show k + 1 * l.val = l'.val
    omega

/-! ## What a block loads -/

section Loads

variable (S : Src Ideal) (i : grid0.Coords) (b : Fin 8)

theorem loads_t (j : Fin 8) (l : Fin 256) : (S.loads i b).t (ix2 j l) = S.t (ix2 j (ch b l)) :=
  (S.w15.readAt_unread S.t _ _).trans (congrArg S.t (idx2 _ _ _ _ _ _ rfl rfl))
theorem loads_h (l : Fin 256) : (S.loads i b).h (ix2 0 l) = S.h (ix2 0 (ch b l)) :=
  (S.w16.readAt_unread S.h _ _).trans (congrArg S.h (idx2 _ _ _ _ _ _ rfl rfl))
theorem loads_y (r l : Fin 256) : (S.loads i b).y (ix2 r l) = S.y (ix2 r (ch b l)) :=
  (S.w13.readAt_unread S.y _ _).trans (congrArg S.y (idx2 _ _ _ _ _ _ rfl rfl))
theorem loads_u (r l : Fin 256) : (S.loads i b).u (ix2 r l) = S.u (ix2 r (ch b l)) :=
  (S.w14.readAt_unread S.u _ _).trans (congrArg S.u (idx2 _ _ _ _ _ _ rfl rfl))
theorem loads_cw (r : Fin 4) (l : Fin 256) : (S.loads i b).cw (ix2 r l) = S.cw (ix2 r (ch b l)) :=
  (S.w4.readAt_unread S.cw _ _).trans (congrArg S.cw (idx2 _ _ _ _ _ _ rfl rfl))
theorem loads_cb (l : Fin 256) : (S.loads i b).cb (ix2 0 l) = S.cb (ix2 0 (ch b l)) :=
  (S.w5.readAt_unread S.cb _ _).trans (congrArg S.cb (idx2 _ _ _ _ _ _ rfl rfl))
theorem loads_gxb (l : Fin 256) : (S.loads i b).gxb (ix2 0 l) = S.gxb (ix2 0 (ch b l)) :=
  (S.w7.readAt_unread S.gxb _ _).trans (congrArg S.gxb (idx2 _ _ _ _ _ _ rfl rfl))
theorem loads_gab (l : Fin 256) : (S.loads i b).gab (ix2 0 l) = S.gab (ix2 0 (ch b l)) :=
  (S.w9.readAt_unread S.gab _ _).trans (congrArg S.gab (idx2 _ _ _ _ _ _ rfl rfl))
theorem loads_l (l : Fin 256) : (S.loads i b).l (ix2 0 l) = S.l (ix2 0 (ch b l)) :=
  (S.w10.readAt_unread S.l _ _).trans (congrArg S.l (idx2 _ _ _ _ _ _ rfl rfl))
theorem loads_gx (q l : Fin 256) : (S.loads i b).gx (ix3 0 q l) = S.gx (ix3 b q l) :=
  (S.w6.readAt_unread S.gx _ _).trans (congrArg S.gx (idx3 _ _ _ _ _ _ _ _ _ rfl rfl (Nat.zero_add _).symm))
theorem loads_ga (q l : Fin 256) : (S.loads i b).ga (ix3 0 q l) = S.ga (ix3 b q l) :=
  (S.w8.readAt_unread S.ga _ _).trans (congrArg S.ga (idx3 _ _ _ _ _ _ _ _ _ rfl rfl (Nat.zero_add _).symm))

end Loads

/-! ## What a tile's blocks compute -/

/-- The buffers hold the weights, and the projections, the rows before and the state before tile `s`. -/
structure Src.Holds (S : Src Ideal) (I : Given) (i : grid0.Coords) (s : ℕ) : Prop where
  cw : ∀ r k, S.cw (ix2 r k) = I.cw r k
  cb : ∀ k, S.cb (ix2 0 k) = I.cb k
  gx : ∀ b q l, S.gx (ix3 b q l) = I.gx b q l
  gxb : ∀ k, S.gxb (ix2 0 k) = I.gxb k
  ga : ∀ b q l, S.ga (ix3 b q l) = I.ga b q l
  gab : ∀ k, S.gab (ix2 0 k) = I.gab k
  l : ∀ k, S.l (ix2 0 k) = I.l k
  starts : starts i = 1#1 ↔ s % 32 = 0
  y : ∀ (r : Fin 256) k, S.y (ix2 r k) = I.y (s * 256 + r.val) k
  u : ∀ (r : Fin 256) k, S.u (ix2 r k) = I.u (s * 256 + r.val) k
  t : s % 32 ≠ 0 → ∀ (j : Fin 8) k, S.t (ix2 j k) = I.u (s * 256 + j.val - 8) k
  h : s % 32 ≠ 0 → ∀ b l, S.h (ix2 0 (ch b l)) = I.state b l (s * 256)

namespace Src.Holds

variable {S : Src Ideal} {I : Given} {i : grid0.Coords} {s : ℕ} (H : S.Holds I i s) (b : Fin 8)

include H

theorem back_eq (n : ℕ) (hn : n ≤ 8) (r l : Fin 256) :
    back (tailIn i (S.loads i b).t) (S.loads i b).u n hn r l = I.prev n (s * 256 + r.val) (ch b l) := by
  unfold back Given.prev
  by_cases h : n ≤ r.val
  · rw [dif_pos h, if_pos (by omega), loads_u, H.u]
    congr 1
    show s * 256 + (r.val - n) = s * 256 + r.val - n
    omega
  · rw [dif_neg h, tailIn_apply]
    by_cases h0 : s % 32 = 0
    · rw [if_pos (H.starts.mpr h0), if_neg (by omega)]
    · rw [if_neg (fun hh => h0 (H.starts.mp hh)), if_pos (by omega), loads_t, H.t h0]
      congr 1
      show s * 256 + (8 + r.val - n) - 8 = s * 256 + r.val - n
      omega

theorem xc_eq (r l : Fin 256) : (S.loads i b).xc (ix2 r l) = I.xc (s * 256 + r.val) (ch b l) := by
  unfold Loads.xc
  rw [conv_apply]
  rw [show (S.loads i b).i = i from rfl, H.back_eq, H.back_eq, H.back_eq, loads_cb, loads_cw, loads_cw, loads_cw,
    loads_cw, loads_u, H.cb, H.cw, H.cw, H.cw, H.cw, H.u]
  rfl

theorem pa_eq (r l : Fin 256) : (S.loads i b).pa (ix2 r l) = I.pa (s * 256 + r.val) b l := by
  unfold Loads.pa Given.pa
  rw [gatePre_apply, loads_gab, H.gab]
  refine congrArg (· + I.gab (ch b l)) (Finset.sum_congr rfl fun q _ => ?_)
  rw [H.xc_eq, loads_ga, H.ga]

theorem px_eq (r l : Fin 256) : (S.loads i b).px (ix2 r l) = I.px (s * 256 + r.val) b l := by
  unfold Loads.px Given.px
  rw [gatePre_apply, loads_gxb, H.gxb]
  refine congrArg (· + I.gxb (ch b l)) (Finset.sum_congr rfl fun q _ => ?_)
  rw [H.xc_eq, loads_gx, H.gx]

theorem states_eq (l : Fin 256) (r : ℕ) (hr : r < 256) :
    Mixer.seqState ((S.loads i b).fa l) ((S.loads i b).fb l) (stateIn i (S.loads i b).h (ix2 0 l)) (r + 1)
      = I.state b l (s * 256 + r + 1) := by
  rw [← I.seqState_rows b l (s * 256) r (by omega)]
  have h0 : stateIn i (S.loads i b).h (ix2 0 l) = if s * 256 % 8192 = 0 then 0 else I.state b l (s * 256) := by
    rw [stateIn_apply, loads_h]
    by_cases h0 : s % 32 = 0
    · rw [if_pos (H.starts.mpr h0), if_pos (by omega)]
    · rw [if_neg (fun hh => h0 (H.starts.mp hh)), if_neg (by omega), H.h h0]
  rw [h0]
  have hq : ∀ q, q < r + 1 → (⟨q % 256, by omega⟩ : Fin 256).val = q := fun q hq => Nat.mod_eq_of_lt (by omega)
  refine seqState_congr _ _ (fun q hlt => ?_) (fun q hlt => ?_)
  · unfold Loads.fa Given.a
    rw [H.pa_eq, loads_l, H.l, hq q hlt]
  · unfold Loads.fb Given.v
    rw [H.pa_eq, H.px_eq, H.xc_eq, loads_l, H.l, hq q hlt]

end Src.Holds

theorem Src.out_eq {S : Src Ideal} {I : Given} {i : grid0.Coords} {s : ℕ} (H : S.Holds I i s) (r : Fin 256) (b : Fin 8)
    (l : Fin 256) : S.out i (ix2 r (ch b l)) = I.out (s * 256 + r.val) b l := by
  refine (read_tiles2 _ _ _ r b l _ rfl).trans ?_
  rw [Loads.out_apply]
  rw [show (S.loads i b).i = i from rfl, H.states_eq b l r.val r.isLt, loads_y, H.y]
  rfl

theorem Src.tail_eq {S : Src Ideal} {I : Given} {i : grid0.Coords} {s : ℕ} (H : S.Holds I i s) (j : Fin 8)
    (k : Fin 2048) : S.tail i (ix2 j k) = I.u ((s + 1) * 256 + j.val - 8) k := by
  obtain ⟨b, l, rfl⟩ := ch_surj k
  refine (read_tiles2 _ _ _ j b l _ rfl).trans ?_
  rw [tailOut_apply, loads_u, H.u]
  congr 1
  show s * 256 + (248 + j.val) = (s + 1) * 256 + j.val - 8
  omega

theorem Src.last_eq {S : Src Ideal} {I : Given} {i : grid0.Coords} {s : ℕ} (H : S.Holds I i s) (b : Fin 8)
    (l : Fin 256) : S.last i (ix2 0 (ch b l)) = I.state b l ((s + 1) * 256) := by
  refine (read_tiles2 _ _ _ 0 b l _ rfl).trans ?_
  rw [Loads.last_apply]
  rw [show (S.loads i b).i = i from rfl, H.states_eq b l 255 (by omega)]
  congr 1
  omega

/-! ## The projections -/

/-- The buffers hold the norm's weights, the projection's and tile `s` of the stream. -/
structure Feed.Holds (P : Feed Ideal) (I : Given) (s : ℕ) : Prop where
  x : ∀ (r : Fin 256) k, P.x (ix2 r k) = I.x (s * 256 + r.val) k
  g : ∀ k, P.g (ix2 0 k) = I.g k
  w : ∀ k c, P.w (ix3 0 k c) = I.w k c

theorem norm_apply (x : Vec Ideal S256x2048 .f32) (g : Vec Ideal S1x2048 .f32) (r : Fin 256) (k : Fin 2048) :
    norm x g (ix2 r k) = x (ix2 r k) * rms (fun q => x (ix2 r q)) * g (ix2 0 k) := by
  unfold norm
  pointwise [k0_pay12]
  rfl

theorem proj_apply (xn : FVec Ideal S256x2048 .bf16) (w : Vec Ideal S1x2048x256 .bf16) (r l : Fin 256) :
    proj xn w (ix2 r l) = ∑ k : Fin 2048, xn (ix2 r k) * w (ix3 0 k l) := by
  pointwise [proj]

theorem Feed.xn_eq {P : Feed Ideal} {I : Given} {s : ℕ} (H : P.Holds I s) (r : Fin 256) (k : Fin 2048) :
    P.xn (ix2 r k) = I.xn (s * 256 + r.val) k := by
  have hx : ∀ (r : Fin 256) (k : Fin 2048), View.readAt (Elt Ideal) P.r1.view all256.toLoadRect (P.w1.unread P.x) (ix2 r k)
      = I.x (s * 256 + r.val) k := fun r k =>
    (P.w1.readAt_unread P.x _ _).trans ((congrArg P.x (idx2 _ _ _ _ r k rfl (Nat.zero_add _).symm)).trans (H.x r k))
  have hg : View.readAt (Elt Ideal) P.r2.view all1.toLoadRect (P.w2.unread P.g) (ix2 0 k) = I.g k :=
    (P.w2.readAt_unread P.g _ _).trans ((congrArg P.g (idx2 _ _ _ _ 0 k rfl (Nat.zero_add _).symm)).trans (H.g k))
  unfold Feed.xn Given.xn
  refine (congrFun (View.readCov_cons_toLoadRect _ all256 _ []) (ix2 r k)).trans ((norm_apply _ _ r k).trans ?_)
  exact congr (congrArg _ (congr (congrArg _ (hx r k)) (congrArg rms (funext fun q => hx r q)))) hg

theorem Feed.block_eq {P : Feed Ideal} {I : Given} {s : ℕ} (H : P.Holds I s) (o : ℕ) (ho : o + 2048 ≤ 4096) (b : Fin 8)
    (r l : Fin 256) (c : Fin 4096) (hc : c.val = o + (ch b l).val) :
    P.block o ho b (ix2 r l) = I.z (s * 256 + r.val) c := by
  unfold Feed.block Given.z
  refine (proj_apply _ _ r l).trans (Finset.sum_congr rfl fun k _ => ?_)
  rw [Feed.xn_eq H]
  refine congrArg (I.xn (s * 256 + r.val) k * ·) ?_
  refine (P.w3.readAt_unread P.w _ _).trans ((congrArg P.w (idx3 _ _ _ _ _ _ 0 k c rfl rfl ?_)).trans (H.w k c))
  rw [hc]
  show o + (b.val * 256 + l.val) = o + b.val * 256 + l.val
  omega

theorem Feed.zy_eq {P : Feed Ideal} {I : Given} {s : ℕ} (H : P.Holds I s) (base : List (View.Piece (Elt Ideal) S256x2048 .f32))
    (r : Fin 256) (k : Fin 2048) : P.zy base (ix2 r k) = I.y (s * 256 + r.val) k := by
  obtain ⟨b, l, rfl⟩ := ch_surj k
  unfold Feed.zy
  rw [View.writes_append]
  exact (read_tiles2 _ _ _ r b l _ rfl).trans (Feed.block_eq H 0 _ b r l _ (Nat.zero_add _).symm)

theorem Feed.zx_eq {P : Feed Ideal} {I : Given} {s : ℕ} (H : P.Holds I s) (base : List (View.Piece (Elt Ideal) S256x2048 .f32))
    (r : Fin 256) (k : Fin 2048) : P.zx base (ix2 r k) = I.u (s * 256 + r.val) k := by
  obtain ⟨b, l, rfl⟩ := ch_surj k
  unfold Feed.zx
  rw [View.writes_append]
  exact (read_tiles2 _ _ _ r b l _ rfl).trans (Feed.block_eq H 2048 _ b r l _ rfl)

end Cert.KernelIdeal.Mix

end
-- ==== Proof.Held.lean ====
/-
  What the kernel's windows hold at each grid point, at coordinates: the stream's tile of the point, and
  the weights whole.
-/
module

public import proofs.«01_k».proof.Proof.TileValue
public import Idealize.ShloMosaic.Lib.Pipeline.ValueKit

@[expose] public section

set_option maxRecDepth 16384

noncomputable section

namespace Cert.KernelIdeal.Mix

open Idealize.ShloMosaic Idealize.ShloMosaic.TcCoe Cert.KernelIdeal Cert.KernelIdeal.Gen Mixer

variable (m : (ℓ : Loc nD τ sig) → Buf (Elt Ideal) ℓ) (c : Dev nD)

/-- The arguments, as the mixer is given them. -/
def args : Given :=
  given (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

theorem index0 : ∀ t : Fin cfg0.N, win0_0.index t = ![min t.val 127, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![1, 0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![t.val - 1, 0] := (by decide +kernel : ∀ t : Fin grid0.N, _)

/-- A point's tile opens a sequence every thirty-second tile. -/
theorem starts_iff : ∀ t : Fin cfg0.N, starts (grid0.coords t) = 1#1 ↔ (t.val - 1) % 32 = 0 :=
  (by decide +kernel : ∀ t : Fin grid0.N, _)

theorem held0 (t : Fin cfg0.N) (ht : t.val < 128) (r : Fin 256) (k : Fin 2048) :
    iblk m c 0 t (ix2 r k) = (args m c).x (t.val * 256 + r.val) k := by
  blk_simp [iblk]
  rw [V_main_arg0]
  show m _ _ = m _ _
  congr 1
  blk_ext [index0]

/-! Rows of weights reshaped, and arrays narrowed, are read back as launched. -/

theorem V_main_v1 (k : Fin 2048) : V m c main_v1 (ix2 0 k) = m ((c : Thread nD τ).loc main_arg1) (ix1 k) := by
  unfold V
  after_results
  pointwise

theorem V_main_v2 (k : Fin 2048) : V m c main_v2 (ix2 0 k) = m ((c : Thread nD τ).loc main_arg4) (ix1 k) := by
  unfold V
  after_results
  pointwise

theorem V_main_v4 (k : Fin 2048) : V m c main_v4 (ix2 0 k) = m ((c : Thread nD τ).loc main_arg6) (ix1 k) := by
  unfold V
  after_results
  pointwise

theorem V_main_v6 (k : Fin 2048) : V m c main_v6 (ix2 0 k) = m ((c : Thread nD τ).loc main_arg8) (ix1 k) := by
  unfold V
  after_results
  pointwise

theorem V_main_v7 (k : Fin 2048) : V m c main_v7 (ix2 0 k) = m ((c : Thread nD τ).loc main_arg9) (ix1 k) := by
  unfold V
  after_results
  pointwise

theorem V_main_v0 (q : Fin 2) (k : Fin 2048) (r : Fin 4096) :
    V m c main_v0 (ix3 q k r) = m ((c : Thread nD τ).loc main_arg2) (ix3 q k r) := by
  unfold V
  after_results
  pointwise

theorem V_main_v3 (b : Fin 8) (q l : Fin 256) :
    V m c main_v3 (ix3 b q l) = m ((c : Thread nD τ).loc main_arg5) (ix3 b q l) := by
  unfold V
  after_results
  pointwise

theorem V_main_v5 (b : Fin 8) (q l : Fin 256) :
    V m c main_v5 (ix3 b q l) = m ((c : Thread nD τ).loc main_arg7) (ix3 b q l) := by
  unfold V
  after_results
  pointwise

theorem held1 (t : Fin cfg0.N) (k : Fin 2048) : iblk m c 1 t (ix2 0 k) = (args m c).g k := by
  blk_simp [iblk]
  refine Eq.trans (congrArg (V m c main_v1) ?_) (V_main_v1 m c k)
  blk_ext [index1]

theorem held4 (t : Fin cfg0.N) (k : Fin 2048) : iblk m c 4 t (ix2 0 k) = (args m c).cb k := by
  blk_simp [iblk]
  refine Eq.trans (congrArg (V m c main_v2) ?_) (V_main_v2 m c k)
  blk_ext [index4]

theorem held6 (t : Fin cfg0.N) (k : Fin 2048) : iblk m c 6 t (ix2 0 k) = (args m c).gxb k := by
  blk_simp [iblk]
  refine Eq.trans (congrArg (V m c main_v4) ?_) (V_main_v4 m c k)
  blk_ext [index6]

theorem held8 (t : Fin cfg0.N) (k : Fin 2048) : iblk m c 8 t (ix2 0 k) = (args m c).gab k := by
  blk_simp [iblk]
  refine Eq.trans (congrArg (V m c main_v6) ?_) (V_main_v6 m c k)
  blk_ext [index8]

theorem held9 (t : Fin cfg0.N) (k : Fin 2048) : iblk m c 9 t (ix2 0 k) = (args m c).l k := by
  blk_simp [iblk]
  refine Eq.trans (congrArg (V m c main_v7) ?_) (V_main_v7 m c k)
  blk_ext [index9]

theorem held2 (t : Fin cfg0.N) (k : Fin 2048) (q : Fin 4096) : iblk m c 2 t (ix3 0 k q) = (args m c).w k q := by
  blk_simp [iblk]
  refine Eq.trans (congrArg (V m c main_v0) ?_) (V_main_v0 m c 1 k q)
  blk_ext [index2]

theorem held3 (t : Fin cfg0.N) (j : Fin 4) (k : Fin 2048) : iblk m c 3 t (ix2 j k) = (args m c).cw j k := by
  blk_simp [iblk]
  rw [V_main_arg3]
  show m _ _ = m _ _
  congr 1
  blk_ext [index3]

theorem held5 (t : Fin cfg0.N) (b : Fin 8) (q l : Fin 256) : iblk m c 5 t (ix3 b q l) = (args m c).gx b q l := by
  blk_simp [iblk]
  refine Eq.trans (congrArg (V m c main_v3) ?_) (V_main_v3 m c b q l)
  blk_ext [index5]

theorem held7 (t : Fin cfg0.N) (b : Fin 8) (q l : Fin 256) : iblk m c 7 t (ix3 b q l) = (args m c).ga b q l := by
  blk_simp [iblk]
  refine Eq.trans (congrArg (V m c main_v5) ?_) (V_main_v5 m c b q l)
  blk_ext [index7]

end Cert.KernelIdeal.Mix

end
-- ==== Proof.KernelValue.lean ====
/-
  What the kernel leaves: after each grid point the projections of its tile and, one tile behind, the
  output tile, the last rows and the state; so the result array holds the mixer's output, row by row.
-/
module

public import proofs.«01_k».proof.Proof.Held

@[expose] public section

set_option maxRecDepth 16384

noncomputable section

namespace Cert.KernelIdeal.Mix

open Idealize.ShloMosaic Idealize.ShloMosaic.TcCoe Cert.KernelIdeal Cert.KernelIdeal.Gen Mixer
open Idealize.SL.Sem

variable (m : (ℓ : Loc nD τ sig) → Buf (Elt Ideal) ℓ) (ρ : Dev nD → PrngReg) (c : Dev nD)

/-- What the buffers hold after point `n`. -/
structure After (n : ℕ) (out : Vec Ideal S256x2048 .bf16) (zy zx : Vec Ideal S256x2048 .f32) (tail : Vec Ideal S8x2048 .f32)
    (last : Vec Ideal S1x2048 .f32) : Prop where
  zy : n < 128 → ∀ (r : Fin 256) k, zy (ix2 r k) = (args m c).y (n * 256 + r.val) k
  zx : n < 128 → ∀ (r : Fin 256) k, zx (ix2 r k) = (args m c).u (n * 256 + r.val) k
  out : 1 ≤ n → ∀ (r : Fin 256) b l, out (ix2 r (ch b l)) = (args m c).out ((n - 1) * 256 + r.val) b l
  tail : 1 ≤ n → ∀ (j : Fin 8) k, tail (ix2 j k) = (args m c).u (n * 256 + j.val - 8) k
  last : 1 ≤ n → ∀ b l, last (ix2 0 (ch b l)) = (args m c).state b l (n * 256)

/-- The buffers the projections of a point read. -/
def feed (t : Fin cfg0.N) : Feed Ideal :=
  Feed.mk (ms0_0 t) (hs0_0 t) (iblk m c 0 t) (ms0_1 t) (hs0_1 t) (iblk m c 1 t) (ms0_2 t) (hs0_2 t) (iblk m c 2 t) scM0_0

theorem feed_holds (t : Fin cfg0.N) (ht : t.val < 128) : (feed m c t).Holds (args m c) t.val :=
  ⟨held0 m c t ht, held1 m c t, held2 m c t⟩

/-- The buffers the scan of a point reads, over what the point before left. -/
def src (t : Fin cfg0.N) (zy zx : Vec Ideal S256x2048 .f32) (tail : Vec Ideal S8x2048 .f32) (last : Vec Ideal S1x2048 .f32) :
    Src Ideal :=
  Src.mk (ms0_3 t) (hs0_3 t) (iblk m c 3 t) (ms0_4 t) (hs0_4 t) (iblk m c 4 t) (ms0_5 t) (hs0_5 t) (iblk m c 5 t)
    (ms0_6 t) (hs0_6 t) (iblk m c 6 t) (ms0_7 t) (hs0_7 t) (iblk m c 7 t) (ms0_8 t) (hs0_8 t) (iblk m c 8 t)
    (ms0_9 t) (hs0_9 t) (iblk m c 9 t) scM0_1 (Memref.isWhole_whole _) zy scM0_2 (Memref.isWhole_whole _) zx
    scM0_3 (Memref.isWhole_whole _) tail scM0_4 (Memref.isWhole_whole _) last

theorem src_holds (n : ℕ) (hn : n + 1 < cfg0.N) {out : Vec Ideal S256x2048 .bf16} {zy zx : Vec Ideal S256x2048 .f32}
    {tail : Vec Ideal S8x2048 .f32} {last : Vec Ideal S1x2048 .f32} (H : After m c n out zy zx tail last) :
    (src m c ⟨n + 1, hn⟩ zy zx tail last).Holds (args m c) (grid0.coords ⟨n + 1, hn⟩) n :=
  have hN : n + 1 < 129 := lt_of_lt_of_eq hn (show cfg0.N = 129 from N_0)
  Src.Holds.mk (held3 m c ⟨n + 1, hn⟩) (held4 m c ⟨n + 1, hn⟩) (held5 m c ⟨n + 1, hn⟩) (held6 m c ⟨n + 1, hn⟩)
    (held7 m c ⟨n + 1, hn⟩) (held8 m c ⟨n + 1, hn⟩) (held9 m c ⟨n + 1, hn⟩) (starts_iff ⟨n + 1, hn⟩)
    (H.zy (by omega)) (H.zx (by omega)) (fun h => H.tail (by omega)) (fun h => H.last (by omega))

/-- After every point. -/
theorem after_point (n : ℕ) (hn : n < cfg0.N) :
    After m c n (outsAt0 m c n hn).1 (outsAt0 m c n hn).2.2.1 (outsAt0 m c n hn).2.2.2.1 (outsAt0 m c n hn).2.2.2.2.1
      (outsAt0 m c n hn).2.2.2.2.2 := by
  have hN : n < 129 := lt_of_lt_of_eq hn (show cfg0.N = 129 from N_0)
  induction n with
  | zero =>
    have e := outsAt0_A m c ⟨0, hn⟩ rfl (by show 0 < 128; omega)
    dsimp only at e
    rw [e]
    dsimp only
    refine ⟨fun h r k => ?_, fun h r k => ?_, fun h => absurd h (by omega), fun h => absurd h (by omega),
      fun h => absurd h (by omega)⟩
    · rw [zy_A]
      exact Feed.zy_eq (feed_holds m c ⟨0, hn⟩ h) _ r k
    · rw [zx_A]
      exact Feed.zx_eq (feed_holds m c ⟨0, hn⟩ h) _ r k
  | succ n ih =>
    have H := src_holds m c n hn (ih (by omega) (by omega))
    by_cases h1 : n + 1 < 128
    · have e := outsAt0_B m c ⟨n + 1, hn⟩ (by show ¬(n + 1) % 129 = 0; omega) h1
      dsimp only at e
      rw [e]
      dsimp only
      refine ⟨fun h r k => ?_, fun h r k => ?_, fun h r b l => ?_, fun h j k => ?_, fun h b l => ?_⟩
      · rw [zy_B]
        exact Feed.zy_eq (feed_holds m c ⟨n + 1, hn⟩ h) _ r k
      · rw [zx_B]
        exact Feed.zx_eq (feed_holds m c ⟨n + 1, hn⟩ h) _ r k
      · rw [out_B]
        exact Src.out_eq H r b l
      · rw [tail_B]
        exact Src.tail_eq H j k
      · rw [last_B]
        exact Src.last_eq H b l
    · have e := outsAt0_C m c ⟨n + 1, hn⟩ (by show ¬(n + 1) % 129 = 0; omega) h1
      dsimp only at e
      rw [e]
      dsimp only
      refine ⟨fun h => absurd h h1, fun h => absurd h h1, fun h r b l => ?_, fun h j k => ?_, fun h b l => ?_⟩
      · rw [out_C]
        exact Src.out_eq H r b l
      · rw [tail_C]
        exact Src.tail_eq H j k
      · rw [last_C]
        exact Src.last_eq H b l

/-- The mixer's output as an array of rows. -/
def rowsOf (I : Given) : (⟨2, ![32768, 2048]⟩ : Shape).Idx → EReal := fun i =>
  I.out (i 0).val ⟨(i 1).val / 256, by have := (i 1).isLt; simp at this; omega⟩ ⟨(i 1).val % 256, by omega⟩

theorem rowsOf_apply (I : Given) (n : Fin 32768) (b : Fin 8) (l : Fin 256) : rowsOf I (ix2 n (ch b l)) = I.out n.val b l := by
  show I.out n.val _ _ = _
  congr 1
  · exact Fin.ext (by show (b.val * 256 + l.val) / 256 = b.val; omega)
  · exact Fin.ext (by show (b.val * 256 + l.val) % 256 = l.val; omega)

/-- The point before the first tile's output writes nothing back. -/
theorem flush10 : ∀ t : Fin cfg0.N, (cfg0.win 10).flush t = true → 1 ≤ t.val := (by decide +kernel : ∀ t : Fin grid0.N, _)

/-- The result array. -/
theorem array_eq : (dats m 0 c).arrAt 10 cfg0.N = rowsOf (args m c) := by
  refine (dats m 0 c).arrAt_eq_of_covers 10 _ (by decide +kernel) fun t hf y => ?_
  have hN : t.val < 129 := lt_of_lt_of_eq t.isLt (show cfg0.N = 129 from N_0)
  have h1 := flush10 t hf
  blk_simp
  rw [after0_10]
  idx_vars y
  obtain ⟨b, l, rfl⟩ := ch_surj y1
  refine ((after_point m c t.val t.isLt).out h1 y0 b l).trans ?_
  refine (rowsOf_apply (args m c) ⟨(t.val - 1) * 256 + y0.val, by omega⟩ b l).symm.trans (congrArg (rowsOf (args m c)) ?_)
  blk_ext [index10]

end Cert.KernelIdeal.Mix

end
-- ==== Proof.MixerClaim.lean ====
/-
  The mixer's claims: the frames, and that the kernel and the plain program end with the same rows.
-/
module

public import proofs.«01_k».proof.Defs
public import proofs.«01_k».proof.Proof.RefValue
public import proofs.«01_k».proof.Proof.KernelValue
public import proofs.«01_k».proof.Proof.Gen.Kernel.Frame
public import proofs.«01_k».proof.Proof.Gen.KernelIdeal.Frame
public import Idealize.ShloMosaic.Adequacy

@[expose] public section

set_option maxRecDepth 16384

noncomputable section

namespace Cert.Mixed

open Idealize.ShloMosaic Idealize.ShloMosaic.TcCoe Idealize.SL.Sem Mixer

theorem frame_kernel : Cert.quiescent_Kernel := fun m ρ _ => Cert.Kernel.Gen.frame m ρ
theorem frame_ideal : Cert.quiescent_KernelIdeal := fun m ρ _ => Cert.KernelIdeal.Gen.frame m ρ
theorem frame_plain : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The plain program's array of rows. -/
theorem plain_array (m : (ℓ : Loc Cert.ReferenceIdeal.nD Cert.ReferenceIdeal.τ Cert.ReferenceIdeal.sig) → Buf (Elt Ideal) ℓ)
    (c : Dev Cert.ReferenceIdeal.nD) :
    Cert.ReferenceIdeal.Value.out_main_v111 (Cert.ReferenceIdeal.Value.STEP^[8192] (StableHlo.entryContents Cert.ReferenceIdeal.Value.preI m c))
      = Cert.KernelIdeal.Mix.rowsOf (Cert.ReferenceIdeal.Mix.args (StableHlo.launchContents m c)) := by
  funext i
  obtain ⟨n, k, rfl⟩ : ∃ (n : Fin 32768) (k : Fin 2048), i = ix2 n k := ⟨i 0, i 1, (ix2_eta i).symm⟩
  obtain ⟨b, l, rfl⟩ := ch_surj k
  refine (Cert.ReferenceIdeal.Mix.result_row (StableHlo.launchContents m c) (Cert.ReferenceIdeal.Value.ctr_entry m c) n b l).trans ?_
  exact (Cert.KernelIdeal.Mix.rowsOf_apply _ n b l).symm

/-- Equal arrays give the mixer equal arguments. -/
theorem given_congr {a0 b0 : (⟨2, ![32768, 2048]⟩ : Shape).Idx → EReal} {a1 b1 : (⟨1, ![2048]⟩ : Shape).Idx → EReal}
    {a2 b2 : (⟨3, ![2, 2048, 4096]⟩ : Shape).Idx → EReal} {a3 b3 : (⟨2, ![4, 2048]⟩ : Shape).Idx → EReal}
    {a4 b4 : (⟨1, ![2048]⟩ : Shape).Idx → EReal} {a5 b5 : (⟨3, ![8, 256, 256]⟩ : Shape).Idx → EReal}
    {a6 b6 : (⟨1, ![2048]⟩ : Shape).Idx → EReal} {a7 b7 : (⟨3, ![8, 256, 256]⟩ : Shape).Idx → EReal}
    {a8 b8 a9 b9 : (⟨1, ![2048]⟩ : Shape).Idx → EReal} (h0 : a0 = b0) (h1 : a1 = b1) (h2 : a2 = b2) (h3 : a3 = b3) (h4 : a4 = b4)
    (h5 : a5 = b5) (h6 : a6 = b6) (h7 : a7 = b7) (h8 : a8 = b8) (h9 : a9 = b9) :
    given a0 a1 a2 a3 a4 a5 a6 a7 a8 a9 = given b0 b1 b2 b3 b4 b5 b6 b7 b8 b9 := by
  subst h0 h1 h2 h3 h4 h5 h6 h7 h8 h9
  rfl

theorem same_rows : Cert.algebraic_KernelIdeal_ReferenceIdeal := by
  intro m ρ m' ρ' _ hag
  refine ⟨fun c => Cert.KernelIdeal.Mix.rowsOf (Cert.KernelIdeal.Mix.args m c), ?_, ?_⟩
  · exact (θ_run Cert.KernelIdeal.defs _ _).mono (fun _ h c => ⟨(h c).1.trans (Cert.KernelIdeal.Mix.array_eq m c), (h c).2⟩)
      (Cert.KernelIdeal.Value.run_blocks m ρ)
  · have e : ∀ c, Cert.ReferenceIdeal.Mix.args (StableHlo.launchContents m' c) = Cert.KernelIdeal.Mix.args m c := fun c => by
      obtain ⟨h0, h1, h2, h3, h4, h5, h6, h7, h8, h9⟩ := hag c
      exact given_congr h0 h1 h2 h3 h4 h5 h6 h7 h8 h9
    exact (θ_run Cert.ReferenceIdeal.defs _ _).mono
      (fun _ h c => ⟨(h c).1.trans ((plain_array m' c).trans (congrArg Cert.KernelIdeal.Mix.rowsOf (e c))), (h c).2⟩)
      (Cert.ReferenceIdeal.Value.run m' ρ')

end Cert.Mixed

end
-- ==== Proof.Ffn.lean ====
/-
  The squared-unit layer as mathematics: rows of a stream, each row's normalised products cut at zero and
  squared, their second product added to the row, and the last norm. The sum over the 8192 hidden units is
  also given as sixteen stretches of 512 units, one after another.
-/
module

public import proofs.«01_k».proof.Proof.Spec
public import Idealize.ShloMosaic.Lib.Pipeline.ValueKit

@[expose] public section

set_option maxRecDepth 16384

noncomputable section

namespace Ffn

open Idealize.ShloMosaic Mixer

/-- What the layer is given. -/
structure Given where
  x : ℕ → Fin 2048 → EReal
  g : Fin 2048 → EReal
  w1 : Fin 2048 → Fin 8192 → EReal
  w2 : Fin 8192 → Fin 2048 → EReal

/-- The layer's arguments: layer `q` of the four. -/
def given (q : Fin 4) (a0 : (⟨2, ![32768, 2048]⟩ : Shape).Idx → EReal) (a1 : (⟨1, ![2048]⟩ : Shape).Idx → EReal)
    (a2 : (⟨3, ![4, 2048, 8192]⟩ : Shape).Idx → EReal) (a3 : (⟨3, ![4, 8192, 2048]⟩ : Shape).Idx → EReal) : Given where
  x n k := a0 (ix2 ⟨n % 32768, Nat.mod_lt _ (by omega)⟩ k)
  g k := a1 (ix1 k)
  w1 k j := a2 (ix3 q k j)
  w2 j k := a3 (ix3 q j k)

/-- Unit `b` of stretch `a`. -/
def unit (a : ℕ) (b : Fin 512) : Fin 8192 := ⟨(a * 512 + b.val) % 8192, Nat.mod_lt _ (by omega)⟩

namespace Given

variable (I : Given)

/-- The normalised row. -/
def xn (n : ℕ) (k : Fin 2048) : EReal := I.x n k * rms (I.x n) * I.g k

/-- A hidden unit: the product cut at zero. -/
def hid (n : ℕ) (j : Fin 8192) : EReal := max (∑ k : Fin 2048, I.xn n k * I.w1 k j) 0

/-- What a hidden unit adds to a channel. -/
def term (n : ℕ) (c : Fin 2048) (j : Fin 8192) : EReal := I.hid n j * I.hid n j * I.w2 j c

/-- The row after the layer. -/
def out (n : ℕ) (c : Fin 2048) : EReal := I.x n c + ∑ j : Fin 8192, I.term n c j

/-- The row after the first `J` stretches. -/
def part (J n : ℕ) (c : Fin 2048) : EReal :=
  I.x n c + ∑ a ∈ Finset.range J, ∑ b : Fin 512, I.term n c (unit a b)

theorem part_zero (n : ℕ) (c : Fin 2048) : I.part 0 n c = I.x n c := by
  unfold part
  rw [Finset.sum_range_zero, add_zero]

theorem part_succ (J n : ℕ) (c : Fin 2048) :
    I.part (J + 1) n c = I.part J n c + ∑ b : Fin 512, I.term n c (unit J b) := by
  unfold part
  rw [Finset.sum_range_succ, add_assoc]

/-- A stretch's products, of buffers holding the row and the stretch's weights, over what the stretches before left. -/
theorem stretch (J n : ℕ) (c : Fin 2048) {o : EReal} {xr : Fin 2048 → EReal} {wa : Fin 2048 → Fin 512 → EReal}
    {wb : Fin 512 → EReal} (ho : o = I.part J n c) (hx : ∀ q, xr q = I.xn n q) (ha : ∀ q b, wa q b = I.w1 q (unit J b))
    (hb : ∀ b, wb b = I.w2 (unit J b) c) :
    o + ∑ b : Fin 512, max (∑ q : Fin 2048, xr q * wa q b) 0 * max (∑ q : Fin 2048, xr q * wa q b) 0 * wb b
      = I.part (J + 1) n c := by
  rw [part_succ, ho]
  refine congrArg _ (Finset.sum_congr rfl fun b _ => ?_)
  have e : (∑ q : Fin 2048, xr q * wa q b) = ∑ q : Fin 2048, I.xn n q * I.w1 q (unit J b) :=
    Finset.sum_congr rfl fun q _ => by rw [hx, ha]
  rw [e, hb]
  rfl

theorem part_all (n : ℕ) (c : Fin 2048) : I.part 16 n c = I.out n c := by
  unfold part out
  refine congrArg (I.x n c + ·) ?_
  have e : ∀ j : Fin 8192, I.term n c j = (fun t : ℕ => I.term n c ⟨t % 8192, Nat.mod_lt _ (by omega)⟩) j.val := fun j =>
    congrArg (I.term n c) (Fin.ext (Nat.mod_eq_of_lt j.isLt).symm)
  rw [Finset.sum_congr rfl fun j _ => e j, Fin.sum_univ_eq_sum_range (fun t : ℕ => I.term n c ⟨t % 8192, Nat.mod_lt _ (by omega)⟩) 8192]
  refine Eq.symm ((Finset.sum_range_mul_split 16 512 _).trans (Finset.sum_congr rfl fun a _ => ?_))
  exact (Fin.sum_univ_eq_sum_range (fun b : ℕ => I.term n c ⟨(a * 512 + b) % 8192, Nat.mod_lt _ (by omega)⟩) 512).symm

/-- The last norm of the row. -/
def final (gf : Fin 2048 → EReal) (n : ℕ) (c : Fin 2048) : EReal := I.out n c * rms (I.out n) * gf c

end Given

/-- Rows as an array. -/
def rowsOf (f : ℕ → Fin 2048 → EReal) : (⟨2, ![32768, 2048]⟩ : Shape).Idx → EReal := fun i => f (i 0).val (i 1)

theorem rowsOf_apply (f : ℕ → Fin 2048 → EReal) (n : Fin 32768) (k : Fin 2048) : rowsOf f (ix2 n k) = f n.val k := rfl

/-- Equal arrays give the layer equal arguments. -/
theorem given_congr (q : Fin 4) {a0 b0 : (⟨2, ![32768, 2048]⟩ : Shape).Idx → EReal} {a1 b1 : (⟨1, ![2048]⟩ : Shape).Idx → EReal}
    {a2 b2 : (⟨3, ![4, 2048, 8192]⟩ : Shape).Idx → EReal} {a3 b3 : (⟨3, ![4, 8192, 2048]⟩ : Shape).Idx → EReal}
    (h0 : a0 = b0) (h1 : a1 = b1) (h2 : a2 = b2) (h3 : a3 = b3) : given q a0 a1 a2 a3 = given q b0 b1 b2 b3 := by
  subst h0 h1 h2 h3
  rfl

end Ffn

end
-- ==== Proof.LastPoint.lean ====
/-
  What one grid point of the last layer's kernel leaves, as functions of the values it loads: the first
  point of a tile normalises it and copies it to the output, every point adds the products of its stretch
  of 512 hidden units, the last point of a tile normalises the sum.
-/
module

public import proofs.«01_k».proof.Proof.Gen.Kernel2Ideal.Value
public import proofs.«01_k».proof.Proof.Ffn
public import Idealize.ShloMosaic.Lib.KernelVsHost

@[expose] public section

set_option maxRecDepth 16384

noncomputable section

namespace Cert.Kernel2Ideal.Ffn

open Idealize.ShloMosaic Idealize.ShloMosaic.TcCoe Cert.Kernel2Ideal Cert.Kernel2Ideal.Gen Mixer

section Cases

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S1x2048x512 .f32) (harg4 : arg4.IsWhole) (arg5 : Memref sig .tc .vmem S1x512x2048 .bf16) (harg5 : arg5.IsWhole)
  (arg6 : Memref sig .tc .vmem S1x2048 .f32) (harg6 : arg6.IsWhole) (arg7 : Memref sig .tc .vmem S1024x2048 .f32) (harg7 : arg7.IsWhole)
  (arg8 : Memref sig .tc .vmem S1024x2048 .bf16) (harg8 : arg8.IsWhole)
  (x0 : Vec F S1024x2048 .f32) (x1 : Vec F S1x2048 .f32) (x2 : Vec F S1x2048x512 .f32) (x3 : Vec F S1x512x2048 .bf16) (x4 : Vec F S1x2048 .f32)
  (xo : Vec F S1024x2048 .f32) (xs : Vec F S1024x2048 .bf16)

theorem norm_first (hc0 : cond0_0 i) (hc1 : ¬cond0_1 i) :
    sout0_A_0 c i arg2 harg2 arg3 harg3 arg4 harg4 arg5 harg5 arg6 harg6 arg7 harg7 arg8 harg8 hc0 hc1 x0 x1 x2 x3 x4
      = k0_pay1 x0 x1 := by
  unfold sout0_A_0
  rw [View.read_writes_eq_canon _ _ _ (scover0_A_0 c i arg2 harg2 arg3 harg3 arg4 harg4 arg5 harg5 arg6 harg6 arg7 harg7 arg8 harg8 hc0 hc1 x0 x1 x2 x3 x4)]
  unfold kernelRun0_A
  dsimp only
  sl_unfold_words
  rw [View.canon_unit_zero zero2]
  simp only [View.readAt_eq_ld, harg2.read_unread, harg3.read_unread, View.ld_unit_zero (S := S1024x2048) zero2,
    View.ld_unit_zero (S := S1x2048) zero2]

theorem out_first (hc0 : cond0_0 i) (hc1 : ¬cond0_1 i) :
    out0_A_5 c i arg2 harg2 arg3 harg3 arg4 harg4 arg5 harg5 arg6 harg6 arg7 harg7 arg8 harg8 hc0 hc1 x0 x1 x2 x3 x4
      = k0_pay2 (k0_pay1 x0 x1) x2 x0 x3 := by
  unfold out0_A_5
  rw [View.read_writes_eq_canon _ _ _ (cover0_A_5 c i arg2 harg2 arg3 harg3 arg4 harg4 arg5 harg5 arg6 harg6 arg7 harg7 arg8 harg8 hc0 hc1 x0 x1 x2 x3 x4)]
  unfold kernelRun0_A
  dsimp only
  sl_unfold_words
  rw [View.canon_cons_unit_zero (S := S1024x2048) zero2]
  simp only [View.readCov_unit_zero (S := S1024x2048) _ zero2, View.readAt_eq_ld, harg2.read_unread, harg3.read_unread,
    harg4.read_unread, harg5.read_unread, View.ld_unit_zero (S := S1024x2048) zero2, View.ld_unit_zero (S := S1x2048) zero2,
    View.ld_unit_zero (S := S1x2048x512) zero3, View.ld_unit_zero (S := S1x512x2048) zero3]

theorem out_mid (hc0 : ¬cond0_0 i) (hc1 : ¬cond0_1 i) :
    out0_B_5 c i arg2 harg2 arg3 harg3 arg4 harg4 arg5 harg5 arg6 harg6 arg7 harg7 arg8 harg8 hc0 hc1 x0 x1 x2 x3 x4 xo xs
      = k0_pay2 xs x2 xo x3 := by
  unfold out0_B_5
  rw [View.read_writes_eq_canon _ _ _ (cover0_B_5 c i arg2 harg2 arg3 harg3 arg4 harg4 arg5 harg5 arg6 harg6 arg7 harg7 arg8 harg8 hc0 hc1 x0 x1 x2 x3 x4 xo xs)]
  unfold kernelRun0_B
  dsimp only
  sl_unfold_words
  rw [View.canon_unit_zero zero2]
  simp only [View.readAt_eq_ld, harg4.read_unread, harg5.read_unread, harg7.read_unread, harg8.read_unread,
    View.ld_unit_zero (S := S1024x2048) zero2, View.ld_unit_zero (S := S1x2048x512) zero3,
    View.ld_unit_zero (S := S1x512x2048) zero3]

theorem out_last (hc0 : ¬cond0_0 i) (hc1 : cond0_1 i) :
    out0_C_5 c i arg2 harg2 arg3 harg3 arg4 harg4 arg5 harg5 arg6 harg6 arg7 harg7 arg8 harg8 hc0 hc1 x0 x1 x2 x3 x4 xo xs
      = k0_pay3 (k0_pay2 xs x2 xo x3) x4 := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xo xs)]
  unfold kernelRun0_C
  dsimp only
  sl_unfold_words
  rw [View.canon_cons_unit_zero (S := S1024x2048) zero2]
  simp only [View.readCov_unit_zero (S := S1024x2048) _ zero2, View.readAt_eq_ld, harg4.read_unread, harg5.read_unread,
    harg6.read_unread, harg7.read_unread, harg8.read_unread, View.ld_unit_zero (S := S1024x2048) zero2,
    View.ld_unit_zero (S := S1x2048) zero2, View.ld_unit_zero (S := S1x2048x512) zero3,
    View.ld_unit_zero (S := S1x512x2048) zero3]

end Cases

/-! ## The values at a place -/

theorem norm_apply (x : Vec Ideal S1024x2048 .f32) (g : Vec Ideal S1x2048 .f32) (r : Fin 1024) (k : Fin 2048) :
    k0_pay1 x g (ix2 r k) = x (ix2 r k) * rms (fun q => x (ix2 r q)) * g (ix2 0 k) := by
  pointwise [k0_pay1]
  rfl

theorem last_apply (x : Vec Ideal S1024x2048 .f32) (g : Vec Ideal S1x2048 .f32) (r : Fin 1024) (k : Fin 2048) :
    k0_pay3 x g (ix2 r k) = x (ix2 r k) * rms (fun q => x (ix2 r q)) * g (ix2 0 k) := by
  pointwise [k0_pay3]
  rfl

theorem step_apply (xn : Vec Ideal S1024x2048 .bf16) (w1 : Vec Ideal S1x2048x512 .f32) (o : Vec Ideal S1024x2048 .f32)
    (w2 : Vec Ideal S1x512x2048 .bf16) (r : Fin 1024) (k : Fin 2048) :
    k0_pay2 xn w1 o w2 (ix2 r k) = o (ix2 r k)
      + ∑ b : Fin 512, max (∑ q : Fin 2048, xn (ix2 r q) * w1 (ix3 0 q b)) 0 * max (∑ q : Fin 2048, xn (ix2 r q) * w1 (ix3 0 q b)) 0
          * w2 (ix3 0 b k) := by
  pointwise [k0_pay2]

end Cert.Kernel2Ideal.Ffn

end
-- ==== Proof.LastValue.lean ====
/-
  What the last layer's kernel leaves: after each grid point the normalised tile and the tile's rows with
  the stretches added so far; so the result array holds the layer's normalised rows.
-/
module

public import proofs.«01_k».proof.Proof.LastPoint

@[expose] public section

set_option maxRecDepth 16384

noncomputable section

namespace Cert.Kernel2Ideal.Ffn

open Idealize.ShloMosaic Idealize.ShloMosaic.TcCoe Cert.Kernel2Ideal Cert.Kernel2Ideal.Gen Mixer _root_.Ffn
open Idealize.SL.Sem

variable (m : (ℓ : Loc nD τ sig) → Buf (Elt Ideal) ℓ) (c : Dev nD)

/-- The arguments, as the layer is given them. -/
def args : _root_.Ffn.Given :=
  given 3 (m ((c : Thread nD τ).loc main_arg0)) (m ((c : Thread nD τ).loc main_arg1)) (m ((c : Thread nD τ).loc main_arg2))
    (m ((c : Thread nD τ).loc main_arg3))

/-- The weights of the last norm. -/
def lastG (k : Fin 2048) : EReal := m ((c : Thread nD τ).loc main_arg4) (ix1 k)

theorem index0 : ∀ t : Fin cfg0.N, win0_0.index t = ![t.val / 16, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![3, 0, t.val % 16] := (by decide +kernel : ∀ t : Fin grid0.N, _)
theorem index3 : ∀ t : Fin cfg0.N, win0_3.index t = ![3, t.val % 16, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val / 16, 0] := (by decide +kernel : ∀ t : Fin grid0.N, _)

theorem held0 (t : Fin cfg0.N) (r : Fin 1024) (k : Fin 2048) :
    iblk m c 0 t (ix2 r k) = (args m c).x (t.val / 16 * 1024 + r.val) k := by
  have hN : t.val < 512 := lt_of_lt_of_eq t.isLt (show cfg0.N = 512 from N_0)
  blk_simp [iblk]
  rw [V_main_arg0]
  show m _ _ = m _ _
  congr 1
  blk_ext [index0]

theorem V_main_v1 (k : Fin 2048) : V m c main_v1 (ix2 0 k) = m ((c : Thread nD τ).loc main_arg1) (ix1 k) := by
  unfold V
  after_results
  pointwise

theorem V_main_v2 (k : Fin 2048) : V m c main_v2 (ix2 0 k) = m ((c : Thread nD τ).loc main_arg4) (ix1 k) := by
  unfold V
  after_results
  pointwise

theorem V_main_v0 (q : Fin 4) (j : Fin 8192) (k : Fin 2048) :
    V m c main_v0 (ix3 q j k) = m ((c : Thread nD τ).loc main_arg3) (ix3 q j k) := by
  unfold V
  after_results
  pointwise

theorem held1 (t : Fin cfg0.N) (k : Fin 2048) : iblk m c 1 t (ix2 0 k) = (args m c).g k := by
  blk_simp [iblk]
  refine Eq.trans (congrArg (V m c main_v1) ?_) (V_main_v1 m c k)
  blk_ext [index1]

theorem held4 (t : Fin cfg0.N) (k : Fin 2048) : iblk m c 4 t (ix2 0 k) = lastG m c k := by
  blk_simp [iblk]
  refine Eq.trans (congrArg (V m c main_v2) ?_) (V_main_v2 m c k)
  blk_ext [index4]

theorem held2 (t : Fin cfg0.N) (k : Fin 2048) (b : Fin 512) :
    iblk m c 2 t (ix3 0 k b) = (args m c).w1 k (unit (t.val % 16) b) := by
  blk_simp [iblk]
  rw [V_main_arg2]
  show m _ _ = m _ _
  congr 1
  blk_ext [index2, unit]

theorem held3 (t : Fin cfg0.N) (b : Fin 512) (k : Fin 2048) :
    iblk m c 3 t (ix3 0 b k) = (args m c).w2 (unit (t.val % 16) b) k := by
  blk_simp [iblk]
  refine Eq.trans (congrArg (V m c main_v0) ?_) (V_main_v0 m c 3 (unit (t.val % 16) b) k)
  blk_ext [index3, unit]

/-- What the buffers hold after point `n`. -/
structure After (n : ℕ) (o : Vec Ideal S1024x2048 .f32) (xn : Vec Ideal S1024x2048 .bf16) : Prop where
  xn : ∀ (r : Fin 1024) k, xn (ix2 r k) = (args m c).xn (n / 16 * 1024 + r.val) k
  part : n % 16 ≠ 15 → ∀ (r : Fin 1024) k, o (ix2 r k) = (args m c).part (n % 16 + 1) (n / 16 * 1024 + r.val) k
  last : n % 16 = 15 → ∀ (r : Fin 1024) k, o (ix2 r k) = (args m c).final (lastG m c) (n / 16 * 1024 + r.val) k

/-- A point adds its stretch. -/
theorem step_eq (t : Fin cfg0.N) (o : Vec Ideal S1024x2048 .f32) (xn : Vec Ideal S1024x2048 .bf16)
    (hx : ∀ (r : Fin 1024) k, xn (ix2 r k) = (args m c).xn (t.val / 16 * 1024 + r.val) k)
    (ho : ∀ (r : Fin 1024) k, o (ix2 r k) = (args m c).part (t.val % 16) (t.val / 16 * 1024 + r.val) k) (r : Fin 1024) (k : Fin 2048) :
    k0_pay2 xn (iblk m c 2 t) o (iblk m c 3 t) (ix2 r k)
      = (args m c).part (t.val % 16 + 1) (t.val / 16 * 1024 + r.val) k := by
  rw [step_apply]
  exact (args m c).stretch _ _ k (ho r k) (hx r) (held2 m c t) fun b => held3 m c t b k

theorem norm_eq (t : Fin cfg0.N) (r : Fin 1024) (k : Fin 2048) :
    k0_pay1 (iblk m c 0 t) (iblk m c 1 t) (ix2 r k) = (args m c).xn (t.val / 16 * 1024 + r.val) k := by
  rw [norm_apply, held0, held1]
  refine congrArg (fun z => (args m c).x _ k * rms z * (args m c).g k) (funext fun q => held0 m c t r q)

/-- After every point. -/
theorem after_point (n : ℕ) (hn : n < cfg0.N) : After m c n (outsAt0 m c n hn).1 (outsAt0 m c n hn).2 := by
  have hN : n < 512 := lt_of_lt_of_eq hn (show cfg0.N = 512 from N_0)
  induction n with
  | zero =>
    have e := outsAt0_A m c ⟨0, hn⟩ rfl (by show ¬ 0 % 16 = 15; omega)
    dsimp only at e
    rw [e]
    dsimp only
    rw [norm_first, out_first]
    refine ⟨norm_eq m c ⟨0, hn⟩, fun _ => step_eq m c ⟨0, hn⟩ _ _ (norm_eq m c ⟨0, hn⟩) fun r k => ?_, fun h => absurd h (by omega)⟩
    exact (held0 m c ⟨0, hn⟩ r k).trans (Given.part_zero _ _ _).symm
  | succ n ih =>
    have H := ih (by omega) (by omega)
    by_cases h0 : (n + 1) % 16 = 0
    · have e := outsAt0_A m c ⟨n + 1, hn⟩ h0 (by show ¬ (n + 1) % 16 = 15; omega)
      dsimp only at e
      rw [e]
      dsimp only
      rw [norm_first, out_first]
      refine ⟨norm_eq m c ⟨n + 1, hn⟩, fun _ => step_eq m c ⟨n + 1, hn⟩ _ _ (norm_eq m c ⟨n + 1, hn⟩) fun r k => ?_, fun h => absurd h (by omega)⟩
      refine (held0 m c ⟨n + 1, hn⟩ r k).trans ?_
      show _ = (args m c).part ((n + 1) % 16) _ k
      rw [h0, Given.part_zero]
    · have hd : (n + 1) / 16 = n / 16 := by omega
      have hm : (n + 1) % 16 = n % 16 + 1 := by omega
      have hx : ∀ (r : Fin 1024) k, (outsAt0 m c n (Nat.lt_of_succ_lt hn)).2 (ix2 r k)
          = (args m c).xn ((n + 1) / 16 * 1024 + r.val) k := fun r k => by rw [hd]; exact H.xn r k
      have ho : ∀ (r : Fin 1024) k, (outsAt0 m c n (Nat.lt_of_succ_lt hn)).1 (ix2 r k)
          = (args m c).part ((n + 1) % 16) ((n + 1) / 16 * 1024 + r.val) k := fun r k => by
        rw [hd, hm]; exact H.part (by omega) r k
      have hs := step_eq m c ⟨n + 1, hn⟩ _ _ hx ho
      by_cases h1 : (n + 1) % 16 = 15
      · have e := outsAt0_C m c ⟨n + 1, hn⟩ h0 h1
        dsimp only at e
        rw [e]
        dsimp only
        rw [out_last]
        refine ⟨hx, fun h => absurd h1 h, fun _ r k => ?_⟩
        have hf : ∀ q, k0_pay2 (outsAt0 m c n (Nat.lt_of_succ_lt hn)).2 (iblk m c 2 ⟨n + 1, hn⟩)
            (outsAt0 m c n (Nat.lt_of_succ_lt hn)).1 (iblk m c 3 ⟨n + 1, hn⟩) (ix2 r q)
            = (args m c).out ((n + 1) / 16 * 1024 + r.val) q := fun q => by
          refine (hs r q).trans ?_
          show (args m c).part ((n + 1) % 16 + 1) _ q = _
          rw [h1, Given.part_all]
        refine (last_apply _ _ r k).trans ?_
        show _ * rms _ * _ = _
        unfold Given.final
        refine congr (congrArg _ (congr (congrArg _ (hf k)) (congrArg rms (funext hf)))) (held4 m c ⟨n + 1, hn⟩ k)
      · have e := outsAt0_B m c ⟨n + 1, hn⟩ h0 h1
        dsimp only at e
        rw [e]
        dsimp only
        rw [out_mid]
        exact ⟨hx, fun _ => hs, fun h => absurd h h1⟩

/-- Only the last point of a tile writes back. -/
theorem flush5 : ∀ t : Fin cfg0.N, (cfg0.win 5).flush t = true → t.val % 16 = 15 := (by decide +kernel : ∀ t : Fin grid0.N, _)

/-- The result array. -/
theorem array_eq : (dats m 0 c).arrAt 5 cfg0.N = rowsOf ((args m c).final (lastG m c)) := by
  refine (dats m 0 c).arrAt_eq_of_covers 5 _ (by decide +kernel) fun t hf y => ?_
  have hN : t.val < 512 := lt_of_lt_of_eq t.isLt (show cfg0.N = 512 from N_0)
  have h1 := flush5 t hf
  blk_simp
  rw [after0_5]
  idx_vars y
  refine ((after_point m c t.val t.isLt).last h1 y0 y1).trans ?_
  refine (rowsOf_apply _ ⟨t.val / 16 * 1024 + y0.val, by omega⟩ y1).symm.trans (congrArg (rowsOf _) ?_)
  blk_ext [index5]

end Cert.Kernel2Ideal.Ffn

end
-- ==== Proof.PlainValue.lean ====
/-
  The layer's kernel where no norm follows: what one grid point leaves, as functions of the values it loads,
  and the array after all points: the layer's rows.
-/
module

public import proofs.«01_k».proof.Proof.Gen.Kernel3Ideal.Value
public import proofs.«01_k».proof.Proof.Ffn
public import Idealize.ShloMosaic.Lib.KernelVsHost

@[expose] public section

set_option maxRecDepth 16384

noncomputable section

namespace Cert.Kernel3Ideal.Ffn

open Idealize.ShloMosaic Idealize.ShloMosaic.TcCoe Cert.Kernel3Ideal Cert.Kernel3Ideal.Gen Mixer _root_.Ffn
open Idealize.SL.Sem

section Cases

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S1x2048x512 .f32) (harg4 : arg4.IsWhole) (arg5 : Memref sig .tc .vmem S1x512x2048 .bf16) (harg5 : arg5.IsWhole)
  (arg6 : Memref sig .tc .vmem S1024x2048 .f32) (harg6 : arg6.IsWhole) (arg7 : Memref sig .tc .vmem S1024x2048 .bf16) (harg7 : arg7.IsWhole)
  (x0 : Vec F S1024x2048 .f32) (x1 : Vec F S1x2048 .f32) (x2 : Vec F S1x2048x512 .f32) (x3 : Vec F S1x512x2048 .bf16)
  (xo : Vec F S1024x2048 .f32) (xs : Vec F S1024x2048 .bf16)

theorem norm_first (hc0 : cond0_0 i) :
    sout0_A_0 c i arg2 harg2 arg3 harg3 arg4 harg4 arg5 harg5 arg6 harg6 arg7 harg7 hc0 x0 x1 x2 x3 = k0_pay1 x0 x1 := by
  unfold sout0_A_0
  rw [View.read_writes_eq_canon _ _ _ (scover0_A_0 c i arg2 harg2 arg3 harg3 arg4 harg4 arg5 harg5 arg6 harg6 arg7 harg7 hc0 x0 x1 x2 x3)]
  unfold kernelRun0_A
  dsimp only
  sl_unfold_words
  rw [View.canon_unit_zero zero2]
  simp only [View.readAt_eq_ld, harg2.read_unread, harg3.read_unread, View.ld_unit_zero (S := S1024x2048) zero2,
    View.ld_unit_zero (S := S1x2048) zero2]

theorem out_first (hc0 : cond0_0 i) :
    out0_A_4 c i arg2 harg2 arg3 harg3 arg4 harg4 arg5 harg5 arg6 harg6 arg7 harg7 hc0 x0 x1 x2 x3
      = k0_pay2 (k0_pay1 x0 x1) x2 x0 x3 := by
  unfold out0_A_4
  rw [View.read_writes_eq_canon _ _ _ (cover0_A_4 c i arg2 harg2 arg3 harg3 arg4 harg4 arg5 harg5 arg6 harg6 arg7 harg7 hc0 x0 x1 x2 x3)]
  unfold kernelRun0_A
  dsimp only
  sl_unfold_words
  rw [View.canon_cons_unit_zero (S := S1024x2048) zero2]
  simp only [View.readCov_unit_zero (S := S1024x2048) _ zero2, View.readAt_eq_ld, harg2.read_unread, harg3.read_unread,
    harg4.read_unread, harg5.read_unread, View.ld_unit_zero (S := S1024x2048) zero2, View.ld_unit_zero (S := S1x2048) zero2,
    View.ld_unit_zero (S := S1x2048x512) zero3, View.ld_unit_zero (S := S1x512x2048) zero3]

theorem out_next (hc0 : ¬cond0_0 i) :
    out0_B_4 c i arg2 harg2 arg3 harg3 arg4 harg4 arg5 harg5 arg6 harg6 arg7 harg7 hc0 x0 x1 x2 x3 xo xs
      = k0_pay2 xs x2 xo x3 := by
  unfold out0_B_4
  rw [View.read_writes_eq_canon _ _ _ (cover0_B_4 c i arg2 harg2 arg3 harg3 arg4 harg4 arg5 harg5 arg6 harg6 arg7 harg7 hc0 x0 x1 x2 x3 xo xs)]
  unfold kernelRun0_B
  dsimp only
  sl_unfold_words
  rw [View.canon_unit_zero zero2]
  simp only [View.readAt_eq_ld, harg4.read_unread, harg5.read_unread, harg6.read_unread, harg7.read_unread,
    View.ld_unit_zero (S := S1024x2048) zero2, View.ld_unit_zero (S := S1x2048x512) zero3,
    View.ld_unit_zero (S := S1x512x2048) zero3]

end Cases

theorem norm_apply (x : Vec Ideal S1024x2048 .f32) (g : Vec Ideal S1x2048 .f32) (r : Fin 1024) (k : Fin 2048) :
    k0_pay1 x g (ix2 r k) = x (ix2 r k) * rms (fun q => x (ix2 r q)) * g (ix2 0 k) := by
  pointwise [k0_pay1]
  rfl

theorem step_apply (xn : Vec Ideal S1024x2048 .bf16) (w1 : Vec Ideal S1x2048x512 .f32) (o : Vec Ideal S1024x2048 .f32)
    (w2 : Vec Ideal S1x512x2048 .bf16) (r : Fin 1024) (k : Fin 2048) :
    k0_pay2 xn w1 o w2 (ix2 r k) = o (ix2 r k)
      + ∑ b : Fin 512, max (∑ q : Fin 2048, xn (ix2 r q) * w1 (ix3 0 q b)) 0 * max (∑ q : Fin 2048, xn (ix2 r q) * w1 (ix3 0 q b)) 0
          * w2 (ix3 0 b k) := by
  pointwise [k0_pay2]

/-! ## What the windows hold -/

variable (m : (ℓ : Loc nD τ sig) → Buf (Elt Ideal) ℓ) (c : Dev nD)

/-- The arguments, as the layer is given them. -/
def args : _root_.Ffn.Given :=
  given 1 (m ((c : Thread nD τ).loc main_arg0)) (m ((c : Thread nD τ).loc main_arg1)) (m ((c : Thread nD τ).loc main_arg2))
    (m ((c : Thread nD τ).loc main_arg3))

theorem index0 : ∀ t : Fin cfg0.N, win0_0.index t = ![t.val / 16, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![1, 0, t.val % 16] := (by decide +kernel : ∀ t : Fin grid0.N, _)
theorem index3 : ∀ t : Fin cfg0.N, win0_3.index t = ![1, t.val % 16, 0] := (by decide +kernel : ∀ t : Fin grid0.N, _)
theorem index4 : ∀ t : Fin cfg0.N, win0_4.index t = ![t.val / 16, 0] := (by decide +kernel : ∀ t : Fin grid0.N, _)

theorem held0 (t : Fin cfg0.N) (r : Fin 1024) (k : Fin 2048) :
    iblk m c 0 t (ix2 r k) = (args m c).x (t.val / 16 * 1024 + r.val) k := by
  have hN : t.val < 512 := lt_of_lt_of_eq t.isLt (show cfg0.N = 512 from N_0)
  blk_simp [iblk]
  rw [V_main_arg0]
  show m _ _ = m _ _
  congr 1
  blk_ext [index0]

theorem V_main_v1 (k : Fin 2048) : V m c main_v1 (ix2 0 k) = m ((c : Thread nD τ).loc main_arg1) (ix1 k) := by
  unfold V
  after_results
  pointwise

theorem V_main_v0 (q : Fin 4) (j : Fin 8192) (k : Fin 2048) :
    V m c main_v0 (ix3 q j k) = m ((c : Thread nD τ).loc main_arg3) (ix3 q j k) := by
  unfold V
  after_results
  pointwise

theorem held1 (t : Fin cfg0.N) (k : Fin 2048) : iblk m c 1 t (ix2 0 k) = (args m c).g k := by
  blk_simp [iblk]
  refine Eq.trans (congrArg (V m c main_v1) ?_) (V_main_v1 m c k)
  blk_ext [index1]

theorem held2 (t : Fin cfg0.N) (k : Fin 2048) (b : Fin 512) :
    iblk m c 2 t (ix3 0 k b) = (args m c).w1 k (unit (t.val % 16) b) := by
  blk_simp [iblk]
  rw [V_main_arg2]
  show m _ _ = m _ _
  congr 1
  blk_ext [index2, unit]

theorem held3 (t : Fin cfg0.N) (b : Fin 512) (k : Fin 2048) :
    iblk m c 3 t (ix3 0 b k) = (args m c).w2 (unit (t.val % 16) b) k := by
  blk_simp [iblk]
  refine Eq.trans (congrArg (V m c main_v0) ?_) (V_main_v0 m c 1 (unit (t.val % 16) b) k)
  blk_ext [index3, unit]

/-! ## After every point -/

/-- What the buffers hold after point `n`. -/
structure After (n : ℕ) (o : Vec Ideal S1024x2048 .f32) (xn : Vec Ideal S1024x2048 .bf16) : Prop where
  xn : ∀ (r : Fin 1024) k, xn (ix2 r k) = (args m c).xn (n / 16 * 1024 + r.val) k
  part : ∀ (r : Fin 1024) k, o (ix2 r k) = (args m c).part (n % 16 + 1) (n / 16 * 1024 + r.val) k

/-- A point adds its stretch. -/
theorem step_eq (t : Fin cfg0.N) (o : Vec Ideal S1024x2048 .f32) (xn : Vec Ideal S1024x2048 .bf16)
    (hx : ∀ (r : Fin 1024) k, xn (ix2 r k) = (args m c).xn (t.val / 16 * 1024 + r.val) k)
    (ho : ∀ (r : Fin 1024) k, o (ix2 r k) = (args m c).part (t.val % 16) (t.val / 16 * 1024 + r.val) k) :
    After m c t.val (k0_pay2 xn (iblk m c 2 t) o (iblk m c 3 t)) xn := by
  refine ⟨hx, fun r k => ?_⟩
  rw [step_apply]
  exact (args m c).stretch _ _ k (ho r k) (hx r) (held2 m c t) fun b => held3 m c t b k

/-- The first point of a tile starts from the tile's rows. -/
theorem first_eq (t : Fin cfg0.N) (h0 : t.val % 16 = 0) : After m c t.val (outsAt0 m c t.val t.isLt).1 (outsAt0 m c t.val t.isLt).2 := by
  rw [outsAt0_A m c t h0]
  dsimp only
  rw [norm_first, out_first]
  refine step_eq m c t _ _ (fun r k => ?_) fun r k => ?_
  · rw [norm_apply, held0, held1]
    exact congrArg (fun z => (args m c).x _ k * rms z * (args m c).g k) (funext fun q => held0 m c t r q)
  · rw [h0, Given.part_zero]
    exact held0 m c t r k

theorem after_point (n : ℕ) (hn : n < cfg0.N) : After m c n (outsAt0 m c n hn).1 (outsAt0 m c n hn).2 := by
  induction n with
  | zero => exact first_eq m c ⟨0, hn⟩ rfl
  | succ n ih =>
    by_cases h0 : (n + 1) % 16 = 0
    · exact first_eq m c ⟨n + 1, hn⟩ h0
    · have H := ih (Nat.lt_of_succ_lt hn)
      have hd : n / 16 = (n + 1) / 16 := by omega
      have hm : n % 16 + 1 = (n + 1) % 16 := by omega
      have hx := H.xn
      have ho := H.part
      rw [hm] at ho
      rw [hd] at hx ho
      have e := outsAt0_B m c ⟨n + 1, hn⟩ h0
      dsimp only at e
      rw [e]
      dsimp only
      rw [out_next]
      exact step_eq m c ⟨n + 1, hn⟩ _ _ hx ho

/-- Only the last point of a tile writes back. -/
theorem flush4 : ∀ t : Fin cfg0.N, (cfg0.win 4).flush t = true → t.val % 16 = 15 := (by decide +kernel : ∀ t : Fin grid0.N, _)

/-- The result array. -/
theorem array_eq : (dats m 0 c).arrAt 4 cfg0.N = rowsOf (args m c).out := by
  refine (dats m 0 c).arrAt_eq_of_covers 4 _ (by decide +kernel) fun t hf y => ?_
  have hN : t.val < 512 := lt_of_lt_of_eq t.isLt (show cfg0.N = 512 from N_0)
  have h1 := flush4 t hf
  blk_simp
  rw [after0_4]
  idx_vars y
  refine ((after_point m c t.val t.isLt).part y0 y1).trans ?_
  rw [h1, Given.part_all]
  refine (rowsOf_apply _ ⟨t.val / 16 * 1024 + y0.val, by omega⟩ y1).symm.trans (congrArg (rowsOf _) ?_)
  blk_ext [index4]

end Cert.Kernel3Ideal.Ffn

end
-- ==== Proof.RefFfn.lean ====
/-
  The plain programs of the squared-unit layer leave the layer's rows.
-/
module

public import proofs.«01_k».proof.Proof.Gen.Reference2Ideal.Run
public import proofs.«01_k».proof.Proof.Gen.Reference3Ideal.Run
public import proofs.«01_k».proof.Proof.Ffn
public import Idealize.ShloMosaic.Lib.KernelVsHost

@[expose] public section

set_option maxRecDepth 16384

noncomputable section

open Idealize.ShloMosaic Idealize.ShloMosaic.TcCoe Idealize.SL.Sem Mixer

/-- A row of the array. -/
theorem Ffn.x_row (q : Fin 4) (a0 : (⟨2, ![32768, 2048]⟩ : Shape).Idx → EReal) (a1 : (⟨1, ![2048]⟩ : Shape).Idx → EReal)
    (a2 : (⟨3, ![4, 2048, 8192]⟩ : Shape).Idx → EReal) (a3 : (⟨3, ![4, 8192, 2048]⟩ : Shape).Idx → EReal) (n : Fin 32768)
    (k : Fin 2048) : (Ffn.given q a0 a1 a2 a3).x n.val k = a0 (ix2 n k) :=
  congrArg (fun r => a0 (ix2 r k)) (Fin.ext (Nat.mod_eq_of_lt n.isLt))

namespace Cert.Reference3Ideal.Ffn

open Cert.Reference3Ideal Cert.Reference3Ideal.Value

variable (m : (ℓ : Loc nD τ sig) → Buf (Elt Ideal) ℓ) (c : Dev nD)

/-- The arguments, as the layer is given them. -/
def args : _root_.Ffn.Given :=
  _root_.Ffn.given 1 (m ((c.tc : Thread nD τ).loc main_arg0)) (m ((c.tc : Thread nD τ).loc main_arg1))
    (m ((c.tc : Thread nD τ).loc main_arg2)) (m ((c.tc : Thread nD τ).loc main_arg3))

/-- The plain program's run: the array ends holding the layer's rows. -/
theorem run_rows (ρ : Dev nD → PrngReg) :
    θ_run defs (onTc (τ := τ) (main (F := Ideal))) ⟨m, fun _ => 0, ρ⟩ fun r => ∀ c : Dev nD,
      r.2.mem ((c.tc : Thread nD τ).loc main_v21) = _root_.Ffn.rowsOf (args m c).out
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans (funext fun i => ?_), (h c).2⟩) (run m ρ)
  obtain ⟨n, k, rfl⟩ : ∃ (n : Fin 32768) (k : Fin 2048), i = ix2 n k := ⟨i 0, i 1, (ix2_eta i).symm⟩
  rw [_root_.Ffn.rowsOf_apply]
  unfold Ffn.Given.out Ffn.Given.term Ffn.Given.hid Ffn.Given.xn rms args
  simp only [_root_.Ffn.x_row]
  pointwise
  rfl

end Cert.Reference3Ideal.Ffn

namespace Cert.Reference2Ideal.Ffn

open Cert.Reference2Ideal Cert.Reference2Ideal.Value

variable (m : (ℓ : Loc nD τ sig) → Buf (Elt Ideal) ℓ) (c : Dev nD)

/-- The arguments, as the layer is given them. -/
def args : _root_.Ffn.Given :=
  _root_.Ffn.given 3 (m ((c.tc : Thread nD τ).loc main_arg0)) (m ((c.tc : Thread nD τ).loc main_arg1))
    (m ((c.tc : Thread nD τ).loc main_arg2)) (m ((c.tc : Thread nD τ).loc main_arg3))

/-- The weights of the last norm. -/
def lastG (k : Fin 2048) : EReal := m ((c.tc : Thread nD τ).loc main_arg4) (ix1 k)

theorem row (n : Fin 32768) (k : Fin 2048) : res_out0 m c (ix2 n k) = (args m c).final (lastG m c) n.val k := by
  unfold res_out0 res_main_v34
  unfold Ffn.Given.final Ffn.Given.out Ffn.Given.term Ffn.Given.hid Ffn.Given.xn rms args lastG
  simp only [_root_.Ffn.x_row]
  pointwise
  rfl

end Cert.Reference2Ideal.Ffn

end
-- ==== Proof.OddProjValue.lean ====
/-
  The output projection of one stream: each row of the gated stream times the weights, added to the row it
  came from. The kernel, tile by tile, and the plain program leave these rows.
-/
module

public import proofs.«01_k».proof.Proof.Gen.Kernel4Ideal.Value
public import proofs.«01_k».proof.Proof.Gen.Reference4Ideal.Run
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

/-- The second layer's projection, added to the stream. -/
def OutProj.one (a : (⟨2, ![32768, 2048]⟩ : Shape).Idx → EReal) (w : (⟨3, ![2, 2048, 2048]⟩ : Shape).Idx → EReal)
    (h : (⟨2, ![32768, 2048]⟩ : Shape).Idx → EReal) : (⟨2, ![32768, 2048]⟩ : Shape).Idx → EReal := fun i =>
  h i + ∑ q : Fin 2048, a (ix2 (i 0) q) * w (ix3 1 q (i 1))

namespace Cert.Kernel4Ideal.Proj

open Cert.Kernel4Ideal Cert.Kernel4Ideal.Gen

variable (m : (ℓ : Loc nD τ sig) → Buf (Elt Ideal) ℓ) (c : Dev nD)

theorem zero2 : (![0, 0] : Fin 2 → Nat) = fun _ => 0 := funext fun a => by fin_cases a <;> rfl
theorem zero3 : (![0, 0, 0] : Fin 3 → Nat) = fun _ => 0 := funext fun a => by fin_cases a <;> rfl

theorem tile_apply (x : Vec Ideal S512x2048 .bf16) (w : Vec Ideal S1x2048x2048 .bf16) (h : Vec Ideal S512x2048 .f32) (r : Fin 512)
    (k : Fin 2048) : out0_3 x w h (ix2 r k) = h (ix2 r k) + ∑ q : Fin 2048, x (ix2 r q) * w (ix3 0 q k) := by
  unfold out0_3
  rw [View.canon_unit_zero zero2]
  simp only [View.ld_unit_zero (S := S512x2048) zero2, View.ld_unit_zero (S := S1x2048x2048) zero3]
  pointwise [k0_pay1]

theorem index0 : ∀ t : Fin cfg0.N, win0_0.index t = ![t.val, 0] := (by decide +kernel : ∀ t : Fin grid0.N, _)
theorem index1 : ∀ t : Fin cfg0.N, win0_1.index t = ![1, 0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)

/-- Row `r` of tile `t`. -/
def row (t : Fin cfg0.N) (r : Fin 512) : Fin 32768 :=
  ⟨t.val * 512 + r.val, by have := lt_of_lt_of_eq t.isLt (show cfg0.N = 64 from N_0); omega⟩

theorem held0 (t : Fin cfg0.N) (r : Fin 512) (k : Fin 2048) :
    iblk m c 0 t (ix2 r k) = m ((c : Thread nD τ).loc main_arg0) (ix2 (row t r) k) := by
  blk_simp [iblk]
  rw [V_main_arg0]
  congr 1
  blk_ext [index0, row]

theorem held2 (t : Fin cfg0.N) (r : Fin 512) (k : Fin 2048) :
    iblk m c 2 t (ix2 r k) = m ((c : Thread nD τ).loc main_arg2) (ix2 (row t r) k) := by
  blk_simp [iblk]
  rw [V_main_arg2]
  congr 1
  blk_ext [index2, row]

theorem V_main_v0 (q : Fin 2) (j k : Fin 2048) : V m c main_v0 (ix3 q j k) = m ((c : Thread nD τ).loc main_arg1) (ix3 q j k) := by
  unfold V
  after_results
  pointwise

theorem held1 (t : Fin cfg0.N) (j k : Fin 2048) :
    iblk m c 1 t (ix3 0 j k) = m ((c : Thread nD τ).loc main_arg1) (ix3 1 j k) := by
  blk_simp [iblk]
  refine Eq.trans (congrArg (V m c main_v0) ?_) (V_main_v0 m c 1 j k)
  blk_ext [index1]

/-- The result array. -/
theorem array_eq : (dats m 0 c).arrAt 3 cfg0.N = OutProj.one (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3]
  idx_vars y
  refine (tile_apply _ _ _ y0 y1).trans ?_
  refine Eq.trans (b := OutProj.one _ _ _ (ix2 (row t y0) y1)) ?_ (congrArg (OutProj.one _ _ _) ?_)
  · refine congr (congrArg _ (held2 m c t y0 y1)) (Finset.sum_congr rfl fun q _ => ?_)
    exact congr (congrArg _ (held0 m c t y0 q)) (held1 m c t q y1)
  · blk_ext [index3, row]

end Cert.Kernel4Ideal.Proj

namespace Cert.Reference4Ideal.Proj

open Cert.Reference4Ideal

variable (m : (ℓ : Loc nD τ sig) → Buf (Elt Ideal) ℓ)

/-- The plain program's run: the array ends holding the projected rows. -/
theorem run_rows (ρ : Dev nD → PrngReg) :
    θ_run defs (onTc (τ := τ) (main (F := Ideal))) ⟨m, fun _ => 0, ρ⟩ fun r => ∀ c : Dev nD,
      r.2.mem ((c.tc : Thread nD τ).loc main_v4) = OutProj.one (m ((c.tc : Thread nD τ).loc main_arg0))
        (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨(h c).1.trans (funext fun i => ?_), (h c).2⟩) (Value.run m ρ)
  obtain ⟨n, k, rfl⟩ : ∃ (n : Fin 32768) (k : Fin 2048), i = ix2 n k := ⟨i 0, i 1, (ix2_eta i).symm⟩
  unfold OutProj.one
  pointwise

end Cert.Reference4Ideal.Proj

end
-- ==== Proof.EvenProjValue.lean ====
/-
  The output projection of two streams side by side: each row of the first times the upper half of the
  weights and of the second times the lower half, added to the row it came from. The kernel takes the two
  products apart; the plain program joins the streams and takes one.
-/
module

public import proofs.«01_k».proof.Proof.Gen.Kernel5Ideal.Value
public import proofs.«01_k».proof.Proof.Gen.Reference5Ideal.Run
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace OutProj

/-- Row `q` of the upper and of the lower half of the weights. -/
def up (q : Fin 1024) : Fin 2048 := ⟨q.val, by omega⟩
def low (q : Fin 1024) : Fin 2048 := ⟨1024 + q.val, by omega⟩

/-- The second layer's projection of two streams, added to the stream. -/
def two (a b : (⟨2, ![32768, 1024]⟩ : Shape).Idx → EReal) (w : (⟨3, ![2, 2048, 2048]⟩ : Shape).Idx → EReal)
    (h : (⟨2, ![32768, 2048]⟩ : Shape).Idx → EReal) : (⟨2, ![32768, 2048]⟩ : Shape).Idx → EReal := fun i =>
  h i + ∑ q : Fin 1024, a (ix2 (i 0) q) * w (ix3 1 (up q) (i 1)) + ∑ q : Fin 1024, b (ix2 (i 0) q) * w (ix3 1 (low q) (i 1))

end OutProj

namespace Cert.Kernel5Ideal.Proj

open Cert.Kernel5Ideal Cert.Kernel5Ideal.Gen OutProj

variable (m : (ℓ : Loc nD τ sig) → Buf (Elt Ideal) ℓ) (c : Dev nD)

theorem zero2 : (![0, 0] : Fin 2 → Nat) = fun _ => 0 := funext fun a => by fin_cases a <;> rfl
theorem zero3 : (![0, 0, 0] : Fin 3 → Nat) = fun _ => 0 := funext fun a => by fin_cases a <;> rfl

theorem tile_apply (x y : Vec Ideal S512x1024 .bf16) (w v : Vec Ideal S1x1024x2048 .bf16) (h : Vec Ideal S512x2048 .f32) (r : Fin 512)
    (k : Fin 2048) : out0_5 x y w v h (ix2 r k)
      = h (ix2 r k) + ∑ q : Fin 1024, x (ix2 r q) * w (ix3 0 q k) + ∑ q : Fin 1024, y (ix2 r q) * v (ix3 0 q k) := by
  unfold out0_5
  rw [View.canon_unit_zero zero2]
  simp only [View.ld_unit_zero (S := S512x2048) zero2, View.ld_unit_zero (S := S512x1024) zero2,
    View.ld_unit_zero (S := S1x1024x2048) zero3]
  pointwise [k0_pay1]

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![1, 0, 0] := (by decide +kernel : ∀ t : Fin grid0.N, _)
theorem index3 : ∀ t : Fin cfg0.N, win0_3.index t = ![1, 1, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)

/-- Row `r` of tile `t`. -/
def row (t : Fin cfg0.N) (r : Fin 512) : Fin 32768 :=
  ⟨t.val * 512 + r.val, by have := lt_of_lt_of_eq t.isLt (show cfg0.N = 64 from N_0); omega⟩

theorem held0 (t : Fin cfg0.N) (r : Fin 512) (k : Fin 1024) :
    iblk m c 0 t (ix2 r k) = m ((c : Thread nD τ).loc main_arg0) (ix2 (row t r) k) := by
  blk_simp [iblk]
  rw [V_main_arg0]
  congr 1
  blk_ext [index0, row]

theorem held1 (t : Fin cfg0.N) (r : Fin 512) (k : Fin 1024) :
    iblk m c 1 t (ix2 r k) = m ((c : Thread nD τ).loc main_arg1) (ix2 (row t r) k) := by
  blk_simp [iblk]
  rw [V_main_arg1]
  congr 1
  blk_ext [index1, row]

theorem held4 (t : Fin cfg0.N) (r : Fin 512) (k : Fin 2048) :
    iblk m c 4 t (ix2 r k) = m ((c : Thread nD τ).loc main_arg3) (ix2 (row t r) k) := by
  blk_simp [iblk]
  rw [V_main_arg3]
  congr 1
  blk_ext [index4, row]

theorem V_main_v0 (q : Fin 2) (j k : Fin 2048) : V m c main_v0 (ix3 q j k) = m ((c : Thread nD τ).loc main_arg2) (ix3 q j k) := by
  unfold V
  after_results
  pointwise

theorem held2 (t : Fin cfg0.N) (j : Fin 1024) (k : Fin 2048) :
    iblk m c 2 t (ix3 0 j k) = m ((c : Thread nD τ).loc main_arg2) (ix3 1 (up j) k) := by
  blk_simp [iblk]
  refine Eq.trans (congrArg (V m c main_v0) ?_) (V_main_v0 m c 1 (up j) k)
  blk_ext [index2, up]

theorem held3 (t : Fin cfg0.N) (j : Fin 1024) (k : Fin 2048) :
    iblk m c 3 t (ix3 0 j k) = m ((c : Thread nD τ).loc main_arg2) (ix3 1 (low j) k) := by
  blk_simp [iblk]
  refine Eq.trans (congrArg (V m c main_v0) ?_) (V_main_v0 m c 1 (low j) k)
  blk_ext [index3, low]

/-- The result array. -/
theorem array_eq : (dats m 0 c).arrAt 5 cfg0.N = two (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  idx_vars y
  refine (tile_apply _ _ _ _ _ y0 y1).trans ?_
  refine Eq.trans (b := two _ _ _ _ (ix2 (row t y0) y1)) ?_ (congrArg (two _ _ _ _) ?_)
  · refine congr (congrArg _ (congr (congrArg _ (held4 m c t y0 y1)) (Finset.sum_congr rfl fun q _ => ?_)))
      (Finset.sum_congr rfl fun q _ => ?_)
    · exact congr (congrArg _ (held0 m c t y0 q)) (held2 m c t q y1)
    · exact congr (congrArg _ (held1 m c t y0 q)) (held3 m c t q y1)
  · blk_ext [index5, row]

end Cert.Kernel5Ideal.Proj

namespace Cert.Reference5Ideal.Proj

open Cert.Reference5Ideal OutProj

variable (m : (ℓ : Loc nD τ sig) → Buf (Elt Ideal) ℓ)

/-- The plain program's run: the array ends holding the projected rows. -/
theorem run_rows (ρ : Dev nD → PrngReg) :
    θ_run defs (onTc (τ := τ) (main (F := Ideal))) ⟨m, fun _ => 0, ρ⟩ fun r => ∀ c : Dev nD,
      r.2.mem ((c.tc : Thread nD τ).loc main_v6) = two (m ((c.tc : Thread nD τ).loc main_arg0))
        (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans (funext fun i => ?_), (h c).2⟩) (Value.run m ρ)
  obtain ⟨n, k, rfl⟩ : ∃ (n : Fin 32768) (k : Fin 2048), i = ix2 n k := ⟨i 0, i 1, (ix2_eta i).symm⟩
  unfold two
  rw [add_assoc]
  pointwise
  rfl

end Cert.Reference5Ideal.Proj

end
-- ==== Proof.LayerClaim.lean ====
/-
  The claims about the feed-forward layer and the output projections: the frames, and that each kernel and its
  plain program end with the same rows.
-/
module

public import proofs.«01_k».proof.Defs
public import proofs.«01_k».proof.Proof.LastValue
public import proofs.«01_k».proof.Proof.PlainValue
public import proofs.«01_k».proof.Proof.RefFfn
public import proofs.«01_k».proof.Proof.OddProjValue
public import proofs.«01_k».proof.Proof.EvenProjValue
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import Idealize.ShloMosaic.Adequacy

@[expose] public section

set_option maxRecDepth 16384

noncomputable section

open Idealize.ShloMosaic Idealize.ShloMosaic.TcCoe Idealize.SL.Sem

namespace Cert.LastFfn

theorem frame_kernel : Cert.quiescent_Kernel2 := fun m ρ _ => Cert.Kernel2.Gen.frame m ρ
theorem frame_ideal : Cert.quiescent_Kernel2Ideal := fun m ρ _ => Cert.Kernel2Ideal.Gen.frame m ρ
theorem frame_plain : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The plain program's array is the normalised rows. -/
theorem plain_array (m : (ℓ : Loc Cert.Reference2Ideal.nD Cert.Reference2Ideal.τ Cert.Reference2Ideal.sig) → Buf (Elt Ideal) ℓ)
    (c : Dev Cert.Reference2Ideal.nD) : Cert.Reference2Ideal.Value.res_main_v34 m c
      = Ffn.rowsOf ((Cert.Reference2Ideal.Ffn.args m c).final (Cert.Reference2Ideal.Ffn.lastG m c)) := by
  funext i
  obtain ⟨n, k, rfl⟩ : ∃ (n : Fin 32768) (k : Fin 2048), i = ix2 n k := ⟨i 0, i 1, (ix2_eta i).symm⟩
  rw [Ffn.rowsOf_apply]
  exact Cert.Reference2Ideal.Ffn.row m c n k

theorem same_rows : Cert.algebraic_Kernel2Ideal_Reference2Ideal := by
  intro m ρ m' ρ' _ hag
  refine ⟨fun c => Ffn.rowsOf ((Cert.Kernel2Ideal.Ffn.args m c).final (Cert.Kernel2Ideal.Ffn.lastG m c)), ?_, ?_⟩
  · exact (θ_run Cert.Kernel2Ideal.defs _ _).mono (fun _ h c => ⟨(h c).1.trans (Cert.Kernel2Ideal.Ffn.array_eq m c), (h c).2⟩)
      (Cert.Kernel2Ideal.Value.run_blocks m ρ)
  · have e : ∀ c, Cert.Reference2Ideal.Ffn.args m' c = Cert.Kernel2Ideal.Ffn.args m c := fun c => by
      obtain ⟨h0, h1, h2, h3, -⟩ := hag c
      exact Ffn.given_congr 3 h0 h1 h2 h3
    have e4 : ∀ c, Cert.Reference2Ideal.Ffn.lastG m' c = Cert.Kernel2Ideal.Ffn.lastG m c := fun c =>
      funext fun k => congrFun (hag c).2.2.2.2 (ix1 k)
    exact (θ_run Cert.Reference2Ideal.defs _ _).mono
      (fun _ h c => ⟨(h c).1.trans ((plain_array m' c).trans
        (congrArg Ffn.rowsOf (congr (congrArg Ffn.Given.final (e c)) (e4 c)))), (h c).2⟩)
      (Cert.Reference2Ideal.Value.run m' ρ')

end Cert.LastFfn

namespace Cert.InnerFfn

theorem frame_kernel : Cert.quiescent_Kernel3 := fun m ρ _ => Cert.Kernel3.Gen.frame m ρ
theorem frame_ideal : Cert.quiescent_Kernel3Ideal := fun m ρ _ => Cert.Kernel3Ideal.Gen.frame m ρ
theorem frame_plain : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem same_rows : Cert.algebraic_Kernel3Ideal_Reference3Ideal := by
  intro m ρ m' ρ' _ hag
  refine ⟨fun c => Ffn.rowsOf (Cert.Kernel3Ideal.Ffn.args m c).out, ?_, ?_⟩
  · exact (θ_run Cert.Kernel3Ideal.defs _ _).mono (fun _ h c => ⟨(h c).1.trans (Cert.Kernel3Ideal.Ffn.array_eq m c), (h c).2⟩)
      (Cert.Kernel3Ideal.Value.run_blocks m ρ)
  · have e : ∀ c, Cert.Reference3Ideal.Ffn.args m' c = Cert.Kernel3Ideal.Ffn.args m c := fun c => by
      obtain ⟨h0, h1, h2, h3⟩ := hag c
      exact Ffn.given_congr 1 h0 h1 h2 h3
    exact (θ_run Cert.Reference3Ideal.defs _ _).mono
      (fun _ h c => ⟨(h c).1.trans (congrArg (fun I => Ffn.rowsOf (Ffn.Given.out I)) (e c)), (h c).2⟩)
      (Cert.Reference3Ideal.Ffn.run_rows m' ρ')

end Cert.InnerFfn

namespace Cert.OddProj

theorem frame_kernel : Cert.quiescent_Kernel4 := fun m ρ _ => Cert.Kernel4.Gen.frame m ρ
theorem frame_ideal : Cert.quiescent_Kernel4Ideal := fun m ρ _ => Cert.Kernel4Ideal.Gen.frame m ρ
theorem frame_plain : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem same_rows : Cert.algebraic_Kernel4Ideal_Reference4Ideal := by
  intro m ρ m' ρ' _ hag
  refine ⟨fun c => OutProj.one (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2)), ?_, ?_⟩
  · exact (θ_run Cert.Kernel4Ideal.defs _ _).mono (fun _ h c => ⟨(h c).1.trans (Cert.Kernel4Ideal.Proj.array_eq m c), (h c).2⟩)
      (Cert.Kernel4Ideal.Value.run_blocks m ρ)
  · exact (θ_run Cert.Reference4Ideal.defs _ _).mono
      (fun _ h c => ⟨(h c).1.trans (congr (congr (congrArg OutProj.one (hag c).1) (hag c).2.1) (hag c).2.2), (h c).2⟩)
      (Cert.Reference4Ideal.Proj.run_rows m' ρ')

end Cert.OddProj

namespace Cert.EvenProj

theorem frame_kernel : Cert.quiescent_Kernel5 := fun m ρ _ => Cert.Kernel5.Gen.frame m ρ
theorem frame_ideal : Cert.quiescent_Kernel5Ideal := fun m ρ _ => Cert.Kernel5Ideal.Gen.frame m ρ
theorem frame_plain : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem same_rows : Cert.algebraic_Kernel5Ideal_Reference5Ideal := by
  intro m ρ m' ρ' _ hag
  refine ⟨fun c => OutProj.two (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1))
    (m ((c.tc : Thread Cert.Kernel5Ideal.nD Cert.Kernel5Ideal.τ).loc Cert.Kernel5Ideal.main_arg2))
    (m ((c.tc : Thread Cert.Kernel5Ideal.nD Cert.Kernel5Ideal.τ).loc Cert.Kernel5Ideal.main_arg3)), ?_, ?_⟩
  · exact (θ_run Cert.Kernel5Ideal.defs _ _).mono (fun _ h c => ⟨(h c).1.trans (Cert.Kernel5Ideal.Proj.array_eq m c), (h c).2⟩)
      (Cert.Kernel5Ideal.Value.run_blocks m ρ)
  · exact (θ_run Cert.Reference5Ideal.defs _ _).mono
      (fun _ h c => ⟨(h c).1.trans (congr (congr (congr (congrArg OutProj.two (hag c).1) (hag c).2.1) (hag c).2.2.1) (hag c).2.2.2),
        (h c).2⟩)
      (Cert.Reference5Ideal.Proj.run_rows m' ρ')

end Cert.EvenProj

end
-- ==== Proof.RetBlock.lean ====
/-
  What one head does at one grid point, as functions of the values it loads: queries and keys turned by
  their positions, the retention of the tile's own rows and of the state before it, the gated and
  normalised output, and the state after the tile. Every head of every point stores these functions of
  its own loads.
-/
module

public import proofs.«01_k».proof.Proof.Gen.Kernel6Ideal.Value
public import Idealize.ShloMosaic.Lib.WritesUnit
public import Idealize.ShloMosaic.Lib.Pointwise
public import Idealize.ShloMosaic.Lib.WholeRead

@[expose] public section

set_option maxRecDepth 16384

noncomputable section

namespace Cert.Kernel6Ideal.Ret

open Idealize.ShloMosaic Idealize.ShloMosaic.TcCoe Cert.Kernel6Ideal Cert.Kernel6Ideal.Gen

variable {F : FTy → Type} [FloatOps F]

/-- Whether the tile a point walks opens a sequence, as the program computes it from the point. -/
def starts (i : grid0.Coords) : BitVec 1 :=
  let prev : BitVec 32 := Scalar.maxsi (Scalar.subi (BitVec.ofNat 32 (i 0).val) 1#32) 0#32
  let per : BitVec 32 := Scalar.select (Scalar.cmpi .eq 32#32 0#32) 1#32 32#32
  let rem : BitVec 32 := Scalar.remsi prev per
  let wrap : BitVec 1 := Scalar.andi (Scalar.xori (Scalar.cmpi .slt rem 0#32) (Scalar.cmpi .slt per 0#32)) (Scalar.cmpi .ne rem 0#32)
  Scalar.cmpi .eq (Scalar.select wrap (Scalar.addi rem per) rem) 0#32

/-- What a head loads at a point. -/
structure Loads (F : FTy → Type) where
  i : grid0.Coords
  cos : Vec F S256x128 .f32
  sin : Vec F S256x128 .f32
  q : Vec F S256x256 .f32
  k : Vec F S256x256 .f32
  v : Vec F S256x256 .f32
  gate : Vec F S256x256 .f32
  dm : Vec F S1x256x256 .f32
  qd : Vec F S1x256x256 .f32
  kd : Vec F S1x256x256 .f32
  cd : Vec F S1x1x256 .f32
  s : Vec F S1x256x256 .f32

namespace Loads

variable (L : Loads F)

/-- The queries and the keys, turned. -/
def query : FVec F S256x256 .f32 := k0_pay7 L.cos L.sin L.q
def key : FVec F S256x256 .f32 := k0_pay8 L.cos L.sin L.k

/-- The scores, and the retention of the tile's own rows. -/
def scores : FVec F S256x256 .f32 := k0_pay10 L.cos L.sin L.q L.k
def own : FVec F S256x256 .f32 := k0_pay16 (k0_pay9 L.v) L.scores L.dm

/-- The queries decayed, and the state before the tile. -/
def queryDecayed : FVec F S256x256 .bf16 := k0_pay17 L.query L.qd
def before : FVec F S256x256 .f32 := k0_pay15 (starts L.i) L.s

/-- The output of the head. -/
def out : FVec F S256x256 .bf16 := k0_pay20 L.gate L.own L.queryDecayed (k0_pay18 (starts L.i) L.s)

/-- The state after the tile. -/
def state : FVec F S1x256x256 .f32 := k0_pay19 L.key (k0_pay9 L.v) L.before L.cd L.kd

end Loads

theorem inb2 (R W r w o : ℕ) (hr : r ≤ R) (ho : o + w ≤ W) :
    ∀ a : Fin 2, (![0, o] : Fin 2 → ℕ) a + (![r, w] : Fin 2 → ℕ) a ≤ (![R, W] : Fin 2 → ℕ) a := by
  intro a
  fin_cases a
  · show 0 + r ≤ R
    omega
  · exact ho

theorem inb3 (N P Q n p q o : ℕ) (hn : o + n ≤ N) (hp : p ≤ P) (hq : q ≤ Q) :
    ∀ a : Fin 3, (![o, 0, 0] : Fin 3 → ℕ) a + (![n, p, q] : Fin 3 → ℕ) a ≤ (![N, P, Q] : Fin 3 → ℕ) a := by
  intro a
  fin_cases a
  · exact hn
  · show 0 + p ≤ P
    omega
  · show 0 + q ≤ Q
    omega

def all2048 : Rect S256x2048 := Rect.unit (s := S256x2048) ![0, 0] S256x2048.size inb_S256x2048_S256x2048_0_0
def all1 : Rect S1x2048 := Rect.unit (s := S1x2048) ![0, 0] S1x2048.size inb_S1x2048_S1x2048_0_0
def all128 : Rect S256x128 := Rect.unit (s := S256x128) ![0, 0] S256x128.size inb_S256x128_S256x128_0_0
def all4096 : Rect S256x4096 := Rect.unit (s := S256x4096) ![0, 0] S256x4096.size inb_S256x4096_S256x4096_0_0
def cutZ (o : ℕ) (ho : o + 256 ≤ 4096) : Rect S256x4096 := Rect.unit (s := S256x4096) ![0, o] S256x256.size (inb2 256 4096 256 256 o (by omega) ho)
def cutW (o : ℕ) (ho : o + 256 ≤ 4096) : Rect S2048x4096 := Rect.unit (s := S2048x4096) ![0, o] S2048x256.size (inb2 2048 4096 2048 256 o (by omega) ho)
def cutH (h : ℕ) (hh : h + 1 ≤ 4) : Rect S4x256x256 := Rect.unit (s := S4x256x256) ![h, 0, 0] S1x256x256.size (inb3 4 256 256 1 256 256 h hh (by omega) (by omega))
def cutC (h : ℕ) (hh : h + 1 ≤ 4) : Rect S4x1x256 := Rect.unit (s := S4x1x256) ![h, 0, 0] S1x1x256.size (inb3 4 1 256 1 1 256 h hh (by omega) (by omega))

/-- The buffers the retention of a tile reads, and what they hold. -/
structure Src (F : FTy → Type) where
  r4 : Memref sig .tc .vmem S256x128 .f32
  w4 : r4.IsWhole
  cos : Vec F S256x128 .f32
  r5 : Memref sig .tc .vmem S256x128 .f32
  w5 : r5.IsWhole
  sin : Vec F S256x128 .f32
  r6 : Memref sig .tc .vmem S4x256x256 .f32
  w6 : r6.IsWhole
  dm : Vec F S4x256x256 .f32
  r7 : Memref sig .tc .vmem S4x256x256 .f32
  w7 : r7.IsWhole
  qd : Vec F S4x256x256 .f32
  r8 : Memref sig .tc .vmem S4x256x256 .f32
  w8 : r8.IsWhole
  kd : Vec F S4x256x256 .f32
  r9 : Memref sig .tc .vmem S4x1x256 .f32
  w9 : r9.IsWhole
  cd : Vec F S4x1x256 .f32
  r12 : Memref sig .tc .vmem S256x4096 .f32
  w12 : r12.IsWhole
  z : Vec F S256x4096 .f32
  r13 : Memref sig .tc .vmem S4x256x256 .f32
  w13 : r13.IsWhole
  s : Vec F S4x256x256 .f32

/-- Part `p` of head `h` of the projection. -/
def Src.part (S : Src F) (p h : Fin 4) : Vec F S256x256 .f32 :=
  View.readAt (Elt F) S.r12.view (cutZ (p.val * 1024 + h.val * 256) (by omega)).toLoadRect (S.w12.unread S.z)

/-- What head `h` loads. -/
def Src.loads (S : Src F) (i : grid0.Coords) (h : Fin 4) : Loads F where
  i := i
  cos := View.readAt (Elt F) S.r4.view all128.toLoadRect (S.w4.unread S.cos)
  sin := View.readAt (Elt F) S.r5.view all128.toLoadRect (S.w5.unread S.sin)
  q := S.part 0 h
  k := S.part 1 h
  v := S.part 2 h
  gate := S.part 3 h
  dm := View.readAt (Elt F) S.r6.view (cutH h.val (by omega)).toLoadRect (S.w6.unread S.dm)
  qd := View.readAt (Elt F) S.r7.view (cutH h.val (by omega)).toLoadRect (S.w7.unread S.qd)
  kd := View.readAt (Elt F) S.r8.view (cutH h.val (by omega)).toLoadRect (S.w8.unread S.kd)
  cd := View.readAt (Elt F) S.r9.view (cutC h.val (by omega)).toLoadRect (S.w9.unread S.cd)
  s := View.readAt (Elt F) S.r13.view (cutH h.val (by omega)).toLoadRect (S.w13.unread S.s)

/-- Stores of the four heads' output columns, of the four heads' states, and of the sixteen blocks of a
    projection, four parts to a head. -/
def tilesO (P : Fin 4 → S256x256.Idx → Elt F .bf16) : List (View.Piece (Elt F) S256x1024 .bf16) :=
  View.tilePieces (s := S256x1024) (![256, 256] : Fin 2 → ℕ) (fun h : Fin 4 => ![0, h.val * 256])
    (fun h => inb2 256 1024 256 256 (h.val * 256) (by omega) (by omega)) P 4 le_rfl
def tilesS (P : Fin 4 → S1x256x256.Idx → Elt F .f32) : List (View.Piece (Elt F) S4x256x256 .f32) :=
  View.tilePieces (s := S4x256x256) (![1, 256, 256] : Fin 3 → ℕ) (fun h : Fin 4 => ![h.val, 0, 0])
    (fun h => inb3 4 256 256 1 256 256 h.val (by omega) (by omega) (by omega)) P 4 le_rfl
def tilesZ (P : Fin 16 → S256x256.Idx → Elt F .f32) : List (View.Piece (Elt F) S256x4096 .f32) :=
  View.tilePieces (s := S256x4096) (![256, 256] : Fin 2 → ℕ) (fun t : Fin 16 => ![0, t.val % 4 * 1024 + t.val / 4 * 256])
    (fun t => inb2 256 4096 256 256 (t.val % 4 * 1024 + t.val / 4 * 256) (by omega) (by omega)) P 16 le_rfl

theorem read_tilesO {sg : RefSig} {κ : Kind} {sp : Space} (v : View sg κ sp S256x1024 .bf16) (f : v.ty.Contents (Elt F))
    (P : Fin 4 → S256x256.Idx → Elt F .bf16) (r : Fin 256) (h : Fin 4) (l : Fin 256) (k : Fin 1024) (hk : k.val = h.val * 256 + l.val) :
    v.read (Elt F) (v.writes (Elt F) f (tilesO P)) (ix2 r k) = P h (ix2 r l) := by
  refine View.read_tilePieces v f _ _ _ P 4 le_rfl (ix2 r k) h h.isLt (ix2 r l) (fun a => ?_) (1 : Fin 2) (fun i' hi' => ?_)
  · fin_cases a
    · show r.val = 0 + r.val
      omega
    · exact hk
  · have h1 : i'.val ≠ h.val := fun e => hi' (Fin.ext e)
    have h2 := l.isLt
    show k.val < i'.val * 256 ∨ i'.val * 256 + 256 ≤ k.val
    omega

theorem read_tilesS {sg : RefSig} {κ : Kind} {sp : Space} (v : View sg κ sp S4x256x256 .f32) (f : v.ty.Contents (Elt F))
    (P : Fin 4 → S1x256x256.Idx → Elt F .f32) (h : Fin 4) (d e : Fin 256) :
    v.read (Elt F) (v.writes (Elt F) f (tilesS P)) (ix3 h d e) = P h (ix3 0 d e) := by
  refine View.read_tilePieces v f _ _ _ P 4 le_rfl (ix3 h d e) h h.isLt (ix3 0 d e) (fun a => ?_) (0 : Fin 3) (fun i' hi' => ?_)
  · fin_cases a
    · rfl
    · show d.val = 0 + d.val
      omega
    · show e.val = 0 + e.val
      omega
  · have h1 : i'.val ≠ h.val := fun e => hi' (Fin.ext e)
    show h.val < i'.val ∨ i'.val + 1 ≤ h.val
    omega

/-- The output tile and the states. -/
def Src.out (S : Src F) (i : grid0.Coords) : Vec F S256x1024 .bf16 :=
  VO0_9.read (Elt F) (VO0_9.writes (Elt F) VO0_9.junk (tilesO fun h => (S.loads i h).out))
def Src.state (S : Src F) (i : grid0.Coords) : Vec F S4x256x256 .f32 :=
  VS0_2.read (Elt F) (VS0_2.writes (Elt F) VS0_2.junk (tilesS fun h => (S.loads i h).state))

/-- The buffers the projection reads, and what they hold. -/
structure Feed (F : FTy → Type) where
  r1 : Memref sig .tc .vmem S256x2048 .f32
  w1 : r1.IsWhole
  x : Vec F S256x2048 .f32
  r2 : Memref sig .tc .vmem S1x2048 .f32
  w2 : r2.IsWhole
  g : Vec F S1x2048 .f32
  r3 : Memref sig .tc .vmem S2048x4096 .bf16
  w3 : r3.IsWhole
  w : Vec F S2048x4096 .bf16
  r11 : Memref sig .tc .vmem S256x2048 .bf16

/-- The normalised tile, stored and read back. -/
def Feed.xn (P : Feed F) : Vec F S256x2048 .bf16 :=
  P.r11.view.readCov [⟨all2048, k0_pay4 (View.readAt (Elt F) P.r1.view all2048.toLoadRect (P.w1.unread P.x))
    (View.readAt (Elt F) P.r2.view all1.toLoadRect (P.w2.unread P.g))⟩] all2048.toLoadRect

/-- A block of the projection, its columns starting at `o`. -/
def Feed.block (P : Feed F) (o : ℕ) (ho : o + 256 ≤ 4096) : FVec F S256x256 .f32 :=
  k0_pay11 P.xn (View.readAt (Elt F) P.r3.view (cutW o ho).toLoadRect (P.w3.unread P.w))

/-- The projection, stored over what its buffer was stored before. -/
def Feed.z (P : Feed F) (base : List (View.Piece (Elt F) S256x4096 .f32)) : Vec F S256x4096 .f32 :=
  VS0_1.read (Elt F) (VS0_1.writes (Elt F) VS0_1.junk
    (tilesZ (fun t : Fin 16 => P.block (t.val % 4 * 1024 + t.val / 4 * 256) (by omega)) ++ base))

theorem out_B (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4096 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x1x256 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S256x4096 .f32) (harg12 : arg12.IsWhole) (arg13 : Memref sig .tc .vmem S4x256x256 .f32) (harg13 : arg13.IsWhole) (hc0 : ¬cond0_0 i)
    (x0 : Vec F S256x2048 .f32) (x1 : Vec F S1x2048 .f32) (x2 : Vec F S2048x4096 .bf16) (x3 : Vec F S256x128 .f32) (x4 : Vec F S256x128 .f32) (x5 : Vec F S4x256x256 .f32) (x6 : Vec F S4x256x256 .f32) (x7 : Vec F S4x256x256 .f32) (x8 : Vec F S4x1x256 .f32) (xs1 : Vec F S256x4096 .f32) (xs2 : Vec F S4x256x256 .f32) :
    out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs1 xs2
      = (Src.mk arg4 harg4 x3 arg5 harg5 x4 arg6 harg6 x5 arg7 harg7 x6 arg8 harg8 x7 arg9 harg9 x8 arg12 harg12 xs1 arg13 harg13 xs2).out i := by
  sl_kernel_rfl

theorem state_B (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4096 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x1x256 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S256x4096 .f32) (harg12 : arg12.IsWhole) (arg13 : Memref sig .tc .vmem S4x256x256 .f32) (harg13 : arg13.IsWhole) (hc0 : ¬cond0_0 i)
    (x0 : Vec F S256x2048 .f32) (x1 : Vec F S1x2048 .f32) (x2 : Vec F S2048x4096 .bf16) (x3 : Vec F S256x128 .f32) (x4 : Vec F S256x128 .f32) (x5 : Vec F S4x256x256 .f32) (x6 : Vec F S4x256x256 .f32) (x7 : Vec F S4x256x256 .f32) (x8 : Vec F S4x1x256 .f32) (xs1 : Vec F S256x4096 .f32) (xs2 : Vec F S4x256x256 .f32) :
    sout0_B_2 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs1 xs2
      = (Src.mk arg4 harg4 x3 arg5 harg5 x4 arg6 harg6 x5 arg7 harg7 x6 arg8 harg8 x7 arg9 harg9 x8 arg12 harg12 xs1 arg13 harg13 xs2).state i := by
  sl_kernel_rfl

theorem z_B (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4096 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x1x256 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S256x4096 .f32) (harg12 : arg12.IsWhole) (arg13 : Memref sig .tc .vmem S4x256x256 .f32) (harg13 : arg13.IsWhole) (hc0 : ¬cond0_0 i)
    (x0 : Vec F S256x2048 .f32) (x1 : Vec F S1x2048 .f32) (x2 : Vec F S2048x4096 .bf16) (x3 : Vec F S256x128 .f32) (x4 : Vec F S256x128 .f32) (x5 : Vec F S4x256x256 .f32) (x6 : Vec F S4x256x256 .f32) (x7 : Vec F S4x256x256 .f32) (x8 : Vec F S4x1x256 .f32) (xs1 : Vec F S256x4096 .f32) (xs2 : Vec F S4x256x256 .f32) :
    sout0_B_1 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs1 xs2
      = (Feed.mk arg1 harg1 x0 arg2 harg2 x1 arg3 harg3 x2 arg11).z [] := by
  sl_kernel_rfl

theorem z_A (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S2048x4096 .bf16) (harg3 : arg3.IsWhole) (arg4 : Memref sig .tc .vmem S256x128 .f32) (harg4 : arg4.IsWhole) (arg5 : Memref sig .tc .vmem S256x128 .f32) (harg5 : arg5.IsWhole) (arg6 : Memref sig .tc .vmem S4x256x256 .f32) (harg6 : arg6.IsWhole) (arg7 : Memref sig .tc .vmem S4x256x256 .f32) (harg7 : arg7.IsWhole) (arg8 : Memref sig .tc .vmem S4x256x256 .f32) (harg8 : arg8.IsWhole) (arg9 : Memref sig .tc .vmem S4x1x256 .f32) (harg9 : arg9.IsWhole) (arg10 : Memref sig .tc .vmem S256x1024 .bf16) (harg10 : arg10.IsWhole) (arg11 : Memref sig .tc .vmem S256x2048 .bf16) (harg11 : arg11.IsWhole) (arg12 : Memref sig .tc .vmem S256x4096 .f32) (harg12 : arg12.IsWhole) (arg13 : Memref sig .tc .vmem S4x256x256 .f32) (harg13 : arg13.IsWhole) (hc0 : cond0_0 i)
    (x0 : Vec F S256x2048 .f32) (x1 : Vec F S1x2048 .f32) (x2 : Vec F S2048x4096 .bf16) (x3 : Vec F S256x128 .f32) (x4 : Vec F S256x128 .f32) (x5 : Vec F S4x256x256 .f32) (x6 : Vec F S4x256x256 .f32) (x7 : Vec F S4x256x256 .f32) (x8 : Vec F S4x1x256 .f32) :
    sout0_A_1 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8
      = (Feed.mk arg1 harg1 x0 arg2 harg2 x1 arg3 harg3 x2 arg11).z [⟨all4096, k0_pay2⟩] := by
  sl_kernel_rfl

end Cert.Kernel6Ideal.Ret

end
-- ==== Proof.RetMath.lean ====
/-
  Retention as mathematics over the reals, for one head of one sequence. The state after some rows is the
  sum of their products, each decayed by the rows since. It can be carried over any number of rows at
  once, so a walk in tiles of 256 rows and a walk in chunks of 64 rows give the same output rows.
-/
module

public import Idealize.ShloMosaic.Lib.Pointwise
public import Idealize.ShloMosaic.Lib.IdealHost

@[expose] public section

noncomputable section

namespace Retention

open Finset

variable (lg : ℝ) (q k v : ℕ → Fin 256 → ℝ)

/-- The state after the first `N` rows. -/
def st (N : ℕ) (d e : Fin 256) : ℝ := ∑ m ∈ range N, Real.exp (lg * ((N : ℝ) - 1 - m)) * (k m d * v m e)

/-- The score of row `n` against row `m`. -/
def score (n m : ℕ) : ℝ := ∑ d : Fin 256, q n d * k m d

/-- The output of row `n`: within its chunk of 64 rows, and over the state before the chunk. -/
def row (n : ℕ) (e : Fin 256) : ℝ :=
  (∑ m ∈ range 64, score q k n (n / 64 * 64 + m) * Real.exp (lg * |((n % 64 : ℕ) : ℝ) - m|) * v (n / 64 * 64 + m) e)
    + ∑ d : Fin 256, q n d * Real.exp (lg * (((n % 64 : ℕ) : ℝ) + 1)) * st lg k v (n / 64 * 64) d e

theorem st_zero (d e : Fin 256) : st lg k v 0 d e = 0 := by simp [st]

/-- The state carried over `L` rows. -/
theorem st_add (N L : ℕ) (d e : Fin 256) :
    st lg k v (N + L) d e = st lg k v N d e * Real.exp (lg * L)
      + ∑ m ∈ range L, k (N + m) d * Real.exp (lg * ((L : ℝ) - 1 - m)) * v (N + m) e := by
  unfold st
  rw [sum_range_add, sum_mul]
  congr 1
  · refine sum_congr rfl fun m _ => ?_
    rw [mul_right_comm, ← Real.exp_add]
    congr 2
    push_cast
    ring
  · refine sum_congr rfl fun m _ => ?_
    push_cast
    rw [show lg * ((N : ℝ) + L - 1 - (N + m)) = lg * ((L : ℝ) - 1 - m) by ring]
    ring

/-- The decay between two rows of a tile: none from a later chunk. -/
def mask (r m : ℕ) : ℝ :=
  if m / 64 ≤ r / 64 then Real.exp (lg * (if r / 64 = m / 64 then |(r : ℝ) - m| else (r : ℝ) - m)) else 0

/-- A tile's own rows and the state before the tile give the same output row. -/
theorem row_tile (N r : ℕ) (hN : N % 64 = 0) (hr : r < 256) (e : Fin 256) :
    (∑ m ∈ range 256, score q k (N + r) (N + m) * mask lg r m * v (N + m) e)
      + ∑ d : Fin 256, q (N + r) d * Real.exp (lg * ((r : ℝ) + 1)) * st lg k v N d e = row lg q k v (N + r) e := by
  obtain ⟨j, i, hi, rfl, hj⟩ : ∃ j i, i < 64 ∧ r = 64 * j + i ∧ j < 4 := ⟨r / 64, r % 64, by omega, by omega, by omega⟩
  have e1 : (N + (64 * j + i)) / 64 * 64 = N + 64 * j := by omega
  have e2 : (N + (64 * j + i)) % 64 = i := by omega
  have e3 : (64 * j + i) / 64 = j := by omega
  unfold row
  rw [e1, e2]
  have e4 : range 256 = range (64 * j + (64 + (192 - 64 * j))) := congrArg range (by omega)
  rw [e4, sum_range_add, sum_range_add]
  have hlate : (∑ m ∈ range (192 - 64 * j), score q k (N + (64 * j + i)) (N + (64 * j + (64 + m)))
      * mask lg (64 * j + i) (64 * j + (64 + m)) * v (N + (64 * j + (64 + m))) e) = 0 := by
    refine sum_eq_zero fun m _ => ?_
    unfold mask
    rw [if_neg (by omega)]
    ring
  have hown : (∑ m ∈ range 64, score q k (N + (64 * j + i)) (N + (64 * j + m))
      * mask lg (64 * j + i) (64 * j + m) * v (N + (64 * j + m)) e)
      = ∑ m ∈ range 64, score q k (N + (64 * j + i)) (N + 64 * j + m) * Real.exp (lg * |(i : ℝ) - m|) * v (N + 64 * j + m) e := by
    refine sum_congr rfl fun m hm => ?_
    have hm := mem_range.mp hm
    unfold mask
    rw [if_pos (by omega), if_pos (by omega), Nat.add_assoc N (64 * j) m]
    push_cast
    rw [show (64 * (j : ℝ) + i - (64 * j + m)) = (i : ℝ) - m by ring]
  have hbefore : (∑ m ∈ range (64 * j), score q k (N + (64 * j + i)) (N + m) * mask lg (64 * j + i) m * v (N + m) e)
      = ∑ d : Fin 256, q (N + (64 * j + i)) d * Real.exp (lg * ((i : ℝ) + 1))
        * ∑ m ∈ range (64 * j), k (N + m) d * Real.exp (lg * (((64 * j : ℕ) : ℝ) - 1 - m)) * v (N + m) e := by
    simp only [mul_sum]
    rw [sum_comm]
    refine sum_congr rfl fun m hm => ?_
    have hm := mem_range.mp hm
    unfold mask score
    rw [if_pos (by omega), if_neg (by omega), sum_mul, sum_mul]
    refine sum_congr rfl fun d _ => ?_
    rw [show Real.exp (lg * (((64 * j + i : ℕ) : ℝ) - m))
        = Real.exp (lg * ((i : ℝ) + 1)) * Real.exp (lg * (((64 * j : ℕ) : ℝ) - 1 - m)) by
      rw [← Real.exp_add]; congr 1; push_cast; ring]
    ring
  rw [hlate, hown, hbefore, add_zero]
  simp only [st_add, mul_add, sum_add_distrib]
  have hst : (∑ d : Fin 256, q (N + (64 * j + i)) d * Real.exp (lg * (((64 * j + i : ℕ) : ℝ))) * Real.exp (lg * 1) * st lg k v N d e)
      = ∑ d : Fin 256, q (N + (64 * j + i)) d * Real.exp (lg * (i : ℝ)) * Real.exp (lg * 1)
        * (st lg k v N d e * Real.exp (lg * ((64 * j : ℕ) : ℝ))) := by
    refine sum_congr rfl fun d _ => ?_
    rw [show Real.exp (lg * ((64 * j + i : ℕ) : ℝ)) = Real.exp (lg * (i : ℝ)) * Real.exp (lg * ((64 * j : ℕ) : ℝ)) by
      rw [← Real.exp_add]; congr 1; push_cast; ring]
    ring
  simp only [Real.exp_add, ← mul_assoc] at hst ⊢
  rw [hst]
  ring

end Retention

end
-- ==== Proof.RetSpec.lean ====
/-
  The retention mixer as mathematics: rows of a stream, each row's normalised projection, queries and keys
  turned by their position, retention within a sequence of 8192 rows, and the gated, normalised output.
  No tiling and no buffers. With finite weights every projection is a real number, whatever the stream
  holds, and so are the queries, the keys and the values.
-/
module

public import proofs.«01_k».proof.Proof.RetMath

@[expose] public section

set_option maxRecDepth 16384

noncomputable section

namespace Retention

open Idealize.ShloMosaic

/-! ## Real values -/

/-- A value that is a real number. -/
def IsReal (x : EReal) : Prop := ∃ r : ℝ, x = (r : EReal)

theorem IsReal.coe (r : ℝ) : IsReal (r : EReal) := ⟨r, rfl⟩
theorem IsReal.toReal {x : EReal} (h : IsReal x) : ((x.toReal : ℝ) : EReal) = x := by
  obtain ⟨r, rfl⟩ := h
  rfl
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.sub {x y : EReal} (hx : IsReal x) (hy : IsReal y) : IsReal (x - y) := by
  obtain ⟨a, rfl⟩ := hx
  obtain ⟨b, rfl⟩ := hy
  exact ⟨a - b, (EReal.coe_sub a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) (f : ι → EReal) (h : ∀ i ∈ s, IsReal (f i)) : IsReal (∑ i ∈ s, f i) := by
  refine ⟨∑ i ∈ s, (f i).toReal, ?_⟩
  rw [coe_sum]
  exact Finset.sum_congr rfl fun i hi => (h i hi).toReal.symm

/-- A value smaller in size than infinity is real. -/
theorem IsReal.of_abs {x : EReal} (h : max x (-x) < ⊤) : IsReal x := by
  induction x with
  | bot => exact absurd h (by simp)
  | top => exact absurd h (by simp)
  | coe r => exact ⟨r, rfl⟩

/-! ## The normalised row -/

theorem sq_nonneg (x : EReal) : 0 ≤ x * x := by
  induction x with
  | bot => simp
  | top => simp
  | coe r => rw [← EReal.coe_mul]; exact_mod_cast mul_self_nonneg r

theorem ofBits_2048 : Ideal.ofBits .f32 0x45000000#32 = ((2048 : ℝ) : EReal) := by
  simp [Ideal.ofBits, Ideal.ieee, -EReal.coe_mul]; norm_num

theorem ofBits_eps_pos : ∃ e : ℝ, 0 < e ∧ Ideal.ofBits .f32 0x358637BD#32 = (e : EReal) := by
  refine ⟨_, ?_, by simp [Ideal.ofBits, Ideal.ieee, -EReal.coe_mul]; rfl⟩
  norm_num

/-- The reciprocal root of a row's mean square. -/
def rms (x : Fin 2048 → EReal) : EReal :=
  Ideal.rsqrt (Ideal.div (∑ k : Fin 2048, x k * x k) (Ideal.ofBits .f32 0x45000000#32) + Ideal.ofBits .f32 0x358637BD#32)

theorem mul_rms_real (x : Fin 2048 → EReal) (k : Fin 2048) : IsReal (x k * rms x) := by
  obtain ⟨e, he, hb⟩ := ofBits_eps_pos
  have hs : 0 ≤ ∑ k : Fin 2048, x k * x k := Finset.sum_nonneg fun _ _ => sq_nonneg _
  have hk : x k * x k ≤ ∑ k : Fin 2048, x k * x k :=
    Finset.single_le_sum (f := fun k => x k * x k) (fun _ _ => sq_nonneg _) (Finset.mem_univ k)
  unfold rms
  rw [hb, ofBits_2048]
  generalize (∑ k : Fin 2048, x k * x k) = s at hs hk
  have h2048 : ((2048 : ℝ) : EReal) ≠ 0 := by exact_mod_cast (by norm_num : (2048 : ℝ) ≠ 0)
  unfold Ideal.div
  rw [if_neg h2048, ← EReal.coe_inv]
  induction s with
  | bot => exact absurd hs (by simp)
  | top =>
    rw [EReal.top_mul_coe_of_pos (by norm_num), EReal.top_add_coe]
    show IsReal (x k * 0)
    rw [mul_zero]
    exact ⟨0, rfl⟩
  | coe r =>
    have hr : 0 ≤ r := by exact_mod_cast hs
    rw [← EReal.coe_mul, ← EReal.coe_add]
    refine IsReal.mul ?_ ?_
    · generalize x k = y at hk
      induction y with
      | bot => exact absurd hk (by simp)
      | top => exact absurd hk (by simp)
      | coe y => exact ⟨y, rfl⟩
    · have hp : 0 < r * (2048 : ℝ)⁻¹ + e := by positivity
      show IsReal (if _ then _ else if _ then _ else _)
      rw [if_neg (not_lt.mpr hp.le), if_neg hp.ne']
      exact ⟨_, rfl⟩

/-! ## The tables -/

theorem ofBits_256 : Ideal.ofBits .f32 0x43800000#32 = ((256 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_63 : Ideal.ofBits .f32 0x427C0000#32 = ((63 : ℝ) : EReal) := by
  simp [Ideal.ofBits, Ideal.ieee, -EReal.coe_mul]; norm_num
theorem ofBits_255 : Ideal.ofBits .f32 0x437F0000#32 = ((255 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_10000 : Ideal.ofBits .f32 0x461C4000#32 = ((10000 : ℝ) : EReal) := by
  simp [Ideal.ofBits, Ideal.ieee, -EReal.coe_mul]; norm_num
theorem ofBits_neg_five : Ideal.ofBits .f32 0xC0A00000#32 = ((-5 : ℝ) : EReal) := by
  simp [Ideal.ofBits, Ideal.ieee, -EReal.coe_mul, -EReal.coe_neg]; norm_num
theorem ofBits_sixteenth : Ideal.ofBits .f32 0x3D800000#32 = ((1 / 16 : ℝ) : EReal) := by
  simp [Ideal.ofBits, Ideal.ieee, -EReal.coe_mul]; norm_num
theorem ofBits_ln_two : ∃ c : ℝ, 0 < c ∧ Ideal.ofBits .f32 0x3F317218#32 = (c : EReal) := by
  refine ⟨_, ?_, by simp [Ideal.ofBits, Ideal.ieee, -EReal.coe_mul]; rfl⟩
  norm_num

/-- A whole number. -/
def num (n : ℕ) : EReal := ((n : ℝ) : EReal)

/-- The frequency of a pair of columns, and the angle of a position. -/
def freq (j : ℕ) : EReal :=
  Ideal.div 1 (Ideal.pow (Ideal.ofBits .f32 0x461C4000#32)
    (Ideal.div (Ideal.ofBits .f32 0x40000000#32 * num j) (Ideal.ofBits .f32 0x43800000#32)))
def ang (p j : ℕ) : EReal := num p * freq j

theorem div_real {x : EReal} (hx : IsReal x) {r : ℝ} (hr : r ≠ 0) : IsReal (Ideal.div x (r : EReal)) := by
  have h : (r : EReal) ≠ 0 := by exact_mod_cast hr
  unfold Ideal.div
  rw [if_neg h, ← EReal.coe_inv]
  exact hx.mul ⟨_, rfl⟩

theorem ang_real (p j : ℕ) : IsReal (ang p j) := by
  refine IsReal.mul ⟨_, rfl⟩ ?_
  unfold freq
  rw [ofBits_10000, ofBits_two, ofBits_256]
  obtain ⟨y, hy⟩ := div_real (IsReal.mul ⟨2, rfl⟩ ⟨(j : ℝ), rfl⟩ : IsReal (((2 : ℝ) : EReal) * num j)) (r := 256) (by norm_num)
  rw [hy]
  show IsReal (Ideal.div 1 ((Real.rpow 10000 y : ℝ) : EReal))
  exact div_real ⟨1, rfl⟩ (Real.rpow_pos_of_pos (by norm_num) y).ne'

theorem cos_real (p j : ℕ) : IsReal (Ideal.cos (ang p j)) := by
  obtain ⟨a, ha⟩ := ang_real p j
  rw [ha]
  exact ⟨_, rfl⟩
theorem sin_real (p j : ℕ) : IsReal (Ideal.sin (ang p j)) := by
  obtain ⟨a, ha⟩ := ang_real p j
  rw [ha]
  exact ⟨_, rfl⟩

/-- The logarithm of a head's decay. -/
def logg (h : ℕ) : EReal :=
  Ideal.log1p (-Ideal.exp (Ideal.ofBits .f32 0x3F317218#32 * (Ideal.ofBits .f32 0xC0A00000#32 - num h)))

theorem logg_real (h : ℕ) : IsReal (logg h) := by
  obtain ⟨c, hc, hb⟩ := ofBits_ln_two
  unfold logg num
  rw [hb, ofBits_neg_five, ← EReal.coe_sub, ← EReal.coe_mul]
  show IsReal (Ideal.log (1 + -((Real.exp (c * (-5 - h)) : ℝ) : EReal)))
  rw [← EReal.coe_neg, ← EReal.coe_one, ← EReal.coe_add]
  have h1 : Real.exp (c * (-5 - h)) < 1 := by
    rw [Real.exp_lt_one_iff]
    have : (0 : ℝ) ≤ h := Nat.cast_nonneg h
    nlinarith
  show IsReal (if _ then _ else _)
  rw [if_neg (by linarith)]
  exact ⟨_, rfl⟩

def lg (h : ℕ) : ℝ := (logg h).toReal
theorem logg_eq (h : ℕ) : logg h = (lg h : EReal) := (logg_real h).toReal.symm

/-- A decay over a distance. -/
theorem exp_logg (h : ℕ) (x : ℝ) : Ideal.exp (logg h * (x : EReal)) = ((Real.exp (lg h * x) : ℝ) : EReal) := by
  rw [logg_eq, ← EReal.coe_mul]
  rfl

/-! ## The mixer -/

/-- Column `l` of head `h`, and of one of the four parts of the projection. -/
def ch (h : Fin 4) (l : Fin 256) : Fin 1024 := ⟨h.val * 256 + l.val, by omega⟩
def col (p h : Fin 4) (l : Fin 256) : Fin 4096 := ⟨p.val * 1024 + h.val * 256 + l.val, by omega⟩

theorem ch_surj (k : Fin 1024) : ∃ (h : Fin 4) (l : Fin 256), k = ch h l :=
  ⟨⟨k.val / 256, by omega⟩, ⟨k.val % 256, by omega⟩, Fin.ext (by show k.val = k.val / 256 * 256 + k.val % 256; omega)⟩

theorem col_surj (k : Fin 4096) : ∃ (p h : Fin 4) (l : Fin 256), k = col p h l :=
  ⟨⟨k.val / 1024, by omega⟩, ⟨k.val / 256 % 4, by omega⟩, ⟨k.val % 256, by omega⟩,
    Fin.ext (by show k.val = k.val / 1024 * 1024 + k.val / 256 % 4 * 256 + k.val % 256; omega)⟩

/-- Turning a row of 256 by the position `p`: its halves are the pairs. -/
def rot (p : ℕ) (t : Fin 256 → EReal) (l : Fin 256) : EReal :=
  if h : l.val < 128 then t l * Ideal.cos (ang p l.val) - t ⟨l.val + 128, by omega⟩ * Ideal.sin (ang p l.val)
  else t l * Ideal.cos (ang p (l.val - 128)) + t ⟨l.val - 128, by omega⟩ * Ideal.sin (ang p (l.val - 128))

theorem rot_real (p : ℕ) {t : Fin 256 → EReal} (ht : ∀ l, IsReal (t l)) (l : Fin 256) : IsReal (rot p t l) := by
  unfold rot
  split
  · exact ((ht _).mul (cos_real _ _)).sub ((ht _).mul (sin_real _ _))
  · exact ((ht _).mul (cos_real _ _)).add ((ht _).mul (sin_real _ _))

/-- The mean of a row of 256, and the row normalised. -/
def mean (o : Fin 256 → EReal) : EReal := Ideal.div (∑ e : Fin 256, o e) (Ideal.ofBits .f32 0x43800000#32)
def normed (o : Fin 256 → EReal) (e : Fin 256) : EReal :=
  (o e - mean o) * Ideal.rsqrt (mean (fun e => (o e - mean o) * (o e - mean o)) + Ideal.ofBits .f32 0x3727C5AC#32)

/-- What the mixer is given. -/
structure Given where
  x : ℕ → Fin 2048 → EReal
  g : Fin 2048 → EReal
  w : Fin 2048 → Fin 4096 → EReal

/-- The arguments: the second of the two layers' projections, its first 4096 columns. -/
def given (a0 : (⟨2, ![32768, 2048]⟩ : Shape).Idx → EReal) (a1 : (⟨1, ![2048]⟩ : Shape).Idx → EReal)
    (a2 : (⟨3, ![2, 2048, 7456]⟩ : Shape).Idx → EReal) : Given where
  x n k := a0 (ix2 ⟨n % 32768, Nat.mod_lt _ (by omega)⟩ k)
  g k := a1 (ix1 k)
  w k c := a2 (ix3 1 k ⟨c.val, by omega⟩)

namespace Given

variable (I : Given)

/-- The weights of the norm and of the queries, keys and values are real. -/
structure Finite : Prop where
  g : ∀ k, IsReal (I.g k)
  w : ∀ k (c : Fin 4096), c.val < 3072 → IsReal (I.w k c)

/-- The normalised row, its projection, and the projection's part `p` of head `h`. -/
def xn (n : ℕ) (k : Fin 2048) : EReal := I.x n k * rms (I.x n) * I.g k
def z (n : ℕ) (c : Fin 4096) : EReal := ∑ k : Fin 2048, I.xn n k * I.w k c
def part (p h : Fin 4) (n : ℕ) (l : Fin 256) : EReal := I.z n (col p h l)

/-- Queries and keys of row `n`. -/
def q (h : Fin 4) (n : ℕ) : Fin 256 → EReal := rot (n % 8192) (I.part 0 h n)
def k (h : Fin 4) (n : ℕ) (l : Fin 256) : EReal := rot (n % 8192) (I.part 1 h n) l * Ideal.ofBits .f32 0x3D800000#32

/-- One head's queries, keys and values in sequence `s`, as real numbers. -/
def qr (h : Fin 4) (s i : ℕ) (d : Fin 256) : ℝ := (I.q h (s * 8192 + i) d).toReal
def kr (h : Fin 4) (s i : ℕ) (d : Fin 256) : ℝ := (I.k h (s * 8192 + i) d).toReal
def vr (h : Fin 4) (s i : ℕ) (d : Fin 256) : ℝ := (I.part 2 h (s * 8192 + i) d).toReal

/-- The retention's row `i` of sequence `s`, and the state before it. -/
def o (h : Fin 4) (s i : ℕ) (e : Fin 256) : EReal := ((row (lg h.val) (I.qr h s) (I.kr h s) (I.vr h s) i e : ℝ) : EReal)
def state (h : Fin 4) (s i : ℕ) (d e : Fin 256) : EReal := ((st (lg h.val) (I.kr h s) (I.vr h s) i d e : ℝ) : EReal)

/-- The output of row `i` of sequence `s`. -/
def out (h : Fin 4) (s i : ℕ) (e : Fin 256) : EReal :=
  I.part 3 h (s * 8192 + i) e * Ideal.logistic (I.part 3 h (s * 8192 + i) e) * normed (I.o h s i) e

variable {I}

theorem Finite.z_real (H : I.Finite) (n : ℕ) (c : Fin 4096) (hc : c.val < 3072) : IsReal (I.z n c) :=
  IsReal.sum _ _ fun k _ => ((mul_rms_real _ _).mul (H.g k)).mul (H.w k c hc)
theorem Finite.part_real (H : I.Finite) (p h : Fin 4) (hp : p.val < 3) (n : ℕ) (l : Fin 256) : IsReal (I.part p h n l) :=
  H.z_real n (col p h l) (by show p.val * 1024 + h.val * 256 + l.val < 3072; omega)

theorem Finite.q_eq (H : I.Finite) (h : Fin 4) (s i : ℕ) (d : Fin 256) : I.q h (s * 8192 + i) d = (I.qr h s i d : EReal) :=
  (rot_real _ (H.part_real 0 h (by decide) _) d).toReal.symm
theorem Finite.k_eq (H : I.Finite) (h : Fin 4) (s i : ℕ) (d : Fin 256) : I.k h (s * 8192 + i) d = (I.kr h s i d : EReal) := by
  refine (IsReal.toReal (IsReal.mul (rot_real _ (H.part_real 1 h (by decide) _) d) ?_)).symm
  rw [ofBits_sixteenth]
  exact ⟨_, rfl⟩
theorem Finite.v_eq (H : I.Finite) (h : Fin 4) (s i : ℕ) (d : Fin 256) : I.part 2 h (s * 8192 + i) d = (I.vr h s i d : EReal) :=
  (H.part_real 2 h (by decide) _ _).toReal.symm

/-- A walk in tiles: the rows of a tile of 256 from the state before it, and the state after it. -/
theorem o_tile (h : Fin 4) (s N r : ℕ) (hN : N % 64 = 0) (hr : r < 256) (e : Fin 256) :
    (∑ m : Fin 256, (∑ d : Fin 256, (I.qr h s (N + r) d : EReal) * (I.kr h s (N + m.val) d : EReal)) * ((mask (lg h.val) r m.val : ℝ) : EReal)
        * (I.vr h s (N + m.val) e : EReal))
      + ∑ d : Fin 256, (I.qr h s (N + r) d : EReal) * ((Real.exp (lg h.val * ((r : ℝ) + 1)) : ℝ) : EReal) * I.state h s N d e
      = I.o h s (N + r) e := by
  unfold o state
  rw [← row_tile (lg h.val) (I.qr h s) (I.kr h s) (I.vr h s) N r hN hr e, ← Fin.sum_univ_eq_sum_range
    (fun m => score (I.qr h s) (I.kr h s) (N + r) (N + m) * mask (lg h.val) r m * I.vr h s (N + m) e) 256]
  simp only [← EReal.coe_mul, ← coe_sum, ← EReal.coe_add]
  rfl

theorem state_tile (h : Fin 4) (s N L : ℕ) (d e : Fin 256) :
    I.state h s N d e * ((Real.exp (lg h.val * L) : ℝ) : EReal)
      + ∑ m : Fin L, (I.kr h s (N + m.val) d : EReal) * ((Real.exp (lg h.val * ((L : ℝ) - 1 - m.val)) : ℝ) : EReal)
        * (I.vr h s (N + m.val) e : EReal)
      = I.state h s (N + L) d e := by
  unfold state
  rw [st_add, ← Fin.sum_univ_eq_sum_range
    (fun m => I.kr h s (N + m) d * Real.exp (lg h.val * ((L : ℝ) - 1 - m)) * I.vr h s (N + m) e) L]
  simp only [← EReal.coe_mul, ← coe_sum, ← EReal.coe_add]

/-- A walk in chunks of 64 rows. -/
theorem o_chunk (h : Fin 4) (s N r : ℕ) (hN : N % 64 = 0) (hr : r < 64) (e : Fin 256) :
    (∑ m : Fin 64, (∑ d : Fin 256, (I.qr h s (N + r) d : EReal) * (I.kr h s (N + m.val) d : EReal))
        * ((Real.exp (lg h.val * |(r : ℝ) - m.val|) : ℝ) : EReal) * (I.vr h s (N + m.val) e : EReal))
      + ∑ d : Fin 256, (I.qr h s (N + r) d : EReal) * ((Real.exp (lg h.val * ((r : ℝ) + 1)) : ℝ) : EReal) * I.state h s N d e
      = I.o h s (N + r) e := by
  unfold o state row
  rw [show (N + r) / 64 * 64 = N by omega, show (N + r) % 64 = r by omega, ← Fin.sum_univ_eq_sum_range
    (fun m => score (I.qr h s) (I.kr h s) (N + r) (N + m) * Real.exp (lg h.val * |(r : ℝ) - m|) * I.vr h s (N + m) e) 64]
  simp only [← EReal.coe_mul, ← coe_sum, ← EReal.coe_add]
  rfl

theorem state_zero (h : Fin 4) (s : ℕ) (d e : Fin 256) : I.state h s 0 d e = 0 := by
  unfold state
  rw [st_zero]
  rfl

end Given

end Retention

end
-- ==== Proof.RetTile.lean ====
/-
  What a grid point leaves, from what it found: over a tile's projection and the state before it, the
  point writes the tile's output and its state; and it leaves the next tile's projection.
-/
module

public import proofs.«01_k».proof.Proof.RetBlock
public import proofs.«01_k».proof.Proof.RetSpec

@[expose] public section

set_option maxRecDepth 16384

noncomputable section

namespace Cert.Kernel6Ideal.Ret

open Idealize.ShloMosaic Idealize.ShloMosaic.TcCoe Cert.Kernel6Ideal Cert.Kernel6Ideal.Gen Retention

/-! ## A head's functions at one row and column -/

/-- A row of 256 turned by given cosines and sines. -/
def turn (C S : Fin 128 → EReal) (t : Fin 256 → EReal) (l : Fin 256) : EReal :=
  if h : l.val < 128 then t l * C ⟨l.val, h⟩ - t ⟨l.val + 128, by omega⟩ * S ⟨l.val, h⟩
  else t l * C ⟨l.val - 128, by omega⟩ + t ⟨l.val - 128, by omega⟩ * S ⟨l.val - 128, by omega⟩

theorem turn_apply (C S : Vec Ideal S256x128 .f32) (t : Vec Ideal S256x256 .f32) (r l : Fin 256) :
    k0_pay7 C S t (ix2 r l) = turn (fun j => C (ix2 r j)) (fun j => S (ix2 r j)) (fun d => t (ix2 r d)) l := by
  pointwise [k0_pay7, k0_pay5, k0_pay6]
  unfold turn
  by_cases h : l.val < 128
  · simp only [dif_pos h]
    exact congrArg (fun w => _ - t (ix2 r w) * _) (Fin.ext (Nat.add_comm 128 l.1))
  · simp only [dif_neg h]
    exact congrArg (fun w => t (ix2 r w) * _ + _)
      (Fin.ext (by show 128 + (l.1 - 128) = l.1; omega))

theorem key_apply (C S : Vec Ideal S256x128 .f32) (t : Vec Ideal S256x256 .f32) (r l : Fin 256) :
    k0_pay8 C S t (ix2 r l)
      = turn (fun j => C (ix2 r j)) (fun j => S (ix2 r j)) (fun d => t (ix2 r d)) l * Ideal.ofBits .f32 0x3D800000#32 := by
  have e := turn_apply C S t r l
  have e2 : k0_pay8 C S t = mulf (k0_pay7 C S t) (broadcast S256x256 (Scalar.ofBits .f32 0x3D800000#32)) := rfl
  rw [e2]
  generalize k0_pay7 C S t = X at e ⊢
  pointwise
  rw [e]

theorem scores_apply (L : Loads Ideal) (r m : Fin 256) :
    L.scores (ix2 r m) = ∑ d : Fin 256, L.query (ix2 r d) * L.key (ix2 m d) := by
  unfold Loads.scores Loads.query Loads.key k0_pay10
  generalize k0_pay7 L.cos L.sin L.q = X
  generalize k0_pay8 L.cos L.sin L.k = Y
  pointwise

theorem own_apply (L : Loads Ideal) (r e : Fin 256) :
    L.own (ix2 r e) = ∑ m : Fin 256, L.scores (ix2 r m) * L.dm (ix3 0 r m) * L.v (ix2 m e) := by
  unfold Loads.own
  generalize L.scores = X
  pointwise [k0_pay16, k0_pay9]

theorem queryDecayed_apply (L : Loads Ideal) (r d : Fin 256) :
    L.queryDecayed (ix2 r d) = L.query (ix2 r d) * L.qd (ix3 0 r d) := by
  unfold Loads.queryDecayed
  generalize L.query = X
  pointwise [k0_pay17]

theorem before_apply (L : Loads Ideal) (d e : Fin 256) :
    L.before (ix2 d e) = if starts L.i = 1#1 then 0 else L.s (ix3 0 d e) := by
  pointwise [Loads.before, k0_pay15]
  rfl

/-- The retention of a row before the norm. -/
def Loads.o (L : Loads Ideal) (r e : Fin 256) : EReal :=
  L.own (ix2 r e) + ∑ d : Fin 256, L.queryDecayed (ix2 r d) * L.before (ix2 d e)

theorem out_apply (L : Loads Ideal) (r l : Fin 256) :
    L.out (ix2 r l) = L.gate (ix2 r l) * Ideal.logistic (L.gate (ix2 r l)) * normed (L.o r) l := by
  unfold Loads.out Loads.o k0_pay18
  rw [show k0_pay15 (starts L.i) L.s = L.before from rfl]
  generalize L.own = X
  generalize L.queryDecayed = Y
  generalize L.before = Z
  pointwise [k0_pay20]
  rfl

theorem state_apply (L : Loads Ideal) (d e : Fin 256) :
    L.state (ix3 0 d e)
      = L.before (ix2 d e) * L.cd (ix3 0 0 e) + ∑ m : Fin 256, L.key (ix2 m d) * L.kd (ix3 0 m d) * L.v (ix2 m e) := by
  unfold Loads.state
  generalize L.before = X
  generalize L.key = Y
  pointwise [k0_pay19, k0_pay9]

theorem norm_apply (x : Vec Ideal S256x2048 .f32) (g : Vec Ideal S1x2048 .f32) (r : Fin 256) (k : Fin 2048) :
    k0_pay4 x g (ix2 r k) = x (ix2 r k) * rms (fun q => x (ix2 r q)) * g (ix2 0 k) := by
  pointwise [k0_pay4]
  rfl

theorem proj_apply (xn : FVec Ideal S256x2048 .bf16) (w : Vec Ideal S2048x256 .bf16) (r l : Fin 256) :
    k0_pay11 xn w (ix2 r l) = ∑ k : Fin 2048, xn (ix2 r k) * w (ix2 k l) := by
  pointwise [k0_pay11]

end Cert.Kernel6Ideal.Ret

end
-- ==== Proof.RetHolds.lean ====
/-
  What a grid point leaves: over a tile's projection and the state before it, the point writes the tile's
  output and the state after it, and it leaves the next tile's projection.
-/
module

public import proofs.«01_k».proof.Proof.RetTile

@[expose] public section

set_option maxRecDepth 16384

noncomputable section

namespace Cert.Kernel6Ideal.Ret

open Idealize.ShloMosaic Idealize.ShloMosaic.TcCoe Cert.Kernel6Ideal Cert.Kernel6Ideal.Gen Retention

theorem idx2 {R W r w : ℕ} (o : ℕ) (inb : ∀ a, (![0, o] : Fin 2 → ℕ) a + (![r, w] : Fin 2 → ℕ) a ≤ (![R, W] : Fin 2 → ℕ) a)
    (i : Fin r) (j : Fin w) (i' : Fin R) (j' : Fin W) (hi : i'.val = i.val) (hj : j'.val = o + j.val) :
    (Rect.unit (s := ⟨2, ![R, W]⟩) ![0, o] ![r, w] inb).toLoadRect.idx (ix2 i j) = ix2 i' j' := by
  refine funext fun a => Fin.ext ?_
  fin_cases a
  · show 0 + 1 * i.val = i'.val
    omega
  · show o + 1 * j.val = j'.val
    omega

theorem idx3 {N P Q n p q : ℕ} (o : ℕ) (inb : ∀ a, (![o, 0, 0] : Fin 3 → ℕ) a + (![n, p, q] : Fin 3 → ℕ) a ≤ (![N, P, Q] : Fin 3 → ℕ) a)
    (i : Fin n) (j : Fin p) (l : Fin q) (i' : Fin N) (j' : Fin P) (l' : Fin Q) (hi : i'.val = o + i.val) (hj : j'.val = j.val)
    (hl : l'.val = l.val) :
    (Rect.unit (s := ⟨3, ![N, P, Q]⟩) ![o, 0, 0] ![n, p, q] inb).toLoadRect.idx (ix3 i j l) = ix3 i' j' l' := by
  refine funext fun a => Fin.ext ?_
  fin_cases a
  · show o + 1 * i.val = i'.val
    omega
  · show 0 + 1 * j.val = j'.val
    omega
  · show 0 + 1 * l.val = l'.val
    omega

/-! ## What a head loads -/

section Loads

variable (S : Src Ideal) (i : grid0.Coords) (h : Fin 4)

theorem loads_cos (r : Fin 256) (j : Fin 128) : (S.loads i h).cos (ix2 r j) = S.cos (ix2 r j) :=
  (S.w4.readAt_unread S.cos _ _).trans (congrArg S.cos (idx2 _ _ _ _ _ _ rfl (Nat.zero_add _).symm))
theorem loads_sin (r : Fin 256) (j : Fin 128) : (S.loads i h).sin (ix2 r j) = S.sin (ix2 r j) :=
  (S.w5.readAt_unread S.sin _ _).trans (congrArg S.sin (idx2 _ _ _ _ _ _ rfl (Nat.zero_add _).symm))
theorem part_eq (p : Fin 4) (r l : Fin 256) : S.part p h (ix2 r l) = S.z (ix2 r (col p h l)) :=
  (S.w12.readAt_unread S.z _ _).trans (congrArg S.z (idx2 _ _ _ _ _ _ rfl rfl))
theorem loads_dm (r m : Fin 256) : (S.loads i h).dm (ix3 0 r m) = S.dm (ix3 h r m) :=
  (S.w6.readAt_unread S.dm _ _).trans (congrArg S.dm (idx3 _ _ _ _ _ _ _ _ rfl rfl rfl))
theorem loads_qd (r d : Fin 256) : (S.loads i h).qd (ix3 0 r d) = S.qd (ix3 h r d) :=
  (S.w7.readAt_unread S.qd _ _).trans (congrArg S.qd (idx3 _ _ _ _ _ _ _ _ rfl rfl rfl))
theorem loads_kd (r d : Fin 256) : (S.loads i h).kd (ix3 0 r d) = S.kd (ix3 h r d) :=
  (S.w8.readAt_unread S.kd _ _).trans (congrArg S.kd (idx3 _ _ _ _ _ _ _ _ rfl rfl rfl))
theorem loads_cd (e : Fin 256) : (S.loads i h).cd (ix3 0 0 e) = S.cd (ix3 h 0 e) :=
  (S.w9.readAt_unread S.cd _ _).trans (congrArg S.cd (idx3 _ _ _ _ _ _ _ _ rfl rfl rfl))
theorem loads_s (d e : Fin 256) : (S.loads i h).s (ix3 0 d e) = S.s (ix3 h d e) :=
  (S.w13.readAt_unread S.s _ _).trans (congrArg S.s (idx3 _ _ _ _ _ _ _ _ rfl rfl rfl))

end Loads

/-! ## What a tile's heads compute -/

/-- The buffers hold the tables, and tile `n`'s projection and the state before it. -/
structure Src.Holds (S : Src Ideal) (I : Given) (i : grid0.Coords) (n : ℕ) : Prop where
  cos : ∀ (r : Fin 256) (j : Fin 128), S.cos (ix2 r j) = Ideal.cos (ang (n % 32 * 256 + r.val) j.val)
  sin : ∀ (r : Fin 256) (j : Fin 128), S.sin (ix2 r j) = Ideal.sin (ang (n % 32 * 256 + r.val) j.val)
  dm : ∀ (h : Fin 4) (r m : Fin 256), S.dm (ix3 h r m) = ((mask (lg h.val) r.val m.val : ℝ) : EReal)
  qd : ∀ (h : Fin 4) (r d : Fin 256), S.qd (ix3 h r d) = ((Real.exp (lg h.val * ((r.val : ℝ) + 1)) : ℝ) : EReal)
  kd : ∀ (h : Fin 4) (r d : Fin 256), S.kd (ix3 h r d) = ((Real.exp (lg h.val * (((256 : ℕ) : ℝ) - 1 - r.val)) : ℝ) : EReal)
  cd : ∀ (h : Fin 4) (e : Fin 256), S.cd (ix3 h 0 e) = ((Real.exp (lg h.val * ((256 : ℕ) : ℝ)) : ℝ) : EReal)
  starts : starts i = 1#1 ↔ n % 32 = 0
  z : ∀ (r : Fin 256) c, S.z (ix2 r c) = I.z (n * 256 + r.val) c
  s : n % 32 ≠ 0 → ∀ (h : Fin 4) (d e : Fin 256), S.s (ix3 h d e) = I.state h (n / 32) (n % 32 * 256) d e

namespace Src.Holds

variable {S : Src Ideal} {I : Given} {i : grid0.Coords} {n : ℕ} (H : S.Holds I i n) (h : Fin 4)

theorem row_eq (n r : ℕ) : n * 256 + r = n / 32 * 8192 + (n % 32 * 256 + r) := by omega

include H

theorem part_row (p : Fin 4) (r l : Fin 256) : S.part p h (ix2 r l) = I.part p h (n / 32 * 8192 + (n % 32 * 256 + r.val)) l := by
  rw [part_eq, H.z, row_eq]
  rfl

theorem turn_row (p : Fin 4) (r l : Fin 256) :
    turn (fun j => (S.loads i h).cos (ix2 r j)) (fun j => (S.loads i h).sin (ix2 r j)) (fun d => S.part p h (ix2 r d)) l
      = rot ((n / 32 * 8192 + (n % 32 * 256 + r.val)) % 8192) (I.part p h (n / 32 * 8192 + (n % 32 * 256 + r.val))) l := by
  rw [show (n / 32 * 8192 + (n % 32 * 256 + r.val)) % 8192 = n % 32 * 256 + r.val by omega]
  rw [show (fun j => (S.loads i h).cos (ix2 r j)) = fun j : Fin 128 => Ideal.cos (ang (n % 32 * 256 + r.val) j.val) from
      funext fun j => (loads_cos S i h r j).trans (H.cos r j),
    show (fun j => (S.loads i h).sin (ix2 r j)) = fun j : Fin 128 => Ideal.sin (ang (n % 32 * 256 + r.val) j.val) from
      funext fun j => (loads_sin S i h r j).trans (H.sin r j),
    show (fun d => S.part p h (ix2 r d)) = I.part p h (n / 32 * 8192 + (n % 32 * 256 + r.val)) from
      funext fun d => H.part_row h p r d]
  rfl

variable (hI : I.Finite)

include hI

theorem query_eq (r l : Fin 256) : (S.loads i h).query (ix2 r l) = (I.qr h (n / 32) (n % 32 * 256 + r.val) l : EReal) :=
  (turn_apply _ _ _ r l).trans ((H.turn_row h 0 r l).trans (hI.q_eq h (n / 32) (n % 32 * 256 + r.val) l))

theorem key_eq (r l : Fin 256) : (S.loads i h).key (ix2 r l) = (I.kr h (n / 32) (n % 32 * 256 + r.val) l : EReal) :=
  (key_apply _ _ _ r l).trans
    ((congrArg (· * _) (H.turn_row h 1 r l)).trans (hI.k_eq h (n / 32) (n % 32 * 256 + r.val) l))

theorem v_eq (r l : Fin 256) : (S.loads i h).v (ix2 r l) = (I.vr h (n / 32) (n % 32 * 256 + r.val) l : EReal) :=
  (H.part_row h 2 r l).trans (hI.v_eq h (n / 32) (n % 32 * 256 + r.val) l)

omit hI in
theorem before_eq (d e : Fin 256) : (S.loads i h).before (ix2 d e) = I.state h (n / 32) (n % 32 * 256) d e := by
  rw [before_apply, loads_s, show (S.loads i h).i = i from rfl]
  by_cases h0 : n % 32 = 0
  · rw [if_pos (H.starts.mpr h0), h0, Nat.zero_mul, Given.state_zero]
  · rw [if_neg (fun hh => h0 (H.starts.mp hh)), H.s h0]

theorem o_eq (r e : Fin 256) : (S.loads i h).o r e = I.o h (n / 32) (n % 32 * 256 + r.val) e := by
  rw [← Given.o_tile h (n / 32) (n % 32 * 256) r.val (by omega) r.isLt e]
  unfold Loads.o
  rw [own_apply]
  refine congr (congrArg _ (Finset.sum_congr rfl fun m _ => ?_)) (Finset.sum_congr rfl fun d _ => ?_)
  · rw [scores_apply, loads_dm, H.dm, H.v_eq h hI]
    simp only [H.query_eq h hI, H.key_eq h hI]
  · rw [queryDecayed_apply, loads_qd, H.qd, H.query_eq h hI, H.before_eq h]

end Src.Holds

theorem Src.out_eq {S : Src Ideal} {I : Given} {i : grid0.Coords} {n : ℕ} (H : S.Holds I i n) (hI : I.Finite) (r : Fin 256)
    (h : Fin 4) (l : Fin 256) : S.out i (ix2 r (ch h l)) = I.out h (n / 32) (n % 32 * 256 + r.val) l := by
  refine (read_tilesO _ _ _ r h l _ rfl).trans ?_
  rw [out_apply, show (S.loads i h).o r = I.o h (n / 32) (n % 32 * 256 + r.val) from funext fun e => H.o_eq h hI r e,
    show (S.loads i h).gate (ix2 r l) = _ from H.part_row h 3 r l]
  rfl

theorem Src.state_eq {S : Src Ideal} {I : Given} {i : grid0.Coords} {n : ℕ} (H : S.Holds I i n) (hI : I.Finite) (h : Fin 4)
    (d e : Fin 256) : S.state i (ix3 h d e) = I.state h (n / 32) (n % 32 * 256 + 256) d e := by
  refine (read_tilesS _ _ _ h d e).trans ?_
  rw [state_apply, loads_cd, H.cd, H.before_eq h, ← Given.state_tile h (n / 32) (n % 32 * 256) 256 d e]
  refine congrArg _ (Finset.sum_congr rfl fun m _ => ?_)
  rw [loads_kd, H.kd, H.key_eq h hI, H.v_eq h hI]

/-! ## The projection -/

theorem read_tilesZ {sg : RefSig} {κ : Kind} {sp : Space} (v : View sg κ sp S256x4096 .f32) (f : v.ty.Contents (Elt Ideal))
    (P : Fin 16 → S256x256.Idx → Elt Ideal .f32) (r : Fin 256) (p h : Fin 4) (l : Fin 256) :
    v.read (Elt Ideal) (v.writes (Elt Ideal) f (tilesZ P)) (ix2 r (col p h l)) = P ⟨h.val * 4 + p.val, by omega⟩ (ix2 r l) := by
  refine View.read_tilePieces v f _ _ _ P 16 le_rfl (ix2 r (col p h l)) ⟨h.val * 4 + p.val, by omega⟩
    (by show h.val * 4 + p.val < 16; omega) (ix2 r l) (fun a => ?_) (1 : Fin 2) (fun i' hi' => ?_)
  · fin_cases a
    · show r.val = 0 + r.val
      omega
    · show p.val * 1024 + h.val * 256 + l.val = (h.val * 4 + p.val) % 4 * 1024 + (h.val * 4 + p.val) / 4 * 256 + l.val
      omega
  · have h1 : i'.val ≠ h.val * 4 + p.val := fun e => hi' (Fin.ext e)
    have h2 := l.isLt
    have h3 := p.isLt
    have h4 := h.isLt
    have h5 := i'.isLt
    show p.val * 1024 + h.val * 256 + l.val < i'.val % 4 * 1024 + i'.val / 4 * 256
      ∨ i'.val % 4 * 1024 + i'.val / 4 * 256 + 256 ≤ p.val * 1024 + h.val * 256 + l.val
    omega

/-- The buffers hold the norm's weights, the projection's and tile `n` of the stream. -/
structure Feed.Holds (P : Feed Ideal) (I : Given) (n : ℕ) : Prop where
  x : ∀ (r : Fin 256) k, P.x (ix2 r k) = I.x (n * 256 + r.val) k
  g : ∀ k, P.g (ix2 0 k) = I.g k
  w : ∀ k c, P.w (ix2 k c) = I.w k c

theorem Feed.xn_eq {P : Feed Ideal} {I : Given} {n : ℕ} (H : P.Holds I n) (r : Fin 256) (k : Fin 2048) :
    P.xn (ix2 r k) = I.xn (n * 256 + r.val) k := by
  have hx : ∀ (r : Fin 256) (k : Fin 2048), View.readAt (Elt Ideal) P.r1.view all2048.toLoadRect (P.w1.unread P.x) (ix2 r k)
      = I.x (n * 256 + r.val) k := fun r k =>
    (P.w1.readAt_unread P.x _ _).trans ((congrArg P.x (idx2 _ _ _ _ r k rfl (Nat.zero_add _).symm)).trans (H.x r k))
  have hg : View.readAt (Elt Ideal) P.r2.view all1.toLoadRect (P.w2.unread P.g) (ix2 0 k) = I.g k :=
    (P.w2.readAt_unread P.g _ _).trans ((congrArg P.g (idx2 _ _ _ _ 0 k rfl (Nat.zero_add _).symm)).trans (H.g k))
  unfold Feed.xn Given.xn
  refine (congrFun (View.readCov_cons_toLoadRect _ all2048 _ []) (ix2 r k)).trans ((norm_apply _ _ r k).trans ?_)
  exact congr (congrArg _ (congr (congrArg _ (hx r k)) (congrArg rms (funext fun q => hx r q)))) hg

theorem Feed.block_eq {P : Feed Ideal} {I : Given} {n : ℕ} (H : P.Holds I n) (o : ℕ) (ho : o + 256 ≤ 4096)
    (r l : Fin 256) (c : Fin 4096) (hc : c.val = o + l.val) : P.block o ho (ix2 r l) = I.z (n * 256 + r.val) c := by
  unfold Feed.block Given.z
  refine (proj_apply _ _ r l).trans (Finset.sum_congr rfl fun k _ => ?_)
  rw [Feed.xn_eq H]
  refine congrArg (I.xn (n * 256 + r.val) k * ·) ?_
  exact (P.w3.readAt_unread P.w _ _).trans ((congrArg P.w (idx2 _ _ _ _ k c rfl hc)).trans (H.w k c))

theorem Feed.z_eq {P : Feed Ideal} {I : Given} {n : ℕ} (H : P.Holds I n) (base : List (View.Piece (Elt Ideal) S256x4096 .f32))
    (r : Fin 256) (c : Fin 4096) : P.z base (ix2 r c) = I.z (n * 256 + r.val) c := by
  obtain ⟨p, h, l, rfl⟩ := col_surj c
  unfold Feed.z
  rw [View.writes_append]
  refine (read_tilesZ _ _ _ r p h l).trans (Feed.block_eq H _ _ r l _ ?_)
  show p.val * 1024 + h.val * 256 + l.val = (h.val * 4 + p.val) % 4 * 1024 + (h.val * 4 + p.val) / 4 * 256 + l.val
  omega

end Cert.Kernel6Ideal.Ret

end
-- ==== Proof.RetTables.lean ====
/-
  The tables the programs compute from positions, as real numbers.
-/
module

public import proofs.«01_k».proof.Proof.RetSpec

@[expose] public section

noncomputable section

namespace Retention

open Idealize.ShloMosaic

/-- A position counted in words is the number. -/
theorem num_word (n : ℕ) (h : n < 2 ^ 31) : FloatOps.sitofp (F := Ideal) .f32 (BitVec.ofNat 32 n) = num n := by
  show (((BitVec.ofNat 32 n).toInt : ℝ) : EReal) = ((n : ℝ) : EReal)
  have e : (BitVec.ofNat 32 n).toInt = (n : ℤ) := by
    have t : (BitVec.ofNat 32 n).toNat = n := by
      rw [BitVec.toNat_ofNat]
      exact Nat.mod_eq_of_lt (by omega)
    rw [BitVec.toInt_eq_toNat_of_lt (by rw [t]; omega), t]
  rw [e]
  norm_cast

/-- The chunk of a position. -/
theorem floor_num (n : ℕ) : Ideal.liftRound Int.floor (Ideal.div (num n) (Ideal.ofBits .f32 0x42800000#32)) = num (n / 64) := by
  rw [ofBits_64]
  have h64 : ((64 : ℝ) : EReal) ≠ 0 := by exact_mod_cast (by norm_num : (64 : ℝ) ≠ 0)
  unfold Ideal.div num
  rw [if_neg h64, ← EReal.coe_inv, ← EReal.coe_mul]
  show (((⌊(n : ℝ) * (64 : ℝ)⁻¹⌋ : ℤ) : ℝ) : EReal) = (((n / 64 : ℕ) : ℝ) : EReal)
  have e : ⌊(n : ℝ) * (64 : ℝ)⁻¹⌋ = ((n / 64 : ℕ) : ℤ) := by
    rw [Int.floor_eq_iff]
    have h1 : ((n / 64 * 64 : ℕ) : ℝ) ≤ n := by exact_mod_cast Nat.div_mul_le_self n 64
    have h2 : (n : ℝ) < ((n / 64 * 64 + 64 : ℕ) : ℝ) := by exact_mod_cast (by omega : n < n / 64 * 64 + 64)
    generalize n / 64 = c at h1 h2 ⊢
    push_cast at h1 h2 ⊢
    constructor <;> linarith
  rw [e]
  norm_cast

theorem num_le (a b : ℕ) : num a ≤ num b ↔ a ≤ b := by
  unfold num
  rw [EReal.coe_le_coe_iff, Nat.cast_le]
theorem num_eq (a b : ℕ) : num a = num b ↔ a = b := by
  unfold num
  rw [EReal.coe_eq_coe_iff, Nat.cast_inj]

theorem abs_coe (x : ℝ) : max (x : EReal) (-(x : EReal)) = ((|x| : ℝ) : EReal) := by
  rw [← EReal.coe_neg, abs_eq_max_neg]
  exact (EReal.coe_strictMono.monotone.map_max).symm

/-- The decays, as the programs compute them. -/
theorem decay_mul (h : ℕ) (x : EReal) (r : ℝ) (e : x = (r : EReal)) : Ideal.exp (logg h * x) = ((Real.exp (lg h * r) : ℝ) : EReal) := by
  rw [e]
  exact exp_logg h r

theorem num_add_one (n : ℕ) : num n + 1 = (((n : ℝ) + 1 : ℝ) : EReal) := by
  unfold num
  rw [← EReal.coe_one, ← EReal.coe_add]

theorem decay_within (h r m : ℕ) :
    Ideal.exp (logg h * max (num r - num m) (-(num r - num m))) = ((Real.exp (lg h * |(r : ℝ) - m|) : ℝ) : EReal) :=
  decay_mul h _ _ (by unfold num; rw [← EReal.coe_sub, abs_coe])

theorem decay_before (h r m : ℕ) :
    Ideal.exp (logg h * (num r - num m)) = ((Real.exp (lg h * ((r : ℝ) - m)) : ℝ) : EReal) :=
  decay_mul h _ _ (by unfold num; rw [← EReal.coe_sub])

/-- The decays between the rows of a tile of 256, chunk by chunk. -/
theorem mask_table (h r m : ℕ) :
    (if num (m / 64) ≤ num (r / 64) then
        Ideal.exp (logg h * if num (r / 64) = num (m / 64) then max (num r - num m) (-(num r - num m)) else num r - num m) else 0)
      = ((mask (lg h) r m : ℝ) : EReal) := by
  unfold mask
  by_cases h1 : m / 64 ≤ r / 64
  · rw [if_pos ((num_le _ _).mpr h1), if_pos h1]
    by_cases h2 : r / 64 = m / 64
    · rw [if_pos ((num_eq _ _).mpr h2), if_pos h2, decay_within]
    · rw [if_neg (fun e => h2 ((num_eq _ _).mp e)), if_neg h2, decay_before]
  · rw [if_neg (fun e => h1 ((num_le _ _).mp e)), if_neg h1]
    rfl

end Retention

end
-- ==== Proof.RetHeld.lean ====
/-
  What the retention's windows hold at each grid point, at coordinates: the stream's tile of the point, the
  weights whole, the angles of the tile before, and the tables of decays.
-/
module

public import proofs.«01_k».proof.Proof.RetHolds
public import proofs.«01_k».proof.Proof.RetTables
public import Idealize.ShloMosaic.Lib.Pipeline.ValueKit

@[expose] public section

set_option maxRecDepth 16384

noncomputable section

namespace Cert.Kernel6Ideal.Ret

open Idealize.ShloMosaic Idealize.ShloMosaic.TcCoe Cert.Kernel6Ideal Cert.Kernel6Ideal.Gen Retention

variable (m : (ℓ : Loc nD τ sig) → Buf (Elt Ideal) ℓ) (c : Dev nD)

/-- The arguments, as the mixer is given them. -/
def args : Given :=
  given (m ((c : Thread nD τ).loc main_arg0)) (m ((c : Thread nD τ).loc main_arg1)) (m ((c : Thread nD τ).loc main_arg2))

theorem index0 : ∀ t : Fin cfg0.N, win0_0.index t = ![min t.val 127, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![(t.val - 1) % 32, 0] := (by decide +kernel : ∀ t : Fin grid0.N, _)
theorem index4 : ∀ t : Fin cfg0.N, win0_4.index t = ![(t.val - 1) % 32, 0] := (by decide +kernel : ∀ t : Fin grid0.N, _)
theorem index5 : ∀ t : Fin cfg0.N, win0_5.index t = ![0, 0, 0] := (by decide +kernel : ∀ t : Fin grid0.N, _)
theorem index6 : ∀ t : Fin cfg0.N, win0_6.index t = ![0, 0, 0] := (by decide +kernel : ∀ t : Fin grid0.N, _)
theorem index7 : ∀ t : Fin cfg0.N, win0_7.index t = ![0, 0, 0] := (by decide +kernel : ∀ t : Fin grid0.N, _)
theorem index8 : ∀ t : Fin cfg0.N, win0_8.index t = ![0, 0, 0] := (by decide +kernel : ∀ t : Fin grid0.N, _)
theorem index9 : ∀ t : Fin cfg0.N, win0_9.index t = ![t.val - 1, 0] := (by decide +kernel : ∀ t : Fin grid0.N, _)

/-- A point's tile opens a sequence every thirty-second tile. -/
theorem starts_iff : ∀ t : Fin cfg0.N, starts (grid0.coords t) = 1#1 ↔ (t.val - 1) % 32 = 0 :=
  (by decide +kernel : ∀ t : Fin grid0.N, _)

theorem held0 (t : Fin cfg0.N) (ht : t.val < 128) (r : Fin 256) (k : Fin 2048) :
    iblk m c 0 t (ix2 r k) = (args m c).x (t.val * 256 + r.val) k := by
  blk_simp [iblk]
  rw [V_main_arg0]
  show m _ _ = m _ _
  congr 1
  blk_ext [index0]

/-! The arrays prepared before the kernel runs. -/

theorem V_main_v82 (k : Fin 2048) : V m c main_v82 (ix2 0 k) = (args m c).g k := by
  unfold V
  simp only [hostOps0, hostOps0_1, hostOps0_2, hostOps0_3, hostOps0_4, List.flatten_cons, List.flatten_nil, List.append_nil,
    List.cons_append, List.nil_append]
  after_results
  pointwise
  rfl

theorem V_main_v22 (k : Fin 2048) (q : Fin 4096) : V m c main_v22 (ix2 k q) = (args m c).w k q := by
  unfold V
  simp only [hostOps0, hostOps0_1, hostOps0_2, hostOps0_3, hostOps0_4, List.flatten_cons, List.flatten_nil, List.append_nil,
    List.cons_append, List.nil_append]
  after_results
  pointwise
  rfl

theorem V_main_v17 (p : Fin 8192) (j : Fin 128) : V m c main_v17 (ix2 p j) = Ideal.cos (ang p.val j.val) := by
  unfold V
  simp only [hostOps0, hostOps0_1, hostOps0_2, hostOps0_3, hostOps0_4, List.flatten_cons, List.flatten_nil, List.append_nil,
    List.cons_append, List.nil_append]
  after_results
  pointwise
  rw [num_word _ (by omega), num_word _ (by omega)]
  rfl

theorem V_main_v18 (p : Fin 8192) (j : Fin 128) : V m c main_v18 (ix2 p j) = Ideal.sin (ang p.val j.val) := by
  unfold V
  simp only [hostOps0, hostOps0_1, hostOps0_2, hostOps0_3, hostOps0_4, List.flatten_cons, List.flatten_nil, List.append_nil,
    List.cons_append, List.nil_append]
  after_results
  pointwise
  rw [num_word _ (by omega), num_word _ (by omega)]
  rfl

theorem V_main_v61 (h : Fin 4) (r q : Fin 256) : V m c main_v61 (ix3 h r q) = ((mask (lg h.val) r.val q.val : ℝ) : EReal) := by
  unfold V
  simp only [hostOps0, hostOps0_1, hostOps0_2, hostOps0_3, hostOps0_4, List.flatten_cons, List.flatten_nil, List.append_nil,
    List.cons_append, List.nil_append]
  after_results
  simp only [StableHlo.TRef.toBuf, StableHlo.TRef.ofBuf, cast_eq]
  pointwise
  have hz : id (constant (F := Ideal) S_ .f32 0x00000000#32) ix0 = (0 : EReal) := by
    show Ideal.ofBits .f32 0x00000000#32 = 0
    simp [Ideal.ofBits, Ideal.ieee]
  rw [hz, num_word _ (by omega), num_word _ (by omega), num_word _ (by omega), floor_num, floor_num]
  exact mask_table h.val r.val q.val

theorem V_main_v69 (h : Fin 4) (r d : Fin 256) : V m c main_v69 (ix3 h r d) = ((Real.exp (lg h.val * ((r.val : ℝ) + 1)) : ℝ) : EReal) := by
  unfold V
  simp only [hostOps0, hostOps0_1, hostOps0_2, hostOps0_3, hostOps0_4, List.flatten_cons, List.flatten_nil, List.append_nil,
    List.cons_append, List.nil_append]
  after_results
  pointwise
  rw [num_word _ (by omega), num_word _ (by omega)]
  exact decay_mul h.val _ _ (num_add_one r.val)

theorem V_main_v77 (h : Fin 4) (r d : Fin 256) :
    V m c main_v77 (ix3 h r d) = ((Real.exp (lg h.val * (((256 : ℕ) : ℝ) - 1 - r.val)) : ℝ) : EReal) := by
  unfold V
  simp only [hostOps0, hostOps0_1, hostOps0_2, hostOps0_3, hostOps0_4, List.flatten_cons, List.flatten_nil, List.append_nil,
    List.cons_append, List.nil_append]
  after_results
  pointwise
  rw [num_word _ (by omega), num_word _ (by omega), ofBits_255]
  exact decay_mul h.val _ _ (by
    unfold num
    rw [← EReal.coe_sub]
    norm_num)

theorem V_main_v81 (h : Fin 4) (e : Fin 256) : V m c main_v81 (ix3 h 0 e) = ((Real.exp (lg h.val * ((256 : ℕ) : ℝ)) : ℝ) : EReal) := by
  unfold V
  simp only [hostOps0, hostOps0_1, hostOps0_2, hostOps0_3, hostOps0_4, List.flatten_cons, List.flatten_nil, List.append_nil,
    List.cons_append, List.nil_append]
  after_results
  pointwise
  rw [num_word _ (by omega)]
  exact decay_mul h.val _ _ (by rw [ofBits_256]; norm_num)

/-! What the windows hold. -/

theorem held1 (t : Fin cfg0.N) (k : Fin 2048) : iblk m c 1 t (ix2 0 k) = (args m c).g k := by
  blk_simp [iblk]
  refine Eq.trans (congrArg (V m c main_v82) ?_) (V_main_v82 m c k)
  blk_ext [index1]

theorem held2 (t : Fin cfg0.N) (k : Fin 2048) (q : Fin 4096) : iblk m c 2 t (ix2 k q) = (args m c).w k q := by
  blk_simp [iblk]
  refine Eq.trans (congrArg (V m c main_v22) ?_) (V_main_v22 m c k q)
  blk_ext [index2]

theorem held3 (t : Fin cfg0.N) (r : Fin 256) (j : Fin 128) :
    iblk m c 3 t (ix2 r j) = Ideal.cos (ang ((t.val - 1) % 32 * 256 + r.val) j.val) := by
  blk_simp [iblk]
  refine Eq.trans (congrArg (V m c main_v17) ?_) (V_main_v17 m c ⟨(t.val - 1) % 32 * 256 + r.val, by omega⟩ j)
  blk_ext [index3]

theorem held4 (t : Fin cfg0.N) (r : Fin 256) (j : Fin 128) :
    iblk m c 4 t (ix2 r j) = Ideal.sin (ang ((t.val - 1) % 32 * 256 + r.val) j.val) := by
  blk_simp [iblk]
  refine Eq.trans (congrArg (V m c main_v18) ?_) (V_main_v18 m c ⟨(t.val - 1) % 32 * 256 + r.val, by omega⟩ j)
  blk_ext [index4]

theorem held5 (t : Fin cfg0.N) (h : Fin 4) (r q : Fin 256) :
    iblk m c 5 t (ix3 h r q) = ((mask (lg h.val) r.val q.val : ℝ) : EReal) := by
  blk_simp [iblk]
  refine Eq.trans (congrArg (V m c main_v61) ?_) (V_main_v61 m c h r q)
  blk_ext [index5]

theorem held6 (t : Fin cfg0.N) (h : Fin 4) (r d : Fin 256) :
    iblk m c 6 t (ix3 h r d) = ((Real.exp (lg h.val * ((r.val : ℝ) + 1)) : ℝ) : EReal) := by
  blk_simp [iblk]
  refine Eq.trans (congrArg (V m c main_v69) ?_) (V_main_v69 m c h r d)
  blk_ext [index6]

theorem held7 (t : Fin cfg0.N) (h : Fin 4) (r d : Fin 256) :
    iblk m c 7 t (ix3 h r d) = ((Real.exp (lg h.val * (((256 : ℕ) : ℝ) - 1 - r.val)) : ℝ) : EReal) := by
  blk_simp [iblk]
  refine Eq.trans (congrArg (V m c main_v77) ?_) (V_main_v77 m c h r d)
  blk_ext [index7]

theorem held8 (t : Fin cfg0.N) (h : Fin 4) (e : Fin 256) :
    iblk m c 8 t (ix3 h 0 e) = ((Real.exp (lg h.val * ((256 : ℕ) : ℝ)) : ℝ) : EReal) := by
  blk_simp [iblk]
  refine Eq.trans (congrArg (V m c main_v81) ?_) (V_main_v81 m c h e)
  blk_ext [index8]

end Cert.Kernel6Ideal.Ret

end
-- ==== Proof.RetKernel.lean ====
/-
  What the retention's kernel leaves: after each grid point the projection of its tile and, one tile behind,
  the output tile and the state; so the result array holds the mixer's output, row by row.
-/
module

public import proofs.«01_k».proof.Proof.RetHeld

@[expose] public section

set_option maxRecDepth 16384

noncomputable section

namespace Cert.Kernel6Ideal.Ret

open Idealize.ShloMosaic Idealize.ShloMosaic.TcCoe Cert.Kernel6Ideal Cert.Kernel6Ideal.Gen Retention
open Idealize.SL.Sem

variable (m : (ℓ : Loc nD τ sig) → Buf (Elt Ideal) ℓ) (ρ : Dev nD → PrngReg) (c : Dev nD)

/-- What the buffers hold after point `n`. -/
structure After (n : ℕ) (out : Vec Ideal S256x1024 .bf16) (z : Vec Ideal S256x4096 .f32) (s : Vec Ideal S4x256x256 .f32) : Prop where
  z : n < 128 → ∀ (r : Fin 256) k, z (ix2 r k) = (args m c).z (n * 256 + r.val) k
  out : 1 ≤ n → ∀ (r : Fin 256) h l, out (ix2 r (ch h l)) = (args m c).out h ((n - 1) / 32) ((n - 1) % 32 * 256 + r.val) l
  s : 1 ≤ n → ∀ (h : Fin 4) (d e : Fin 256), s (ix3 h d e) = (args m c).state h ((n - 1) / 32) ((n - 1) % 32 * 256 + 256) d e

/-- The buffers the projection of a point reads. -/
def feed (t : Fin cfg0.N) : Feed Ideal :=
  Feed.mk (ms0_0 t) (hs0_0 t) (iblk m c 0 t) (ms0_1 t) (hs0_1 t) (iblk m c 1 t) (ms0_2 t) (hs0_2 t) (iblk m c 2 t) scM0_0

set_option maxHeartbeats 1000000 in
theorem feed_holds (t : Fin cfg0.N) (ht : t.val < 128) : (feed m c t).Holds (args m c) t.val :=
  ⟨held0 m c t ht, held1 m c t, held2 m c t⟩

/-- The buffers the retention of a point reads, over what the point before left. -/
def src (t : Fin cfg0.N) (z : Vec Ideal S256x4096 .f32) (s : Vec Ideal S4x256x256 .f32) : Src Ideal :=
  Src.mk (ms0_3 t) (hs0_3 t) (iblk m c 3 t) (ms0_4 t) (hs0_4 t) (iblk m c 4 t) (ms0_5 t) (hs0_5 t) (iblk m c 5 t)
    (ms0_6 t) (hs0_6 t) (iblk m c 6 t) (ms0_7 t) (hs0_7 t) (iblk m c 7 t) (ms0_8 t) (hs0_8 t) (iblk m c 8 t)
    scM0_1 (Memref.isWhole_whole _) z scM0_2 (Memref.isWhole_whole _) s

set_option maxHeartbeats 1000000 in
theorem src_holds (n : ℕ) (hn : n + 1 < cfg0.N) {out : Vec Ideal S256x1024 .bf16} {z : Vec Ideal S256x4096 .f32}
    {s : Vec Ideal S4x256x256 .f32} (H : After m c n out z s) :
    (src m c ⟨n + 1, hn⟩ z s).Holds (args m c) (grid0.coords ⟨n + 1, hn⟩) n :=
  have hN : n + 1 < 129 := lt_of_lt_of_eq hn (show cfg0.N = 129 from N_0)
  Src.Holds.mk (held3 m c ⟨n + 1, hn⟩) (held4 m c ⟨n + 1, hn⟩) (held5 m c ⟨n + 1, hn⟩) (held6 m c ⟨n + 1, hn⟩)
    (held7 m c ⟨n + 1, hn⟩) (held8 m c ⟨n + 1, hn⟩) (starts_iff ⟨n + 1, hn⟩) (H.z (by omega))
    (fun h0 h d e => by
      rw [show n / 32 = (n - 1) / 32 by omega, show n % 32 * 256 = (n - 1) % 32 * 256 + 256 by omega]
      exact H.s (by omega) h d e)

/-- After every point. -/
theorem after_point (hI : (args m c).Finite) (n : ℕ) (hn : n < cfg0.N) :
    After m c n (outsAt0 m c n hn).1 (outsAt0 m c n hn).2.1 (outsAt0 m c n hn).2.2 := by
  have hN : n < 129 := lt_of_lt_of_eq hn (show cfg0.N = 129 from N_0)
  induction n with
  | zero =>
    have e := outsAt0_A m c ⟨0, hn⟩ rfl
    dsimp only at e
    rw [e]
    dsimp only
    refine ⟨fun h r k => ?_, fun h => absurd h (by omega), fun h => absurd h (by omega)⟩
    rw [z_A]
    exact Feed.z_eq (feed_holds m c ⟨0, hn⟩ h) _ r k
  | succ n ih =>
    have H := src_holds m c n hn (ih (by omega) (by omega))
    have e := outsAt0_B m c ⟨n + 1, hn⟩ (by show ¬(n + 1) % 129 = 0; omega)
    dsimp only at e
    rw [e]
    dsimp only
    refine ⟨fun h r k => ?_, fun _ r h l => ?_, fun _ h d e => ?_⟩
    · rw [z_B]
      exact Feed.z_eq (feed_holds m c ⟨n + 1, hn⟩ h) _ r k
    · rw [out_B]
      exact Src.out_eq H hI r h l
    · rw [state_B]
      exact Src.state_eq H hI h d e

/-- The mixer's output as an array of rows. -/
def rowsOf (I : Given) : (⟨2, ![32768, 1024]⟩ : Shape).Idx → EReal := fun i =>
  I.out ⟨(i 1).val / 256, by have := (i 1).isLt; simp at this; omega⟩ ((i 0).val / 8192) ((i 0).val % 8192) ⟨(i 1).val % 256, by omega⟩

theorem rowsOf_apply (I : Given) (n : Fin 32768) (h : Fin 4) (l : Fin 256) :
    rowsOf I (ix2 n (ch h l)) = I.out h (n.val / 8192) (n.val % 8192) l := by
  have e1 : (⟨(h.val * 256 + l.val) / 256, by omega⟩ : Fin 4) = h := Fin.ext (by show (h.val * 256 + l.val) / 256 = h.val; omega)
  have e2 : (⟨(h.val * 256 + l.val) % 256, by omega⟩ : Fin 256) = l := Fin.ext (by show (h.val * 256 + l.val) % 256 = l.val; omega)
  show I.out ⟨(h.val * 256 + l.val) / 256, _⟩ (n.val / 8192) (n.val % 8192) ⟨(h.val * 256 + l.val) % 256, _⟩ = _
  rw [e1, e2]

/-- The point before the first tile's output writes nothing back. -/
theorem flush9 : ∀ t : Fin cfg0.N, (cfg0.win 9).flush t = true → 1 ≤ t.val := (by decide +kernel : ∀ t : Fin grid0.N, _)

/-- The result array. -/
theorem array_eq (hI : (args m c).Finite) : (dats m 0 c).arrAt 9 cfg0.N = rowsOf (args m c) := by
  refine (dats m 0 c).arrAt_eq_of_covers 9 _ (by decide +kernel) fun t hf y => ?_
  have hN : t.val < 129 := lt_of_lt_of_eq t.isLt (show cfg0.N = 129 from N_0)
  have h1 := flush9 t hf
  blk_simp
  rw [after0_9]
  idx_vars y
  obtain ⟨h, l, rfl⟩ := ch_surj y1
  refine ((after_point m c hI t.val t.isLt).out h1 y0 h l).trans ?_
  have e := rowsOf_apply (args m c) ⟨(t.val - 1) * 256 + y0.val, by omega⟩ h l
  rw [show ((t.val - 1) * 256 + y0.val) / 8192 = (t.val - 1) / 32 by omega,
    show ((t.val - 1) * 256 + y0.val) % 8192 = (t.val - 1) % 32 * 256 + y0.val by omega] at e
  refine e.symm.trans (congrArg (rowsOf (args m c)) ?_)
  blk_ext [index9]

end Cert.Kernel6Ideal.Ret

end
-- ==== Proof.RetRefRows.lean ====
/-
  What the plain retention program's first stretch leaves for its loop, at coordinates: the queries, keys
  and values chunk by chunk, the decays, and the gate.
-/
module

public import proofs.«01_k».proof.Proof.RetTables
public import proofs.«01_k».proof.Proof.Gen.Reference6Ideal.Run

@[expose] public section

set_option maxRecDepth 16384

noncomputable section

namespace Cert.Reference6Ideal.Ret

open Idealize.ShloMosaic Idealize.ShloMosaic.TcCoe Cert.Reference6Ideal Cert.Reference6Ideal.Gen Retention StableHlo

variable (V : Valuation τ sig (Elt Ideal))

/-- The arguments, as the mixer is given them. -/
def args : Given := given (V (Proc.devRef .tc main_arg0)) (V (Proc.devRef .tc main_arg1)) (V (Proc.devRef .tc main_arg2))

abbrev V1 : Valuation τ sig (Elt Ideal) := after hostOps0 V

theorem args_x (b : Fin 4) (t : Fin 8192) (k : Fin 2048) (h : b.val * 8192 + t.val < 32768) :
    (args V).x (b.val * 8192 + t.val) k = V (Proc.devRef .tc main_arg0) (ix2 ⟨b.val * 8192 + t.val, h⟩ k) :=
  congrArg (fun r => V (Proc.devRef .tc main_arg0) (ix2 r k)) (Fin.ext (Nat.mod_eq_of_lt h))

/-- The sum a projection is. -/
def projSum (f g w : Fin 2048 → EReal) : EReal := ∑ x : Fin 2048, f x * rms f * g x * w x

/-- The projection of a row, spelled out. -/
theorem z_row (b : Fin 4) (t : Fin 8192) (k : Fin 4096) (h : b.val * 8192 + t.val < 32768) :
    (args V).z (b.val * 8192 + t.val) k = projSum (fun q => V (Proc.devRef .tc main_arg0) (ix2 ⟨b.val * 8192 + t.val, h⟩ q))
      (fun q => V (Proc.devRef .tc main_arg1) (ix1 q)) (fun q => V (Proc.devRef .tc main_arg2) (ix3 1 q ⟨k.val, by omega⟩)) := by
  have e : (args V).x (b.val * 8192 + t.val) = fun q : Fin 2048 => V (Proc.devRef .tc main_arg0) (ix2 ⟨b.val * 8192 + t.val, h⟩ q) :=
    funext fun q => args_x V b t q h
  rw [← e]
  rfl

theorem V1_v17 (b : Fin 4) (t : Fin 8192) (k : Fin 4096) : V1 V (Proc.devRef .tc main_v17) (ix3 b t k) = (args V).z (b.val * 8192 + t.val) k := by
  rw [z_row V b t k (by omega)]
  unfold V1
  after_results
  pointwise [projSum, rms]

theorem V1_v39 (p : Fin 8192) (j : Fin 128) : V1 V (Proc.devRef .tc main_v39) (ix2 p j) = Ideal.cos (ang p.val j.val) := by
  unfold V1
  after_results
  pointwise
  rw [num_word _ (by omega), num_word _ (by omega)]
  rfl

theorem V1_v41 (p : Fin 8192) (j : Fin 128) : V1 V (Proc.devRef .tc main_v41) (ix2 p j) = Ideal.sin (ang p.val j.val) := by
  unfold V1
  after_results
  pointwise
  rw [num_word _ (by omega), num_word _ (by omega)]
  rfl

theorem entry_within (h : Fin 4) (r q : Fin 64) :
    V1 V (Proc.devRef .tc main_v125_3) (ix3 h r q) = ((Real.exp (lg h.val * |(r.val : ℝ) - q.val|) : ℝ) : EReal) := by
  unfold V1
  after_results
  simp only [id_eq]
  pointwise
  rw [num_word _ (by omega), num_word _ (by omega), num_word _ (by omega)]
  exact decay_within h.val r.val q.val

theorem entry_before (h : Fin 4) (r : Fin 64) :
    V1 V (Proc.devRef .tc main_v125_4) (ix3 h r 0) = ((Real.exp (lg h.val * ((r.val : ℝ) + 1)) : ℝ) : EReal) := by
  unfold V1
  after_results
  simp only [id_eq]
  pointwise
  rw [num_word _ (by omega), num_word _ (by omega)]
  exact decay_mul h.val _ _ (num_add_one r.val)

theorem entry_whole (h : Fin 4) :
    V1 V (Proc.devRef .tc main_v125_5) (ix3 h 0 0) = ((Real.exp (lg h.val * ((64 : ℕ) : ℝ)) : ℝ) : EReal) := by
  unfold V1
  after_results
  simp only [id_eq]
  pointwise
  rw [num_word _ (by omega)]
  exact decay_mul h.val _ _ (by rw [ofBits_64]; norm_num)

theorem entry_after (h : Fin 4) (r : Fin 64) :
    V1 V (Proc.devRef .tc main_v125_6) (ix3 h r 0) = ((Real.exp (lg h.val * (((64 : ℕ) : ℝ) - 1 - r.val)) : ℝ) : EReal) := by
  unfold V1
  after_results
  simp only [id_eq]
  pointwise
  rw [num_word _ (by omega), num_word _ (by omega), ofBits_63]
  exact decay_mul h.val _ _ (by
    unfold num
    rw [← EReal.coe_sub]
    norm_num)

theorem entry_state (s h : Fin 4) (d e : Fin 256) : V1 V (Proc.devRef .tc main_v125_8) (ix4 s h d e) = (0 : EReal) := by
  unfold V1
  after_results
  simp only [id_eq]
  pointwise

theorem turn_lo (I : Given) (p h : Fin 4) (b : Fin 4) (t : Fin 8192) (d : Fin 256) (hd : d.val < 128) (j k : Fin 4096)
    (hj : j.val = p.val * 1024 + h.val * 256 + d.val) (hk : k.val = p.val * 1024 + h.val * 256 + (d.val + 128)) :
    I.z (b.val * 8192 + t.val) j * Ideal.cos (ang t.val d.val) - I.z (b.val * 8192 + t.val) k * Ideal.sin (ang t.val d.val)
      = rot ((b.val * 8192 + t.val) % 8192) (I.part p h (b.val * 8192 + t.val)) d := by
  have ej : j = col p h d := Fin.ext hj
  have ek : k = col p h ⟨d.val + 128, by omega⟩ := Fin.ext hk
  have et : (b.val * 8192 + t.val) % 8192 = t.val := by omega
  unfold rot
  rw [dif_pos hd, et, ej, ek]
  rfl

theorem turn_hi (I : Given) (p h : Fin 4) (b : Fin 4) (t : Fin 8192) (d : Fin 256) (hd : ¬d.val < 128) (j k : Fin 4096)
    (hj : j.val = p.val * 1024 + h.val * 256 + d.val) (hk : k.val = p.val * 1024 + h.val * 256 + (d.val - 128)) :
    I.z (b.val * 8192 + t.val) j * Ideal.cos (ang t.val (d.val - 128)) + I.z (b.val * 8192 + t.val) k * Ideal.sin (ang t.val (d.val - 128))
      = rot ((b.val * 8192 + t.val) % 8192) (I.part p h (b.val * 8192 + t.val)) d := by
  have ej : j = col p h d := Fin.ext hj
  have ek : k = col p h ⟨d.val - 128, by omega⟩ := Fin.ext hk
  have et : (b.val * 8192 + t.val) % 8192 = t.val := by omega
  unfold rot
  rw [dif_neg hd, et, ej, ek]
  rfl

section Parts

variable (Z : S4x8192x4096.Idx → EReal) (C D : S8192x128.Idx → EReal) (hZ : Z = V1 V (Proc.devRef .tc main_v17))
  (hC : C = V1 V (Proc.devRef .tc main_v39)) (hD : D = V1 V (Proc.devRef .tc main_v41))
include hZ

theorem read_v (n : Fin 128) (s h : Fin 4) (r : Fin 64) (d : Fin 256) :
    V1 V (Proc.devRef .tc main_v125_2) (ix5 n s h r d) = (args V).part 2 h (s.val * 8192 + (n.val * 64 + r.val)) d := by
  have hz : ∀ b t k, Z (ix3 b t k) = (args V).z (b.val * 8192 + t.val) k := fun b t k => hZ ▸ V1_v17 V b t k
  revert hZ
  unfold V1
  after_results
  intro hZ
  rw [← hZ, id_eq]
  pointwise
  rw [hz]
  exact congrArg _ (Fin.ext (by simp only [col]; omega))

theorem read_gate (b : Fin 4) (t : Fin 8192) (h : Fin 4) (l : Fin 256) :
    V1 V (Proc.devRef .tc main_v21) (ix3 b t (ch h l)) = (args V).part 3 h (b.val * 8192 + t.val) l := by
  have hz : ∀ b t k, Z (ix3 b t k) = (args V).z (b.val * 8192 + t.val) k := fun b t k => hZ ▸ V1_v17 V b t k
  revert hZ
  unfold V1
  after_results
  intro hZ
  rw [← hZ]
  pointwise
  rw [hz]
  exact congrArg _ (Fin.ext (by simp only [col, ch]; omega))

include hC hD

set_option maxHeartbeats 4000000 in
theorem read_q (n : Fin 128) (s h : Fin 4) (r : Fin 64) (d : Fin 256) :
    V1 V (Proc.devRef .tc main_v125_0) (ix5 n s h r d) = (args V).q h (s.val * 8192 + (n.val * 64 + r.val)) d := by
  have hz : ∀ b t k, Z (ix3 b t k) = (args V).z (b.val * 8192 + t.val) k := fun b t k => hZ ▸ V1_v17 V b t k
  have hc : ∀ p j, C (ix2 p j) = Ideal.cos (ang p.val j.val) := fun p j => hC ▸ V1_v39 V p j
  have hd : ∀ p j, D (ix2 p j) = Ideal.sin (ang p.val j.val) := fun p j => hD ▸ V1_v41 V p j
  revert hZ hC hD
  unfold V1
  after_results
  intro hZ hC hD
  rw [← hZ, ← hC, ← hD, id_eq]
  pointwise
  simp only [hz, hc, hd]
  unfold Given.q
  split
  · exact turn_lo (args V) 0 h s ⟨n.val * 64 + r.val, by omega⟩ d ‹_› _ _ (by simp) (by simp; omega)
  · exact turn_hi (args V) 0 h s ⟨n.val * 64 + r.val, by omega⟩ d ‹_› _ _ (by simp; omega) (by simp)

set_option maxHeartbeats 4000000 in
theorem read_k (n : Fin 128) (s h : Fin 4) (r : Fin 64) (d : Fin 256) :
    V1 V (Proc.devRef .tc main_v125_1) (ix5 n s h r d) = (args V).k h (s.val * 8192 + (n.val * 64 + r.val)) d := by
  have hz : ∀ b t k, Z (ix3 b t k) = (args V).z (b.val * 8192 + t.val) k := fun b t k => hZ ▸ V1_v17 V b t k
  have hc : ∀ p j, C (ix2 p j) = Ideal.cos (ang p.val j.val) := fun p j => hC ▸ V1_v39 V p j
  have hd : ∀ p j, D (ix2 p j) = Ideal.sin (ang p.val j.val) := fun p j => hD ▸ V1_v41 V p j
  revert hZ hC hD
  unfold V1
  after_results
  intro hZ hC hD
  rw [← hZ, ← hC, ← hD, id_eq]
  pointwise
  simp only [hz, hc, hd]
  unfold Given.k
  refine congrArg (· * _) ?_
  split
  · exact turn_lo (args V) 1 h s ⟨n.val * 64 + r.val, by omega⟩ d ‹_› _ _ (by simp; omega) (by simp; omega)
  · exact turn_hi (args V) 1 h s ⟨n.val * 64 + r.val, by omega⟩ d ‹_› _ _ (by simp; omega) (by simp; omega)

end Parts

end Cert.Reference6Ideal.Ret

end
-- ==== Proof.RetRefLoop.lean ====
/-
  The plain retention program's loop: after `k` trips the state it carries is the retention's before row
  `64 * k` of each sequence, and the chunks written are the first `k`.
-/
module

public import proofs.«01_k».proof.Proof.RetSpec
public import proofs.«01_k».proof.Proof.Gen.Reference6Ideal.Run
public import Idealize.ShloMosaic.Lib.DynamicIndex
public import Idealize.ShloMosaic.Lib.WordArith.Masks

@[expose] public section

set_option maxRecDepth 16384

noncomputable section

namespace Cert.Reference6Ideal.Ret

open Idealize.ShloMosaic Idealize.ShloMosaic.TcCoe Cert.Reference6Ideal Cert.Reference6Ideal.Gen Retention StableHlo
open Cert.Reference6Ideal.Value

/-- The block the loop reads at trip `t` is chunk `t` of every sequence and head. -/
theorem slice_read (x : S128x4x4x64x256.Idx → EReal) (start : Fin 5 → Int) (t : Fin 128) (h0 : start 0 = t.val) (h1 : start 1 = 0)
    (h2 : start 2 = 0) (h3 : start 3 = 0) (h4 : start 4 = 0) (s h : Fin 4) (r : Fin 64) (d : Fin 256) :
    shapeCast S4x4x64x256 (Host.dynamicSlice S1x4x4x64x256 x start sliceFits_S128x4x4x64x256_S1x4x4x64x256) shapeCasts_S1x4x4x64x256_S4x4x64x256 (ix4 s h r d)
      = x (ix5 t s h r d) := by
  rw [Host.dynamicSlice_eq_extractStridedSlice S1x4x4x64x256 x start ![t.val, 0, 0, 0, 0] sliceFits_S128x4x4x64x256_S1x4x4x64x256
    ⟨rfl, fun a => by match a with
      | 0 => show t.val + 1 ≤ 128; omega
      | 1 => show 0 + 4 ≤ 4; omega
      | 2 => show 0 + 4 ≤ 4; omega
      | 3 => show 0 + 64 ≤ 64; omega
      | 4 => show 0 + 256 ≤ 256; omega⟩
    fun a => by match a with
      | 0 => exact h0
      | 1 => exact h1
      | 2 => exact h2
      | 3 => exact h3
      | 4 => exact h4]
  pointwise

/-- The block it writes at trip `t` is chunk `t` of every sequence and head, and the other chunks are kept. -/
theorem update_read (x : S128x4x4x64x256.Idx → EReal) (y : S4x4x64x256.Idx → EReal) (start : Fin 5 → Int) (t : Fin 128) (h0 : start 0 = t.val)
    (h1 : start 1 = 0) (h2 : start 2 = 0) (h3 : start 3 = 0) (h4 : start 4 = 0) (n : Fin 128) (s h : Fin 4) (r : Fin 64) (d : Fin 256) :
    Host.dynamicUpdateSlice x (broadcastInDim S1x4x4x64x256 ![1, 2, 3, 4] bcast_S4x4x64x256_S1x4x4x64x256_1_2_3_4 y) start updateFits_S128x4x4x64x256_S1x4x4x64x256 (ix5 n s h r d)
      = if n = t then y (ix4 s h r d) else x (ix5 n s h r d) := by
  have hs : S128x4x4x64x256.Slices ![t.val, 0, 0, 0, 0] S1x4x4x64x256 := ⟨rfl, fun a => by match a with
      | 0 => show t.val + 1 ≤ 128; omega
      | 1 => show 0 + 4 ≤ 4; omega
      | 2 => show 0 + 4 ≤ 4; omega
      | 3 => show 0 + 64 ≤ 64; omega
      | 4 => show 0 + 256 ≤ 256; omega⟩
  rw [Host.dynamicUpdateSlice_eq_updateSlice x _ start updateFits_S128x4x4x64x256_S1x4x4x64x256 ![t.val, 0, 0, 0, 0] (fun a => by match a with
      | 0 => show (min (max (start 0) 0) ((128 - 1 : ℕ) : Int)).toNat = t.val; omega
      | 1 => show (min (max (start 1) 0) ((4 - 4 : ℕ) : Int)).toNat = 0; omega
      | 2 => show (min (max (start 2) 0) ((4 - 4 : ℕ) : Int)).toNat = 0; omega
      | 3 => show (min (max (start 3) 0) ((64 - 64 : ℕ) : Int)).toNat = 0; omega
      | 4 => show (min (max (start 4) 0) ((256 - 256 : ℕ) : Int)).toNat = 0; omega) hs]
  rw [updateSlice_apply]
  split
  · rename_i h'
    have e0 := h' 0
    have e : n = t := Fin.ext (by
      have a : t.val ≤ n.val := e0.1
      have b : n.val < t.val + 1 := e0.2
      omega)
    rw [if_pos e]
    pointwise
  · rename_i h'
    refine (if_neg fun e => h' fun a => ?_).symm
    rw [e]
    match a with
    | 0 => exact ⟨Nat.le_refl _, Nat.lt_succ_self _⟩
    | 1 => exact ⟨Nat.zero_le _, by show s.val < 0 + 4; omega⟩
    | 2 => exact ⟨Nat.zero_le _, by show h.val < 0 + 4; omega⟩
    | 3 => exact ⟨Nat.zero_le _, by show r.val < 0 + 64; omega⟩
    | 4 => exact ⟨Nat.zero_le _, by show d.val < 0 + 256; omega⟩

/-- The counter's word at trip `t` is `t`. -/
theorem ctr_val (t : ℕ) (ht : t < 128) : (Scf.iv 0#32 1#32 t).toInt = t := by
  have h := WordArith.toNat_iv_zero_one t (by omega)
  rw [BitVec.toInt_eq_toNat_of_lt (by rw [h]; omega), h]

/-- What the loop holds after `k` trips. -/
structure Held (I : Given) (k : ℕ) (S : Valuation τ sig (Elt Ideal)) : Prop where
  q : ∀ (n : Fin 128) s h (r : Fin 64) d, S (Proc.devRef .tc main_v125_0) (ix5 n s h r d) = I.q h (s.val * 8192 + (n.val * 64 + r.val)) d
  ky : ∀ (n : Fin 128) s h (r : Fin 64) d, S (Proc.devRef .tc main_v125_1) (ix5 n s h r d) = I.k h (s.val * 8192 + (n.val * 64 + r.val)) d
  v : ∀ (n : Fin 128) s h (r : Fin 64) d, S (Proc.devRef .tc main_v125_2) (ix5 n s h r d) = I.part 2 h (s.val * 8192 + (n.val * 64 + r.val)) d
  within : ∀ (h : Fin 4) (r m : Fin 64), S (Proc.devRef .tc main_v125_3) (ix3 h r m) = ((Real.exp (lg h.val * |(r.val : ℝ) - m.val|) : ℝ) : EReal)
  before : ∀ (h : Fin 4) (r : Fin 64), S (Proc.devRef .tc main_v125_4) (ix3 h r 0) = ((Real.exp (lg h.val * ((r.val : ℝ) + 1)) : ℝ) : EReal)
  whole : ∀ h : Fin 4, S (Proc.devRef .tc main_v125_5) (ix3 h 0 0) = ((Real.exp (lg h.val * ((64 : ℕ) : ℝ)) : ℝ) : EReal)
  after : ∀ (h : Fin 4) (r : Fin 64), S (Proc.devRef .tc main_v125_6) (ix3 h r 0) = ((Real.exp (lg h.val * (((64 : ℕ) : ℝ) - 1 - r.val)) : ℝ) : EReal)
  ctr : S (Proc.devRef .tc main_v125_7) = fun _ => Scf.iv 0#32 1#32 k

variable {I : Given}

/-- One trip keeps what it reads. -/
theorem held_step (k : ℕ) (S : Valuation τ sig (Elt Ideal)) (h : Held I k S) : Held I (k + 1) (STEP S) where
  q n s i r d := by rw [STEP_main_v125_0]; exact h.q n s i r d
  ky n s i r d := by rw [STEP_main_v125_1]; exact h.ky n s i r d
  v n s i r d := by rw [STEP_main_v125_2]; exact h.v n s i r d
  within i r m := by rw [STEP_main_v125_3]; exact h.within i r m
  before i r := by rw [STEP_main_v125_4]; exact h.before i r
  whole i := by rw [STEP_main_v125_5]; exact h.whole i
  after i r := by rw [STEP_main_v125_6]; exact h.after i r
  ctr := by
    rw [STEP_main_v125_7]
    unfold step_main_v125_7
    rw [h.ctr, Scf.iv_succ]
    rfl

section Trip

variable (hI : I.Finite) (k : ℕ) (hk : k < 128) (S : Valuation τ sig (Elt Ideal)) (H : Held I k S)
include hI hk H

theorem trip_ctr : (S (Proc.devRef .tc main_v125_7) (Shape.Idx.first h_S_)).toInt = k := by
  rw [H.ctr]; exact ctr_val k hk

theorem trip_q (s h : Fin 4) (r : Fin 64) (d : Fin 256) :
    res_main_while0b_v151 S (ix4 s h r d) = (I.qr h s.val (k * 64 + r.val) d : EReal) :=
  (slice_read _ _ ⟨k, hk⟩ (trip_ctr hI k hk S H) rfl rfl rfl rfl s h r d).trans ((H.q _ s h r d).trans (hI.q_eq h s.val _ d))
theorem trip_k (s h : Fin 4) (r : Fin 64) (d : Fin 256) :
    res_main_while0b_v152 S (ix4 s h r d) = (I.kr h s.val (k * 64 + r.val) d : EReal) :=
  (slice_read _ _ ⟨k, hk⟩ (trip_ctr hI k hk S H) rfl rfl rfl rfl s h r d).trans ((H.ky _ s h r d).trans (hI.k_eq h s.val _ d))
theorem trip_v (s h : Fin 4) (r : Fin 64) (d : Fin 256) :
    res_main_while0b_v153 S (ix4 s h r d) = (I.vr h s.val (k * 64 + r.val) d : EReal) :=
  (slice_read _ _ ⟨k, hk⟩ (trip_ctr hI k hk S H) rfl rfl rfl rfl s h r d).trans ((H.v _ s h r d).trans (hI.v_eq h s.val _ d))

variable (hs : ∀ s h d e, S (Proc.devRef .tc main_v125_8) (ix4 s h d e) = I.state h s.val (k * 64) d e)
include hs

theorem step_state (s h : Fin 4) (d e : Fin 256) :
    STEP S (Proc.devRef .tc main_v125_8) (ix4 s h d e) = I.state h s.val ((k + 1) * 64) d e := by
  rw [STEP_main_v125_8, Nat.succ_mul, ← I.state_tile h s.val (k * 64) 64 d e]
  have e1 := hs s h d e
  have e2 := fun r => trip_k hI k hk S H s h r d
  have e3 := fun r => trip_v hI k hk S H s h r e
  have e4 := H.whole h
  have e5 := H.after h
  unfold step_main_v125_8
  rw [id_eq]
  generalize res_main_while0b_v152 S = K at e2 ⊢
  generalize res_main_while0b_v153 S = W at e3 ⊢
  generalize S (Proc.devRef .tc main_v125_8) = A at e1 ⊢
  generalize S (Proc.devRef .tc main_v125_5) = B at e4 ⊢
  generalize S (Proc.devRef .tc main_v125_6) = C at e5 ⊢
  pointwise
  simp only [e1, e2, e3, e4, e5]

theorem step_out (n : Fin 128) (s h : Fin 4) (r : Fin 64) (e : Fin 256) :
    STEP S (Proc.devRef .tc main_v125_9) (ix5 n s h r e) =
      if n = ⟨k, hk⟩ then I.o h s.val (k * 64 + r.val) e else S (Proc.devRef .tc main_v125_9) (ix5 n s h r e) := by
  rw [STEP_main_v125_9]
  unfold step_main_v125_9
  refine (update_read _ _ _ ⟨k, hk⟩ (trip_ctr hI k hk S H) rfl rfl rfl rfl n s h r e).trans ?_
  refine congrArg (fun z => if n = ⟨k, hk⟩ then z else S (Proc.devRef .tc main_v125_9) (ix5 n s h r e)) ?_
  rw [← I.o_chunk h s.val (k * 64) r.val (by omega) r.isLt e]
  have e0 := fun r d => trip_q hI k hk S H s h r d
  have e1 := hs s h
  have e2 := fun r d => trip_k hI k hk S H s h r d
  have e3 := fun r => trip_v hI k hk S H s h r e
  have e4 := H.within h
  have e5 := H.before h
  generalize res_main_while0b_v151 S = Q at e0 ⊢
  generalize res_main_while0b_v152 S = K at e2 ⊢
  generalize res_main_while0b_v153 S = W at e3 ⊢
  generalize S (Proc.devRef .tc main_v125_8) = A at e1 ⊢
  generalize S (Proc.devRef .tc main_v125_3) = B at e4 ⊢
  generalize S (Proc.devRef .tc main_v125_4) = C at e5 ⊢
  pointwise
  simp only [e0, e1, e2, e3, e4, e5]

end Trip

theorem loop (hI : I.Finite) (S : Valuation τ sig (Elt Ideal)) (H : Held I 0 S)
    (h0 : ∀ s h d e, S (Proc.devRef .tc main_v125_8) (ix4 s h d e) = (0 : EReal)) (k : ℕ) (hk : k ≤ 128) :
    Held I k (STEP^[k] S) ∧ (∀ s h d e, (STEP^[k] S) (Proc.devRef .tc main_v125_8) (ix4 s h d e) = I.state h s.val (k * 64) d e) ∧
      ∀ (n : Fin 128) s h (r : Fin 64) e, n.val < k →
        (STEP^[k] S) (Proc.devRef .tc main_v125_9) (ix5 n s h r e) = I.o h s.val (n.val * 64 + r.val) e := by
  induction k with
  | zero =>
    refine ⟨H, fun s h d e => ?_, fun n s h r e hn => absurd hn (Nat.not_lt_zero _)⟩
    rw [Nat.zero_mul, I.state_zero]
    exact h0 s h d e
  | succ k ih =>
    obtain ⟨h1, h2, h3⟩ := ih (by omega)
    have hk' : k < 128 := by omega
    rw [Function.iterate_succ_apply']
    refine ⟨held_step k _ h1, fun s h d e => step_state hI k hk' _ h1 h2 s h d e, fun n s h r e hn => ?_⟩
    refine (step_out hI k hk' _ h1 h2 n s h r e).trans ?_
    by_cases en : n = ⟨k, hk'⟩
    · rw [if_pos en, en]
    · rw [if_neg en]
      refine h3 n s h r e ?_
      have : n.val ≠ k := fun e' => en (Fin.ext e')
      omega

end Cert.Reference6Ideal.Ret

end
-- ==== Proof.RetRefValue.lean ====
/-
  The plain retention program's result, row by row, is the mixer's.
-/
module

public import proofs.«01_k».proof.Proof.RetRefRows
public import proofs.«01_k».proof.Proof.RetRefLoop

@[expose] public section

set_option maxRecDepth 16384

noncomputable section

namespace Cert.Reference6Ideal.Ret

open Idealize.ShloMosaic Idealize.ShloMosaic.TcCoe Idealize.SL.Sem Cert.Reference6Ideal Cert.Reference6Ideal.Gen Retention StableHlo
open Cert.Reference6Ideal.Value

/-- The buffers the operations after the loop write, stretch by stretch. -/
abbrev norm_W : List (Ref sig .tc) := [main_v126, main_v127, main_cst_15, main_v128, main_v129, main_cst_16, main_v130, main_v131, main_v132,
  main_v133, main_v134, main_cst_17, main_v135, main_v136, main_cst_18, main_v137, main_v138, main_v139, main_v140, main_cst_19, main_v141,
  main_v142, main_v143, main_v144, main_v145]
abbrev silu_W : List (Ref sig .tc) := [main_call4_v0, main_call4_v1, main_call4_cst, main_call4_v2, main_call4_v3, main_call4_cst_0,
  main_call4_v4, main_call4_v5, main_v146]
abbrev last_W : List (Ref sig .tc) := [main_v147, main_v148, main_v149, main_v150]
theorem norm_writes : (hostOps0_1 : List (HloOp τ sig (Elt Ideal))).Forall fun op => op.writes ⊆ (norm_W.map (Proc.devRef (τ := τ) .tc)).toFinset :=
  StableHlo.forall_writes_sub_of_map rfl
theorem silu_writes : (hostOps0_2 : List (HloOp τ sig (Elt Ideal))).Forall fun op => op.writes ⊆ (silu_W.map (Proc.devRef (τ := τ) .tc)).toFinset :=
  StableHlo.forall_writes_sub_of_map rfl
theorem last_writes : (hostOps0_3 : List (HloOp τ sig (Elt Ideal))).Forall fun op => op.writes ⊆ (last_W.map (Proc.devRef (τ := τ) .tc)).toFinset :=
  StableHlo.forall_writes_sub_of_map rfl

section After

variable (X : Valuation τ sig (Elt Ideal))

theorem read_norm (s : Fin 4) (t : Fin 8192) (h : Fin 4) (e : Fin 256) :
    after hostOps0_1 X (Proc.devRef .tc main_v145) (ix4 s t h e)
      = normed (fun e => X (Proc.devRef .tc main_v125_9) (ix5 ⟨t.val / 64, by omega⟩ s h ⟨t.val % 64, by omega⟩ e)) e := by
  after_results
  pointwise [normed, mean]

theorem read_silu (b : Fin 4) (t : Fin 8192) (k : Fin 1024) :
    after hostOps0_2 X (Proc.devRef .tc main_v146) (ix3 b t k)
      = (fun g : EReal => g * Ideal.logistic g) (X (Proc.devRef .tc main_v21) (ix3 b t k)) := by
  after_results
  simp only [StableHlo.TRef.toBuf, StableHlo.TRef.ofBuf, cast_eq]
  pointwise
  rfl

theorem read_out (n : Fin 32768) (h : Fin 4) (l : Fin 256) :
    after hostOps0_3 X (Proc.devRef .tc main_v150) (ix2 n (ch h l))
      = (fun a b : EReal => a * b) (X (Proc.devRef .tc main_v146) (ix3 ⟨n.val / 8192, by omega⟩ ⟨n.val % 8192, by omega⟩ (ch h l)))
        (X (Proc.devRef .tc main_v145) (ix4 ⟨n.val / 8192, by omega⟩ ⟨n.val % 8192, by omega⟩ h l)) := by
  have eh : (⟨(h.val * 256 + l.val) / 256, by omega⟩ : Fin 4) = h := Fin.ext (by show (h.val * 256 + l.val) / 256 = h.val; omega)
  have el : (⟨(h.val * 256 + l.val) % 256, by omega⟩ : Fin 256) = l := Fin.ext (by show (h.val * 256 + l.val) % 256 = l.val; omega)
  after_results
  pointwise [ch]
  exact congrArg (fun z : EReal => _ * z) (congrArg₂ (fun i j => X (Proc.devRef .tc main_v145) (ix4 _ _ i j)) eh el)

/-- What the operations after the loop make of the loop's rows and the gate. -/
theorem post_row (n : Fin 32768) (h : Fin 4) (l : Fin 256) (g : EReal) (o : Fin 256 → EReal)
    (hg : X (Proc.devRef .tc main_v21) (ix3 ⟨n.val / 8192, by omega⟩ ⟨n.val % 8192, by omega⟩ (ch h l)) = g)
    (ho : ∀ e, X (Proc.devRef .tc main_v125_9) (ix5 ⟨n.val % 8192 / 64, by omega⟩ ⟨n.val / 8192, by omega⟩ h ⟨n.val % 8192 % 64, by omega⟩ e) = o e) :
    afterL postI X (Proc.devRef .tc main_v150) (ix2 n (ch h l)) = g * Ideal.logistic g * normed o l := by
  simp only [afterL_cons, afterL_nil]
  refine (read_out _ n h l).trans ?_
  have e1 : after hostOps0_2 (after hostOps0_1 X) (Proc.devRef .tc main_v145) = after hostOps0_1 X (Proc.devRef .tc main_v145) :=
    after_of_writes_sub hostOps0_2 _ silu_writes (by decide +kernel)
  have e2 : after hostOps0_1 X (Proc.devRef .tc main_v21) = X (Proc.devRef .tc main_v21) :=
    after_of_writes_sub hostOps0_1 _ norm_writes (by decide +kernel)
  have e3 : (fun e => X (Proc.devRef .tc main_v125_9) (ix5 ⟨n.val % 8192 / 64, by omega⟩ ⟨n.val / 8192, by omega⟩ h ⟨n.val % 8192 % 64, by omega⟩ e)) = o :=
    funext ho
  refine congrArg₂ (fun a b : EReal => a * b) ((read_silu _ _ _ _).trans ?_) ((congrFun e1 _).trans ((read_norm X _ _ h l).trans ?_))
  · exact congrArg (fun g : EReal => g * Ideal.logistic g) ((congrFun e2 _).trans hg)
  · exact congrArg (fun o => normed o l) e3

end After

section Kept

variable (m : (ℓ : Loc nD τ sig) → Buf (Elt Ideal) ℓ) (c : Dev nD)

/-- A buffer the loop does not write is as it was at the loop's entry. -/
theorem atK_kept (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) (k : ℕ) :
    after condOps (atK m k c) (Proc.devRef .tc r) = entryContents preI m c (Proc.devRef .tc r) := by
  refine (after_of_writes_sub condOps _ condOps_writes hc).trans ?_
  induction k with
  | zero => rfl
  | succ k ih =>
    rw [show atK m (k + 1) c = afterL bodyI (after condOps (atK m k c)) from rfl]
    simp only [afterL_cons, afterL_nil]
    exact (after_of_writes_sub while0Ops0_5 _ while0Ops0_5_writes h5).trans
      ((after_of_writes_sub while0Ops0_4 _ while0Ops0_4_writes h4).trans
      ((after_of_writes_sub while0Ops0_3 _ while0Ops0_3_writes h3).trans
      ((after_of_writes_sub while0Ops0_2 _ while0Ops0_2_writes h2).trans
      ((after_of_writes_sub while0Ops0_1 _ while0Ops0_1_writes h1).trans
      ((after_of_writes_sub while0Ops0 _ while0Ops0_writes h0).trans
      ((after_of_writes_sub condOps _ condOps_writes hc).trans ih))))))

/-- An argument ends as it was launched. -/
theorem final_kept (r : Ref sig .tc) (hc : r ∉ condOps_W) (h0 : r ∉ while0Ops0_W) (h1 : r ∉ while0Ops0_1_W) (h2 : r ∉ while0Ops0_2_W)
    (h3 : r ∉ while0Ops0_3_W) (h4 : r ∉ while0Ops0_4_W) (h5 : r ∉ while0Ops0_5_W) (hp : r ∉ hostOps0_W) (p1 : r ∉ norm_W)
    (p2 : r ∉ silu_W) (p3 : r ∉ last_W) :
    finalContents condOps preI bodyI postI 128 m c (Proc.devRef .tc r) = launchContents m c (Proc.devRef .tc r) := by
  unfold finalContents
  simp only [afterL_cons, afterL_nil]
  exact (after_of_writes_sub hostOps0_3 _ last_writes p3).trans
    ((after_of_writes_sub hostOps0_2 _ silu_writes p2).trans
    ((after_of_writes_sub hostOps0_1 _ norm_writes p1).trans
    ((atK_kept m c r hc h0 h1 h2 h3 h4 h5 128).trans (after_of_writes_sub hostOps0 _ hostOps0_writes hp))))

theorem entry_held (V : Valuation τ sig (Elt Ideal)) (hc : V1 V (Proc.devRef .tc main_v125_7) = fun _ => (0#32 : BitVec 32)) :
    Held (args V) 0 (V1 V) where
  q := read_q V _ _ _ rfl rfl rfl
  ky := read_k V _ _ _ rfl rfl rfl
  v := read_v V _ rfl
  within := entry_within V
  before := entry_before V
  whole := entry_whole V
  after := entry_after V
  ctr := by rw [hc, Scf.iv_zero]

/-- The result's row `n`. -/
theorem result_row (hI : (args (launchContents m c)).Finite) (n : Fin 32768) (h : Fin 4) (l : Fin 256) :
    finalContents condOps preI bodyI postI 128 m c (Proc.devRef .tc main_v150) (ix2 n (ch h l))
      = (args (launchContents m c)).out h (n.val / 8192) (n.val % 8192) l := by
  have H := (loop hI (V1 (launchContents m c)) (entry_held _ (ctr_entry m c)) (entry_state _) 128 (Nat.le_refl _)).2.2
  refine post_row _ n h l _ ((args (launchContents m c)).o h (n.val / 8192) (n.val % 8192)) ?_ fun e => ?_
  · refine (congrFun (atK_kept m c main_v21 (by decide +kernel) (by decide +kernel) (by decide +kernel) (by decide +kernel) (by decide +kernel)
      (by decide +kernel) (by decide +kernel) 128) _).trans ?_
    exact read_gate (launchContents m c) _ rfl _ _ h l
  · have ha : after condOps (atK m 128 c) (Proc.devRef .tc main_v125_9) = (STEP^[128] (V1 (launchContents m c))) (Proc.devRef .tc main_v125_9) :=
      (cond_keeps _ main_v125_9 (by decide)).trans (atK_agree m c 128 main_v125_9 (by decide))
    refine (congrFun ha _).trans ((H _ _ h _ e (by show n.val % 8192 / 64 < 128; omega)).trans ?_)
    exact congrArg (fun i => (args (launchContents m c)).o h (n.val / 8192) i e) (by show n.val % 8192 / 64 * 64 + n.val % 8192 % 64 = n.val % 8192; omega)

variable (ρ : Dev nD → PrngReg)

/-- Every run ends with the arguments as launched and the result at the last contents. -/
theorem run_final : θ_run (defs (F := Ideal)) (onTc (τ := τ) (main (F := Ideal))) ⟨m, fun _ => 0, ρ⟩ fun r => ∀ c : Dev nD,
      r.2.mem ((c.tc : Thread nD τ).loc main_v150) = finalContents condOps preI bodyI postI 128 m c (Proc.devRef .tc main_v150)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨h c main_v150 rfl,
    (h c main_arg0 rfl).trans (final_kept m c main_arg0 (by decide +kernel) (by decide +kernel) (by decide +kernel) (by decide +kernel)
      (by decide +kernel) (by decide +kernel) (by decide +kernel) (by decide +kernel) (by decide +kernel) (by decide +kernel) (by decide +kernel)),
    (h c main_arg1 rfl).trans (final_kept m c main_arg1 (by decide +kernel) (by decide +kernel) (by decide +kernel) (by decide +kernel)
      (by decide +kernel) (by decide +kernel) (by decide +kernel) (by decide +kernel) (by decide +kernel) (by decide +kernel) (by decide +kernel)),
    (h c main_arg2 rfl).trans (final_kept m c main_arg2 (by decide +kernel) (by decide +kernel) (by decide +kernel) (by decide +kernel)
      (by decide +kernel) (by decide +kernel) (by decide +kernel) (by decide +kernel) (by decide +kernel) (by decide +kernel) (by decide +kernel))⟩)
    (run_fold m ρ)

end Kept

end Cert.Reference6Ideal.Ret

end
-- ==== Proof.RetClaim.lean ====
/-
  The retention call's claims: the frames, and that with finite weights the kernel and the plain program end
  with the same rows.
-/
module

public import proofs.«01_k».proof.Defs
public import proofs.«01_k».proof.Proof.RetKernel
public import proofs.«01_k».proof.Proof.RetRefValue
public import proofs.«01_k».proof.Proof.Gen.Kernel6.Frame
public import proofs.«01_k».proof.Proof.Gen.Kernel6Ideal.Frame
public import Idealize.ShloMosaic.Adequacy

@[expose] public section

set_option maxRecDepth 16384

noncomputable section

namespace Cert.Retained

open Idealize.ShloMosaic Idealize.ShloMosaic.TcCoe Idealize.SL.Sem Retention

/-- The shapes the precondition's operations relate. -/
theorem shapes : Cert.Pre_finite_weights.Facts where
  slices_S2x2048x7456_S1x2048x3072_1_0_0 := by decide
  shapeCasts_S1x2048x3072_S2048x3072 := by decide
  bcast_S_S2048x3072 := by decide
  bcast_S_S2048 := by decide
  bcast_S2048_S2048x1_0 := by decide
  bcast_S2048x1_S2048x3072_0_1 := by decide

theorem frame_kernel : Cert.quiescent_Kernel6 := fun m ρ _ => Cert.Kernel6.Gen.frame m ρ
theorem frame_ideal : Cert.quiescent_Kernel6Ideal := fun m ρ _ => Cert.Kernel6Ideal.Gen.frame m ρ
theorem frame_ideal_pre : Cert.quiescent_Kernel6Ideal_pre_finite_weights (hPre_finite_weights := shapes) :=
  fun m ρ _ => Cert.Kernel6Ideal.Gen.frame m ρ
theorem frame_plain : Cert.quiescent_Reference6Ideal := fun m ρ _ =>
  (θ_run Cert.Reference6Ideal.defs _ _).mono (fun r h => ⟨fun c => (h c).2, sem_eq_zero_of_no_sems (by decide) r.2⟩)
    (Cert.Reference6Ideal.Ret.run_final m ρ)
theorem frame_plain_pre : Cert.quiescent_Reference6Ideal_pre_finite_weights (hPre_finite_weights := shapes) :=
  fun m ρ _ => frame_plain m ρ trivial

theorem top_bits : Ideal.ofBits .f32 0x7F800000#32 = (⊤ : EReal) := by
  simp [Ideal.ofBits, Ideal.ieee]

theorem real_of_lt (x : EReal) (h : FloatOps.cmpf (F := Ideal) (φ := .f32) .olt (max x (-x)) (Ideal.ofBits .f32 0x7F800000#32) = 1#1) : IsReal x := by
  rw [top_bits] at h
  refine IsReal.of_abs ?_
  by_contra hn
  have e : FloatOps.cmpf (F := Ideal) (φ := .f32) .olt (max x (-x)) (⊤ : EReal) = 0#1 := by
    simp [FloatOps.cmpf, Ideal.cmp, hn]
  rw [e] at h
  exact absurd h (by decide)

theorem and_left {a b : BitVec 1} : a &&& b = 1#1 → a = 1#1 := by revert a b; decide
theorem and_right {a b : BitVec 1} : a &&& b = 1#1 → b = 1#1 := by revert a b; decide

/-- The precondition says the weights are real. -/
theorem finite (a0 : (⟨2, ![32768, 2048]⟩ : Shape).Idx → EReal) (a1 : (⟨1, ![2048]⟩ : Shape).Idx → EReal)
    (a2 : (⟨3, ![2, 2048, 7456]⟩ : Shape).Idx → EReal)
    (h : @Cert.Pre_finite_weights.fn shapes Ideal _ a0 a1 a2 = fun _ => 1#1) : (given a0 a1 a2).Finite := by
  have b : ∀ (k : Fin 2048) (c : Fin 3072),
      FloatOps.cmpf (F := Ideal) (φ := .f32) .olt (max (a2 (ix3 1 k ⟨c.val, by omega⟩)) (-a2 (ix3 1 k ⟨c.val, by omega⟩))) (Ideal.ofBits .f32 0x7F800000#32)
        &&& FloatOps.cmpf (F := Ideal) (φ := .f32) .olt (max (a1 (ix1 k)) (-a1 (ix1 k))) (Ideal.ofBits .f32 0x7F800000#32) = 1#1 := fun k c => by
    have e := congrFun h (ix2 k c)
    revert e
    pointwise [Cert.Pre_finite_weights.fn]
    exact id
  exact ⟨fun k => real_of_lt _ (and_right (b k 0)), fun k c hc => real_of_lt _ (and_left (b k ⟨c.val, hc⟩))⟩

/-- The plain program's array of rows. -/
theorem plain_array (m : (ℓ : Loc Cert.Reference6Ideal.nD Cert.Reference6Ideal.τ Cert.Reference6Ideal.sig) → Buf (Elt Ideal) ℓ)
    (c : Dev Cert.Reference6Ideal.nD) (hI : (Cert.Reference6Ideal.Ret.args (StableHlo.launchContents m c)).Finite) :
    StableHlo.finalContents Cert.Reference6Ideal.Value.condOps Cert.Reference6Ideal.Value.preI Cert.Reference6Ideal.Value.bodyI
        Cert.Reference6Ideal.Value.postI 128 m c (Proc.devRef .tc Cert.Reference6Ideal.main_v150)
      = Cert.Kernel6Ideal.Ret.rowsOf (Cert.Reference6Ideal.Ret.args (StableHlo.launchContents m c)) := by
  funext i
  obtain ⟨n, k, rfl⟩ : ∃ (n : Fin 32768) (k : Fin 1024), i = ix2 n k := ⟨i 0, i 1, (ix2_eta i).symm⟩
  obtain ⟨h, l, rfl⟩ := ch_surj k
  exact (Cert.Reference6Ideal.Ret.result_row m c hI n h l).trans (Cert.Kernel6Ideal.Ret.rowsOf_apply _ n h l).symm

/-- Equal arrays give the mixer equal arguments. -/
theorem given_congr {a0 b0 : (⟨2, ![32768, 2048]⟩ : Shape).Idx → EReal} {a1 b1 : (⟨1, ![2048]⟩ : Shape).Idx → EReal}
    {a2 b2 : (⟨3, ![2, 2048, 7456]⟩ : Shape).Idx → EReal} (h0 : a0 = b0) (h1 : a1 = b1) (h2 : a2 = b2) : given a0 a1 a2 = given b0 b1 b2 := by
  subst h0 h1 h2
  rfl

theorem same_rows : Cert.algebraic_Kernel6Ideal_Reference6Ideal_pre_finite_weights (hPre_finite_weights := shapes) := by
  intro m ρ m' ρ' hpre hag
  have hI : ∀ c, (Cert.Kernel6Ideal.Ret.args m c).Finite := fun c => finite _ _ _ (hpre c)
  refine ⟨fun c => Cert.Kernel6Ideal.Ret.rowsOf (Cert.Kernel6Ideal.Ret.args m c), ?_, ?_⟩
  · exact (θ_run Cert.Kernel6Ideal.defs _ _).mono (fun _ h c => ⟨(h c).1.trans (Cert.Kernel6Ideal.Ret.array_eq m c (hI c)), (h c).2⟩)
      (Cert.Kernel6Ideal.Value.run_blocks m ρ)
  · have e : ∀ c, Cert.Reference6Ideal.Ret.args (StableHlo.launchContents m' c) = Cert.Kernel6Ideal.Ret.args m c := fun c => by
      obtain ⟨h0, h1, h2⟩ := hag c
      exact given_congr h0 h1 h2
    exact (θ_run Cert.Reference6Ideal.defs _ _).mono
      (fun _ h c => ⟨(h c).1.trans ((plain_array m' c ((e c).symm ▸ hI c)).trans (congrArg Cert.Kernel6Ideal.Ret.rowsOf (e c))), (h c).2⟩)
      (Cert.Reference6Ideal.Ret.run_final m' ρ')

end Cert.Retained

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.MixerClaim
public import proofs.«01_k».proof.Proof.LayerClaim
public import proofs.«01_k».proof.Proof.RetClaim
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Retained.shapes,
    Cert.Mixed.frame_kernel, Cert.Mixed.frame_ideal, Cert.Mixed.frame_plain,
    Cert.LastFfn.frame_kernel, Cert.LastFfn.frame_ideal, Cert.LastFfn.frame_plain,
    Cert.InnerFfn.frame_kernel, Cert.InnerFfn.frame_ideal, Cert.InnerFfn.frame_plain,
    Cert.OddProj.frame_kernel, Cert.OddProj.frame_ideal, Cert.OddProj.frame_plain,
    Cert.EvenProj.frame_kernel, Cert.EvenProj.frame_ideal, Cert.EvenProj.frame_plain,
    Cert.Retained.frame_kernel, Cert.Retained.frame_ideal, Cert.Retained.frame_ideal_pre,
    Cert.Retained.frame_plain, Cert.Retained.frame_plain_pre,
    trivial, Cert.Mixed.same_rows, trivial, Cert.LastFfn.same_rows, trivial, Cert.InnerFfn.same_rows,
    trivial, Cert.OddProj.same_rows, trivial, Cert.EvenProj.same_rows,
    trivial, Cert.Retained.same_rows⟩

end Cert.Proof

end
